-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x128x14336 : Shape := ⟨3, ![1, 128, 14336]⟩
abbrev S1x128x4096 : Shape := ⟨3, ![1, 128, 4096]⟩
abbrev S1x4x4096 : Shape := ⟨3, ![1, 4, 4096]⟩
abbrev S4096x14336 : Shape := ⟨2, ![4096, 14336]⟩
abbrev S4096x448 : Shape := ⟨2, ![4096, 448]⟩
abbrev S128x14336 : Shape := ⟨2, ![128, 14336]⟩
abbrev S128x448x32 : Shape := ⟨3, ![128, 448, 32]⟩
abbrev S_ : Shape := ⟨0, ![]⟩
abbrev S128x448 : Shape := ⟨2, ![128, 448]⟩
abbrev S4x32x14336 : Shape := ⟨3, ![4, 32, 14336]⟩
abbrev S4x14336 : Shape := ⟨2, ![4, 14336]⟩

class Facts : Prop where
  shapeCasts_S1x128x14336_S128x14336 : S1x128x14336.ShapeCasts S128x14336
  bitsLt_bf16_f32 : FTy.bits .bf16 < FTy.bits .f32
  shapeCasts_S128x14336_S128x448x32 : S128x14336.ShapeCasts S128x448x32
  reducesTo_S128x448x32_S128x448_d2 : S128x448x32.ReducesTo [2] S128x448
  h_S_ : 0 < S_.numel
  shapeCasts_S128x14336_S4x32x14336 : S128x14336.ShapeCasts S4x32x14336
  reducesTo_S4x32x14336_S4x14336_d1 : S4x32x14336.ReducesTo [1] S4x14336
  natLt_8_32 : 8 < 32
  bcast_S_S1x4x4096 : S_.BroadcastsInDim S1x4x4096 (![] : Fin 0 → Fin S1x4x4096.rank)
  reducesTo_S1x4x4096_S_d0_1_2 : S1x4x4096.ReducesTo [0, 1, 2] S_
  bcast_S_S4096x448 : S_.BroadcastsInDim S4096x448 (![] : Fin 0 → Fin S4096x448.rank)
  reducesTo_S4096x448_S_d0_1 : S4096x448.ReducesTo [0, 1] S_
  bcast_S_S128x14336 : S_.BroadcastsInDim S128x14336 (![] : Fin 0 → Fin S128x14336.rank)
  reducesTo_S128x14336_S_d0_1 : S128x14336.ReducesTo [0, 1] S_
  bcast_S_S128x448 : S_.BroadcastsInDim S128x448 (![] : Fin 0 → Fin S128x448.rank)
  reducesTo_S128x448_S_d0_1 : S128x448.ReducesTo [0, 1] S_
  bcast_S_S4x14336 : S_.BroadcastsInDim S4x14336 (![] : Fin 0 → Fin S4x14336.rank)
  reducesTo_S4x14336_S_d0_1 : S4x14336.ReducesTo [0, 1] S_

variable [Facts]

def fn_part2 {F : FTy → Type} [FloatOps F] (main_v6 : FVec F S4x14336 .f32) (main_v32 : IVec S_ 1) (main_v33 : FVec F S4x14336 .f32) : IVec S_ 1 :=
  let main_v34 : IVec S4x14336 1 := cmpf .oeq main_v6 main_v33
  let main_cst_12 : FVec F S_ .f32 := constant S_ .f32 0x01C00000#32
  let main_v35 : FVec F S4x14336 .f32 := broadcastInDim S4x14336 ![] bcast_S_S4x14336 main_cst_12
  let main_v36 : IVec S4x14336 1 := cmpf .oge main_v6 main_v35
  let main_v37 : IVec S4x14336 1 := ori main_v34 main_v36
  let main_c_13 : IVec S_ 1 := constantI S_ 1 1#1
  let main_v38 : IVec S_ 1 := (fun x v => Host.reduce IntOp.andi x v reducesTo_S4x14336_S_d0_1 h_S_) main_v37 main_c_13
  let main_v39 : IVec S_ 1 := andi main_v32 main_v38
  main_v39

def fn_part1 {F : FTy → Type} [FloatOps F] (main_v2 : FVec F S128x14336 .f32) (main_v4 : FVec F S128x448 .f32) (main_v6 : FVec F S4x14336 .f32) (main_v8 : IVec S4096x448 32) (main_v14 : IVec S_ 1) (main_v16 : IVec S4096x448 1) (main_c_4 : IVec S_ 32) : IVec S_ 1 :=
  let main_v17 : IVec S4096x448 32 := broadcastInDim S4096x448 ![] bcast_S_S4096x448 main_c_4
  let main_v18 : IVec S4096x448 1 := cmpi .sle main_v8 main_v17
  let main_v19 : IVec S4096x448 1 := andi main_v16 main_v18
  let main_c_5 : IVec S_ 1 := constantI S_ 1 1#1
  let main_v20 : IVec S_ 1 := (fun x v => Host.reduce IntOp.andi x v reducesTo_S4096x448_S_d0_1 h_S_) main_v19 main_c_5
  let main_v21 : IVec S_ 1 := andi main_v14 main_v20
  let main_cst_6 : FVec F S_ .f32 := constant S_ .f32 0x7F7F0000#32
  let main_v22 : FVec F S128x14336 .f32 := broadcastInDim S128x14336 ![] bcast_S_S128x14336 main_cst_6
  let main_v23 : IVec S128x14336 1 := cmpf .ole main_v2 main_v22
  let main_c_7 : IVec S_ 1 := constantI S_ 1 1#1
  let main_v24 : IVec S_ 1 := (fun x v => Host.reduce IntOp.andi x v reducesTo_S128x14336_S_d0_1 h_S_) main_v23 main_c_7
  let main_v25 : IVec S_ 1 := andi main_v21 main_v24
  let main_cst_8 : FVec F S_ .f32 := constant S_ .f32 0x00000000#32
  let main_v26 : FVec F S128x448 .f32 := broadcastInDim S128x448 ![] bcast_S_S128x448 main_cst_8
  let main_v27 : IVec S128x448 1 := cmpf .oeq main_v4 main_v26
  let main_cst_9 : FVec F S_ .f32 := constant S_ .f32 0x01C00000#32
  let main_v28 : FVec F S128x448 .f32 := broadcastInDim S128x448 ![] bcast_S_S128x448 main_cst_9
  let main_v29 : IVec S128x448 1 := cmpf .oge main_v4 main_v28
  let main_v30 : IVec S128x448 1 := ori main_v27 main_v29
  let main_c_10 : IVec S_ 1 := constantI S_ 1 1#1
  let main_v31 : IVec S_ 1 := (fun x v => Host.reduce IntOp.andi x v reducesTo_S128x448_S_d0_1 h_S_) main_v30 main_c_10
  let main_v32 : IVec S_ 1 := andi main_v25 main_v31
  let main_cst_11 : FVec F S_ .f32 := constant S_ .f32 0x00000000#32
  let main_v33 : FVec F S4x14336 .f32 := broadcastInDim S4x14336 ![] bcast_S_S4x14336 main_cst_11
  fn_part2 (F := F) main_v6 main_v32 main_v33

def fn {F : FTy → Type} [FloatOps F] (main_arg0 : FVec F S1x128x14336 .bf16) (main_arg1 : FVec F S1x128x4096 .fp8e4m3) (main_arg2 : IVec S1x4x4096 8) (main_arg3 : FVec F S4096x14336 .fp8e4m3) (main_arg4 : IVec S4096x448 8) : IVec S_ 1 :=
  let main_v0 : FVec F S128x14336 .bf16 := shapeCast S128x14336 main_arg0 shapeCasts_S1x128x14336_S128x14336
  let main_v1 : FVec F S128x14336 .f32 := (extf .f32 · bitsLt_bf16_f32) main_v0
  let main_v2 : FVec F S128x14336 .f32 := Host.absf main_v1
  let main_v3 : FVec F S128x448x32 .f32 := shapeCast S128x448x32 main_v2 shapeCasts_S128x14336_S128x448x32
  let main_cst : FVec F S_ .f32 := constant S_ .f32 0xFF800000#32
  let main_v4 : FVec F S128x448 .f32 := (fun x v => Host.reduce FloatOps.maximumf x v reducesTo_S128x448x32_S128x448_d2 h_S_) main_v3 main_cst
  let main_v5 : FVec F S4x32x14336 .f32 := shapeCast S4x32x14336 main_v2 shapeCasts_S128x14336_S4x32x14336
  let main_cst_0 : FVec F S_ .f32 := constant S_ .f32 0xFF800000#32
  let main_v6 : FVec F S4x14336 .f32 := (fun x v => Host.reduce FloatOps.maximumf x v reducesTo_S4x32x14336_S4x14336_d1 h_S_) main_v5 main_cst_0
  let main_v7 : IVec S1x4x4096 32 := (extui 32 · natLt_8_32) main_arg2
  let main_v8 : IVec S4096x448 32 := (extui 32 · natLt_8_32) main_arg4
  let main_c : IVec S_ 32 := constantI S_ 32 1#32
  let main_v9 : IVec S1x4x4096 32 := broadcastInDim S1x4x4096 ![] bcast_S_S1x4x4096 main_c
  let main_v10 : IVec S1x4x4096 1 := cmpi .sge main_v7 main_v9
  let main_c_1 : IVec S_ 32 := constantI S_ 32 254#32
  let main_v11 : IVec S1x4x4096 32 := broadcastInDim S1x4x4096 ![] bcast_S_S1x4x4096 main_c_1
  let main_v12 : IVec S1x4x4096 1 := cmpi .sle main_v7 main_v11
  let main_v13 : IVec S1x4x4096 1 := andi main_v10 main_v12
  let main_c_2 : IVec S_ 1 := constantI S_ 1 1#1
  let main_v14 : IVec S_ 1 := (fun x v => Host.reduce IntOp.andi x v reducesTo_S1x4x4096_S_d0_1_2 h_S_) main_v13 main_c_2
  let main_c_3 : IVec S_ 32 := constantI S_ 32 1#32
  let main_v15 : IVec S4096x448 32 := broadcastInDim S4096x448 ![] bcast_S_S4096x448 main_c_3
  let main_v16 : IVec S4096x448 1 := cmpi .sge main_v8 main_v15
  let main_c_4 : IVec S_ 32 := constantI S_ 32 254#32
  fn_part1 (F := F) main_v2 main_v4 main_v6 main_v8 main_v14 main_v16 main_c_4
-- ==== Kernel.lean ====
abbrev S1x128x14336 : Shape := ⟨3, ![1, 128, 14336]⟩
abbrev S1x128x4096 : Shape := ⟨3, ![1, 128, 4096]⟩
abbrev S1x4x4096 : Shape := ⟨3, ![1, 4, 4096]⟩
abbrev S4096x14336 : Shape := ⟨2, ![4096, 14336]⟩
abbrev S4096x448 : Shape := ⟨2, ![4096, 448]⟩
abbrev S128x14336 : Shape := ⟨2, ![128, 14336]⟩
abbrev S128x4096 : Shape := ⟨2, ![128, 4096]⟩
abbrev S4x4096 : Shape := ⟨2, ![4, 4096]⟩
abbrev S64x14336 : Shape := ⟨2, ![64, 14336]⟩
abbrev S128x448 : Shape := ⟨2, ![128, 448]⟩
abbrev S128x7168 : Shape := ⟨2, ![128, 7168]⟩
abbrev S4x14336 : Shape := ⟨2, ![4, 14336]⟩
abbrev S128x512 : Shape := ⟨2, ![128, 512]⟩
abbrev S4096x512 : Shape := ⟨2, ![4096, 512]⟩
abbrev S64x512 : Shape := ⟨2, ![64, 512]⟩
abbrev S128x256 : Shape := ⟨2, ![128, 256]⟩
abbrev S4x512 : Shape := ⟨2, ![4, 512]⟩
abbrev S4096x128 : Shape := ⟨2, ![4096, 128]⟩
abbrev S1x4096 : Shape := ⟨2, ![1, 4096]⟩
abbrev S32x4096 : Shape := ⟨2, ![32, 4096]⟩
abbrev S32x128 : Shape := ⟨2, ![32, 128]⟩
abbrev S128x32 : Shape := ⟨2, ![128, 32]⟩
abbrev S256x448 : Shape := ⟨2, ![256, 448]⟩
abbrev S128x128 : Shape := ⟨2, ![128, 128]⟩
abbrev S128x128x1 : Shape := ⟨3, ![128, 128, 1]⟩
abbrev S64x128 : Shape := ⟨2, ![64, 128]⟩
abbrev S256x128 : Shape := ⟨2, ![256, 128]⟩
abbrev S32x512 : Shape := ⟨2, ![32, 512]⟩
abbrev S512 : Shape := ⟨1, ![512]⟩
abbrev S1x512 : Shape := ⟨2, ![1, 512]⟩
abbrev S16x512 : Shape := ⟨2, ![16, 512]⟩
abbrev S256x128x1 : Shape := ⟨3, ![256, 128, 1]⟩
abbrev S256x512 : Shape := ⟨2, ![256, 512]⟩

abbrev nBuf : Space → Nat
  | .hbm => 14
  | .vmem => 23
  | .smem => 0
  | _ => 0

abbrev bufTy : (tb : Table) → Fin (tcTables nBuf tb) → BufTy
  | .hbm, ⟨0, _⟩ => ⟨S1x128x14336, .bf16⟩
  | .hbm, ⟨1, _⟩ => ⟨S1x128x4096, .fp8e4m3⟩
  | .hbm, ⟨2, _⟩ => ⟨S1x4x4096, .i8⟩
  | .hbm, ⟨3, _⟩ => ⟨S4096x14336, .fp8e4m3⟩
  | .hbm, ⟨4, _⟩ => ⟨S4096x448, .i8⟩
  | .hbm, ⟨5, _⟩ => ⟨S128x14336, .bf16⟩
  | .hbm, ⟨6, _⟩ => ⟨S128x4096, .fp8e4m3⟩
  | .hbm, ⟨7, _⟩ => ⟨S4x4096, .i8⟩
  | .hbm, ⟨8, _⟩ => ⟨S128x4096, .bf16⟩
  | .hbm, ⟨9, _⟩ => ⟨S4096x14336, .f32⟩
  | .hbm, ⟨10, _⟩ => ⟨S64x14336, .i8⟩
  | .hbm, ⟨11, _⟩ => ⟨S128x448, .i8⟩
  | .hbm, ⟨12, _⟩ => ⟨S128x7168, .i8⟩
  | .hbm, ⟨13, _⟩ => ⟨S4x14336, .i8⟩
  | .local _ .vmem, ⟨0, _⟩ => ⟨S128x512, .bf16⟩
  | .local _ .vmem, ⟨1, _⟩ => ⟨S128x512, .bf16⟩
  | .local _ .vmem, ⟨2, _⟩ => ⟨S128x4096, .fp8e4m3⟩
  | .local _ .vmem, ⟨3, _⟩ => ⟨S4x4096, .i8⟩
  | .local _ .vmem, ⟨4, _⟩ => ⟨S4096x512, .fp8e4m3⟩
  | .local _ .vmem, ⟨5, _⟩ => ⟨S4096x512, .fp8e4m3⟩
  | .local _ .vmem, ⟨6, _⟩ => ⟨S4096x448, .i8⟩
  | .local _ .vmem, ⟨7, _⟩ => ⟨S128x4096, .bf16⟩
  | .local _ .vmem, ⟨8, _⟩ => ⟨S4096x512, .f32⟩
  | .local _ .vmem, ⟨9, _⟩ => ⟨S4096x512, .f32⟩
  | .local _ .vmem, ⟨10, _⟩ => ⟨S64x512, .i8⟩
  | .local _ .vmem, ⟨11, _⟩ => ⟨S64x512, .i8⟩
  | .local _ .vmem, ⟨12, _⟩ => ⟨S128x448, .i8⟩
  | .local _ .vmem, ⟨13, _⟩ => ⟨S128x256, .i8⟩
  | .local _ .vmem, ⟨14, _⟩ => ⟨S128x256, .i8⟩
  | .local _ .vmem, ⟨15, _⟩ => ⟨S4x512, .i8⟩
  | .local _ .vmem, ⟨16, _⟩ => ⟨S4x512, .i8⟩
  | .local _ .vmem, ⟨17, _⟩ => ⟨S4096x128, .bf16⟩
  | .local _ .vmem, ⟨18, _⟩ => ⟨S4096x512, .bf16⟩
  | .local _ .vmem, ⟨19, _⟩ => ⟨S4096x128, .f32⟩
  | .local _ .vmem, ⟨20, _⟩ => ⟨S128x512, .f32⟩
  | .local _ .vmem, ⟨21, _⟩ => ⟨S128x512, .bf16⟩
  | .local _ .vmem, ⟨22, _⟩ => ⟨S128x512, .bf16⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![28], ![false]⟩

def k0_mult1 (i : grid0.Coords) : BitVec 32 :=
  let arg0 : BitVec 32 := BitVec.ofNat 32 (i 0).val
  let c0_i32_49 : BitVec 32 := 0#32
  let v184 : BitVec 1 := Scalar.cmpi .sgt arg0 c0_i32_49
  let v185 : BitVec 32 := Scalar.extui v184
  let c0_i32_50 : BitVec 32 := 0#32
  let v186 : BitVec 1 := Scalar.cmpi .slt arg0 c0_i32_50
  let v187 : BitVec 32 := Scalar.extui v186
  let v188 : BitVec 32 := Scalar.subi v185 v187
  let c8_i32_48 : BitVec 32 := 8#32
  let c0_i32_51 : BitVec 32 := 0#32
  let v189 : BitVec 1 := Scalar.cmpi .sgt c8_i32_48 c0_i32_51
  let v190 : BitVec 32 := Scalar.extui v189
  let c0_i32_52 : BitVec 32 := 0#32
  let v191 : BitVec 1 := Scalar.cmpi .slt c8_i32_48 c0_i32_52
  let v192 : BitVec 32 := Scalar.extui v191
  let v193 : BitVec 32 := Scalar.subi v190 v192
  let v194 : BitVec 1 := Scalar.cmpi .ne v188 v193
  let v195 : BitVec 32 := Scalar.remsi arg0 c8_i32_48
  let c0_i32_53 : BitVec 32 := 0#32
  let v196 : BitVec 1 := Scalar.cmpi .ne v195 c0_i32_53
  let v197 : BitVec 1 := Scalar.andi v194 v196
  let v183 : BitVec 32 := Scalar.divsi arg0 c8_i32_48
  let c1_i32_54 : BitVec 32 := 1#32
  let v198 : BitVec 32 := Scalar.subi v183 c1_i32_54
  let v199 : BitVec 32 := Scalar.select v197 v198 v183
  let c128_i32_55 : BitVec 32 := 128#32
  let v200 : BitVec 32 := Scalar.muli v199 c128_i32_55
  v200
def k0_off1 (i : grid0.Coords) : Fin 2 → Nat :=
  let c0_56 : Index := 0#32
  let arg0 : BitVec 32 := BitVec.ofNat 32 (i 0).val
  let c0_i32_49 : BitVec 32 := 0#32
  let v184 : BitVec 1 := Scalar.cmpi .sgt arg0 c0_i32_49
  let v185 : BitVec 32 := Scalar.extui v184
  let c0_i32_50 : BitVec 32 := 0#32
  let v186 : BitVec 1 := Scalar.cmpi .slt arg0 c0_i32_50
  let v187 : BitVec 32 := Scalar.extui v186
  let v188 : BitVec 32 := Scalar.subi v185 v187
  let c8_i32_48 : BitVec 32 := 8#32
  let c0_i32_51 : BitVec 32 := 0#32
  let v189 : BitVec 1 := Scalar.cmpi .sgt c8_i32_48 c0_i32_51
  let v190 : BitVec 32 := Scalar.extui v189
  let c0_i32_52 : BitVec 32 := 0#32
  let v191 : BitVec 1 := Scalar.cmpi .slt c8_i32_48 c0_i32_52
  let v192 : BitVec 32 := Scalar.extui v191
  let v193 : BitVec 32 := Scalar.subi v190 v192
  let v194 : BitVec 1 := Scalar.cmpi .ne v188 v193
  let v195 : BitVec 32 := Scalar.remsi arg0 c8_i32_48
  let c0_i32_53 : BitVec 32 := 0#32
  let v196 : BitVec 1 := Scalar.cmpi .ne v195 c0_i32_53
  let v197 : BitVec 1 := Scalar.andi v194 v196
  let v183 : BitVec 32 := Scalar.divsi arg0 c8_i32_48
  let c1_i32_54 : BitVec 32 := 1#32
  let v198 : BitVec 32 := Scalar.subi v183 c1_i32_54
  let v199 : BitVec 32 := Scalar.select v197 v198 v183
  let c128_i32_55 : BitVec 32 := 128#32
  let v200 : BitVec 32 := Scalar.muli v199 c128_i32_55
  let v201 : BitVec 32 := v200
  let v202 : Index := Scalar.indexCast v201
  ![0, v202.toNat]
def k0_mult2 (i : grid0.Coords) : BitVec 32 :=
  let arg0 : BitVec 32 := BitVec.ofNat 32 (i 0).val
  let c0_i32_121 : BitVec 32 := 0#32
  let v390 : BitVec 1 := Scalar.cmpi .sgt arg0 c0_i32_121
  let v391 : BitVec 32 := Scalar.extui v390
  let c0_i32_122 : BitVec 32 := 0#32
  let v392 : BitVec 1 := Scalar.cmpi .slt arg0 c0_i32_122
  let v393 : BitVec 32 := Scalar.extui v392
  let v394 : BitVec 32 := Scalar.subi v391 v393
  let c8_i32_120 : BitVec 32 := 8#32
  let c0_i32_123 : BitVec 32 := 0#32
  let v395 : BitVec 1 := Scalar.cmpi .sgt c8_i32_120 c0_i32_123
  let v396 : BitVec 32 := Scalar.extui v395
  let c0_i32_124 : BitVec 32 := 0#32
  let v397 : BitVec 1 := Scalar.cmpi .slt c8_i32_120 c0_i32_124
  let v398 : BitVec 32 := Scalar.extui v397
  let v399 : BitVec 32 := Scalar.subi v396 v398
  let v400 : BitVec 1 := Scalar.cmpi .ne v394 v399
  let v401 : BitVec 32 := Scalar.remsi arg0 c8_i32_120
  let c0_i32_125 : BitVec 32 := 0#32
  let v402 : BitVec 1 := Scalar.cmpi .ne v401 c0_i32_125
  let v403 : BitVec 1 := Scalar.andi v400 v402
  let v389 : BitVec 32 := Scalar.divsi arg0 c8_i32_120
  let c1_i32_126 : BitVec 32 := 1#32
  let v404 : BitVec 32 := Scalar.subi v389 c1_i32_126
  let v405 : BitVec 32 := Scalar.select v403 v404 v389
  let c128_i32_127 : BitVec 32 := 128#32
  let v406 : BitVec 32 := Scalar.muli v405 c128_i32_127
  v406
def k0_mult3 (i : grid0.Coords) : BitVec 32 :=
  let arg0 : BitVec 32 := BitVec.ofNat 32 (i 0).val
  let c0_i32_193 : BitVec 32 := 0#32
  let v596 : BitVec 1 := Scalar.cmpi .sgt arg0 c0_i32_193
  let v597 : BitVec 32 := Scalar.extui v596
  let c0_i32_194 : BitVec 32 := 0#32
  let v598 : BitVec 1 := Scalar.cmpi .slt arg0 c0_i32_194
  let v599 : BitVec 32 := Scalar.extui v598
  let v600 : BitVec 32 := Scalar.subi v597 v599
  let c8_i32_192 : BitVec 32 := 8#32
  let c0_i32_195 : BitVec 32 := 0#32
  let v601 : BitVec 1 := Scalar.cmpi .sgt c8_i32_192 c0_i32_195
  let v602 : BitVec 32 := Scalar.extui v601
  let c0_i32_196 : BitVec 32 := 0#32
  let v603 : BitVec 1 := Scalar.cmpi .slt c8_i32_192 c0_i32_196
  let v604 : BitVec 32 := Scalar.extui v603
  let v605 : BitVec 32 := Scalar.subi v602 v604
  let v606 : BitVec 1 := Scalar.cmpi .ne v600 v605
  let v607 : BitVec 32 := Scalar.remsi arg0 c8_i32_192
  let c0_i32_197 : BitVec 32 := 0#32
  let v608 : BitVec 1 := Scalar.cmpi .ne v607 c0_i32_197
  let v609 : BitVec 1 := Scalar.andi v606 v608
  let v595 : BitVec 32 := Scalar.divsi arg0 c8_i32_192
  let c1_i32_198 : BitVec 32 := 1#32
  let v610 : BitVec 32 := Scalar.subi v595 c1_i32_198
  let v611 : BitVec 32 := Scalar.select v609 v610 v595
  let c128_i32_199 : BitVec 32 := 128#32
  let v612 : BitVec 32 := Scalar.muli v611 c128_i32_199
  v612
def k0_mult4 (i : grid0.Coords) : BitVec 32 :=
  let arg0 : BitVec 32 := BitVec.ofNat 32 (i 0).val
  let c0_i32_265 : BitVec 32 := 0#32
  let v802 : BitVec 1 := Scalar.cmpi .sgt arg0 c0_i32_265
  let v803 : BitVec 32 := Scalar.extui v802
  let c0_i32_266 : BitVec 32 := 0#32
  let v804 : BitVec 1 := Scalar.cmpi .slt arg0 c0_i32_266
  let v805 : BitVec 32 := Scalar.extui v804
  let v806 : BitVec 32 := Scalar.subi v803 v805
  let c8_i32_264 : BitVec 32 := 8#32
  let c0_i32_267 : BitVec 32 := 0#32
  let v807 : BitVec 1 := Scalar.cmpi .sgt c8_i32_264 c0_i32_267
  let v808 : BitVec 32 := Scalar.extui v807
  let c0_i32_268 : BitVec 32 := 0#32
  let v809 : BitVec 1 := Scalar.cmpi .slt c8_i32_264 c0_i32_268
  let v810 : BitVec 32 := Scalar.extui v809
  let v811 : BitVec 32 := Scalar.subi v808 v810
  let v812 : BitVec 1 := Scalar.cmpi .ne v806 v811
  let v813 : BitVec 32 := Scalar.remsi arg0 c8_i32_264
  let c0_i32_269 : BitVec 32 := 0#32
  let v814 : BitVec 1 := Scalar.cmpi .ne v813 c0_i32_269
  let v815 : BitVec 1 := Scalar.andi v812 v814
  let v801 : BitVec 32 := Scalar.divsi arg0 c8_i32_264
  let c1_i32_270 : BitVec 32 := 1#32
  let v816 : BitVec 32 := Scalar.subi v801 c1_i32_270
  let v817 : BitVec 32 := Scalar.select v815 v816 v801
  let c128_i32_271 : BitVec 32 := 128#32
  let v818 : BitVec 32 := Scalar.muli v817 c128_i32_271
  v818
def k0_mult5 (i : grid0.Coords) : BitVec 32 :=
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  v1283
def k0_off2 (i : grid0.Coords) : Fin 2 → Nat :=
  let c0_443 : Index := 0#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1301 : Index := Scalar.indexCast v1284
  ![0, v1301.toNat]
def k0_off3 (i : grid0.Coords) : Fin 2 → Nat :=
  let c256_478 : Index := 256#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1372 : Index := Scalar.indexCast v1284
  ![256, v1372.toNat]
def k0_off4 (i : grid0.Coords) : Fin 2 → Nat :=
  let c512 : Index := 512#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1443 : Index := Scalar.indexCast v1284
  ![512, v1443.toNat]
def k0_off5 (i : grid0.Coords) : Fin 2 → Nat :=
  let c768 : Index := 768#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1514 : Index := Scalar.indexCast v1284
  ![768, v1514.toNat]
def k0_off6 (i : grid0.Coords) : Fin 2 → Nat :=
  let c1024 : Index := 1024#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1585 : Index := Scalar.indexCast v1284
  ![1024, v1585.toNat]
def k0_off7 (i : grid0.Coords) : Fin 2 → Nat :=
  let c1280 : Index := 1280#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1656 : Index := Scalar.indexCast v1284
  ![1280, v1656.toNat]
def k0_off8 (i : grid0.Coords) : Fin 2 → Nat :=
  let c1536 : Index := 1536#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1727 : Index := Scalar.indexCast v1284
  ![1536, v1727.toNat]
def k0_off9 (i : grid0.Coords) : Fin 2 → Nat :=
  let c1792 : Index := 1792#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1798 : Index := Scalar.indexCast v1284
  ![1792, v1798.toNat]
def k0_off10 (i : grid0.Coords) : Fin 2 → Nat :=
  let c2048 : Index := 2048#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1869 : Index := Scalar.indexCast v1284
  ![2048, v1869.toNat]
def k0_off11 (i : grid0.Coords) : Fin 2 → Nat :=
  let c2304 : Index := 2304#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v1940 : Index := Scalar.indexCast v1284
  ![2304, v1940.toNat]
def k0_off12 (i : grid0.Coords) : Fin 2 → Nat :=
  let c2560 : Index := 2560#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v2011 : Index := Scalar.indexCast v1284
  ![2560, v2011.toNat]
def k0_off13 (i : grid0.Coords) : Fin 2 → Nat :=
  let c2816 : Index := 2816#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v2082 : Index := Scalar.indexCast v1284
  ![2816, v2082.toNat]
def k0_off14 (i : grid0.Coords) : Fin 2 → Nat :=
  let c3072 : Index := 3072#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v2153 : Index := Scalar.indexCast v1284
  ![3072, v2153.toNat]
def k0_off15 (i : grid0.Coords) : Fin 2 → Nat :=
  let c3328 : Index := 3328#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v2224 : Index := Scalar.indexCast v1284
  ![3328, v2224.toNat]
def k0_off16 (i : grid0.Coords) : Fin 2 → Nat :=
  let c3584 : Index := 3584#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v2295 : Index := Scalar.indexCast v1284
  ![3584, v2295.toNat]
def k0_off17 (i : grid0.Coords) : Fin 2 → Nat :=
  let c3840 : Index := 3840#32
  let arg0 : BitVec 32 := BitVec.ofNat 32 (i 0).val
  let c0_i32_429 : BitVec 32 := 0#32
  let v1267 : BitVec 1 := Scalar.cmpi .sgt arg0 c0_i32_429
  let v1268 : BitVec 32 := Scalar.extui v1267
  let c0_i32_430 : BitVec 32 := 0#32
  let v1269 : BitVec 1 := Scalar.cmpi .slt arg0 c0_i32_430
  let v1270 : BitVec 32 := Scalar.extui v1269
  let v1271 : BitVec 32 := Scalar.subi v1268 v1270
  let c8_i32_428 : BitVec 32 := 8#32
  let c0_i32_431 : BitVec 32 := 0#32
  let v1272 : BitVec 1 := Scalar.cmpi .sgt c8_i32_428 c0_i32_431
  let v1273 : BitVec 32 := Scalar.extui v1272
  let c0_i32_432 : BitVec 32 := 0#32
  let v1274 : BitVec 1 := Scalar.cmpi .slt c8_i32_428 c0_i32_432
  let v1275 : BitVec 32 := Scalar.extui v1274
  let v1276 : BitVec 32 := Scalar.subi v1273 v1275
  let v1277 : BitVec 1 := Scalar.cmpi .ne v1271 v1276
  let v1278 : BitVec 32 := Scalar.remsi arg0 c8_i32_428
  let c0_i32_433 : BitVec 32 := 0#32
  let v1279 : BitVec 1 := Scalar.cmpi .ne v1278 c0_i32_433
  let v1280 : BitVec 1 := Scalar.andi v1277 v1279
  let v1266 : BitVec 32 := Scalar.divsi arg0 c8_i32_428
  let c1_i32_434 : BitVec 32 := 1#32
  let v1281 : BitVec 32 := Scalar.subi v1266 c1_i32_434
  let v1282 : BitVec 32 := Scalar.select v1280 v1281 v1266
  let c128_i32_435 : BitVec 32 := 128#32
  let v1283 : BitVec 32 := Scalar.muli v1282 c128_i32_435
  let v1284 : BitVec 32 := v1283
  let v2366 : Index := Scalar.indexCast v1284
  ![3840, v2366.toNat]
def k0_cond2 (i : grid0.Coords) : BitVec 1 :=
  let arg0 : BitVec 32 := BitVec.ofNat 32 (i 0).val
  let c27_i32 : BitVec 32 := 27#32
  let v2437 : BitVec 1 := Scalar.cmpi .eq arg0 c27_i32
  let v2438 : BitVec 32 := Scalar.extui v2437
  let c0_i32_989 : BitVec 32 := 0#32
  let v2439 : BitVec 1 := Scalar.cmpi .ne v2438 c0_i32_989
  v2439

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x448 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x448 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1x128x14336 : Shape := ⟨3, ![1, 128, 14336]⟩
abbrev S1x128x4096 : Shape := ⟨3, ![1, 128, 4096]⟩
abbrev S1x4x4096 : Shape := ⟨3, ![1, 4, 4096]⟩
abbrev S4096x14336 : Shape := ⟨2, ![4096, 14336]⟩
abbrev S4096x448 : Shape := ⟨2, ![4096, 448]⟩
abbrev S128x4096 : Shape := ⟨2, ![128, 4096]⟩
abbrev S64x14336 : Shape := ⟨2, ![64, 14336]⟩
abbrev S128x448 : Shape := ⟨2, ![128, 448]⟩
abbrev S128x7168 : Shape := ⟨2, ![128, 7168]⟩
abbrev S4x14336 : Shape := ⟨2, ![4, 14336]⟩
abbrev S128x14336 : Shape := ⟨2, ![128, 14336]⟩
abbrev S128x448x32 : Shape := ⟨3, ![128, 448, 32]⟩
abbrev S128x448x1 : Shape := ⟨3, ![128, 448, 1]⟩
abbrev S4x32x14336 : Shape := ⟨3, ![4, 32, 14336]⟩
abbrev S4x1x14336 : Shape := ⟨3, ![4, 1, 14336]⟩
abbrev S4096x448x32 : Shape := ⟨3, ![4096, 448, 32]⟩
abbrev S4096x448x1 : Shape := ⟨3, ![4096, 448, 1]⟩
abbrev S4x4096 : Shape := ⟨2, ![4, 4096]⟩
abbrev S4x32x4096 : Shape := ⟨3, ![4, 32, 4096]⟩
abbrev S4x1x4096 : Shape := ⟨3, ![4, 1, 4096]⟩
abbrev S64x2x14336 : Shape := ⟨3, ![64, 2, 14336]⟩
abbrev S64x1x14336 : Shape := ⟨3, ![64, 1, 14336]⟩
abbrev S128x7168x2 : Shape := ⟨3, ![128, 7168, 2]⟩
abbrev S128x7168x1 : Shape := ⟨3, ![128, 7168, 1]⟩

abbrev nBuf : Space → Nat
  | .hbm => 11
  | .vmem => 11
  | .smem => 0
  | _ => 0

abbrev bufTy : (tb : Table) → Fin (tcTables nBuf tb) → BufTy
  | .hbm, ⟨0, _⟩ => ⟨S1x128x14336, .bf16⟩
  | .hbm, ⟨1, _⟩ => ⟨S1x128x4096, .fp8e4m3⟩
  | .hbm, ⟨2, _⟩ => ⟨S1x4x4096, .i8⟩
  | .hbm, ⟨3, _⟩ => ⟨S4096x14336, .fp8e4m3⟩
  | .hbm, ⟨4, _⟩ => ⟨S4096x448, .i8⟩
  | .hbm, ⟨5, _⟩ => ⟨S128x4096, .bf16⟩
  | .hbm, ⟨6, _⟩ => ⟨S4096x14336, .f32⟩
  | .hbm, ⟨7, _⟩ => ⟨S64x14336, .i8⟩
  | .hbm, ⟨8, _⟩ => ⟨S128x448, .i8⟩
  | .hbm, ⟨9, _⟩ => ⟨S128x7168, .i8⟩
  | .hbm, ⟨10, _⟩ => ⟨S4x14336, .i8⟩
  | .local _ .vmem, ⟨0, _⟩ => ⟨S1x128x14336, .bf16⟩
  | .local _ .vmem, ⟨1, _⟩ => ⟨S1x128x4096, .fp8e4m3⟩
  | .local _ .vmem, ⟨2, _⟩ => ⟨S1x4x4096, .i8⟩
  | .local _ .vmem, ⟨3, _⟩ => ⟨S4096x14336, .fp8e4m3⟩
  | .local _ .vmem, ⟨4, _⟩ => ⟨S4096x448, .i8⟩
  | .local _ .vmem, ⟨5, _⟩ => ⟨S128x4096, .bf16⟩
  | .local _ .vmem, ⟨6, _⟩ => ⟨S4096x14336, .f32⟩
  | .local _ .vmem, ⟨7, _⟩ => ⟨S64x14336, .i8⟩
  | .local _ .vmem, ⟨8, _⟩ => ⟨S128x448, .i8⟩
  | .local _ .vmem, ⟨9, _⟩ => ⟨S128x7168, .i8⟩
  | .local _ .vmem, ⟨10, _⟩ => ⟨S4x14336, .i8⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S1x128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x448 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x14336 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x448 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x7168 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x14336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KOff.lean ====
module

public import proofs.«01_k».proof.Proof.Gen.Kernel.Skeleton
public import proofs.«01_k».proof.Proof.Gen.Kernel.Launch
public import Idealize.ShloMosaic.Lib.Tactic

/-! The offsets that the kernel computes from its grid coordinate `j`, in closed form: the lane offset
`128 * (j / 8)` of the tile of 128 blocks that step `j` belongs to. -/

@[expose] public section

noncomputable section

namespace Cert.Kernel.Body

open Cert.Kernel Cert.Kernel.Gen
open Idealize.ShloMosaic Idealize.ShloMosaic.Tactic

/-- The grid coordinate, as a number below 28. -/
abbrev jOf (i : grid0.Coords) : Fin 28 := i 0

theorem k0_off1_eq (i : grid0.Coords) : k0_off1 i = ![0, 128 * ((jOf i).val / 8)] := by
  have key : ∀ j : Fin 28, k0_off1 (fun a => match a with | ⟨0, _⟩ => j) = ![0, 128 * (j.val / 8)] := by decide
  exact key (jOf i)
instance (i : grid0.Coords) : ClosedOff (k0_off1 i) := ⟨_, k0_off1_eq i⟩
theorem k0_off2_eq (i : grid0.Coords) : k0_off2 i = ![0, 128 * ((jOf i).val / 8)] := by
  have key : ∀ j : Fin 28, k0_off2 (fun a => match a with | ⟨0, _⟩ => j) = ![0, 128 * (j.val / 8)] := by decide
  exact key (jOf i)
instance (i : grid0.Coords) : ClosedOff (k0_off2 i) := ⟨_, k0_off2_eq i⟩
theorem k0_off3_eq (i : grid0.Coords) : k0_off3 i = ![256, 128 * ((jOf i).val / 8)] := by
  have key : ∀ j : Fin 28, k0_off3 (fun a => match a with | ⟨0, _⟩ => j) = ![256, 128 * (j.val / 8)] := by decide
  exact key (jOf i)
instance (i : grid0.Coords) : ClosedOff (k0_off3 i) := ⟨_, k0_off3_eq i⟩
theorem k0_off4_eq (i : grid0.Coords) : k0_off4 i = ![512, 128 * ((jOf i).val / 8)] := by
  have key : ∀ j : Fin 28, k0_off4 (fun a => match a with | ⟨0, _⟩ => j) = ![512, 128 * (j.val / 8)] := by decide
  exact key (jOf i)
instance (i : grid0.Coords) : ClosedOff (k0_off4 i) := ⟨_, k0_off4_eq i⟩
theorem k0_off5_eq (i : grid0.Coords) : k0_off5 i = ![768, 128 * ((jOf i).val / 8)] := by
  have key : ∀ j : Fin 28, k0_off5 (fun a => match a with | ⟨0, _⟩ => j) = ![768, 128 * (j.val / 8)] := by decide
  exact key (jOf i)
instance (i : grid0.Coords) : ClosedOff (k0_off5 i) := ⟨_, k0_off5_eq i⟩
theorem k0_off6_eq (i : grid0.Coords) : k0_off6 i = ![1024, 128 * ((jOf i).val / 8)] := by
  have key : ∀ j : Fin 28, k0_off6 (fun a => match a with | ⟨0, _⟩ => j) = ![1024, 128 * (j.val / 8)] := by decide
  exact key (jOf i)
instance (i : grid0.Coords) : ClosedOff (k0_off6 i) := ⟨_, k0_off6_eq i⟩
theorem k0_off7_eq (i : grid0.Coords) : k0_off7 i = ![1280, 128 * ((jOf i).val / 8)] := by
  have key : ∀ j : Fin 28, k0_off7 (fun a => match a with | ⟨0, _⟩ => j) = ![1280, 128 * (j.val / 8)] := by decide
  exact key (jOf i)
instance (i : grid0.Coords) : ClosedOff (k0_off7 i) := ⟨_, k0_off7_eq i⟩
theorem k0_off8_eq (i : grid0.Coords) : k0_off8 i = ![1536, 128 * ((jOf i).val / 8)] := by
  have key : ∀ j : Fin 28, k0_off8 (fun a => match a with | ⟨0, _⟩ => j) = ![1536, 128 * (j.val / 8)] := by decide
  exact key (jOf i)
instance (i : grid0.Coords) : ClosedOff (k0_off8 i) := ⟨_, k0_off8_eq i⟩
theorem k0_off9_eq (i : grid0.Coords) : k0_off9 i = ![1792, 128 * ((jOf i).val / 8)] := by
  have key : ∀ j : Fin 28, k0_off9 (fun a => match a with | ⟨0, _⟩ => j) = ![1792, 128 * (j.val / 8)] := by decide
  exact key (jOf i)
instance (i : grid0.Coords) : ClosedOff (k0_off9 i) := ⟨_, k0_off9_eq i⟩
theorem k0_off10_eq (i : grid0.Coords) : k0_off10 i = ![2048, 128 * ((jOf i).val / 8)] := by
  have key : ∀ j : Fin 28, k0_off10 (fun a => match a with | ⟨0, _⟩ => j) = ![2048, 128 * (j.val / 8)] := by decide
  exact key (jOf i)
instance (i : grid0.Coords) : ClosedOff (k0_off10 i) := ⟨_, k0_off10_eq i⟩
theorem k0_off11_eq (i : grid0.Coords) : k0_off11 i = ![2304, 128 * ((jOf i).val / 8)] := by
  have key : ∀ j : Fin 28, k0_off11 (fun a => match a with | ⟨0, _⟩ => j) = ![2304, 128 * (j.val / 8)] := by decide
  exact key (jOf i)
instance (i : grid0.Coords) : ClosedOff (k0_off11 i) := ⟨_, k0_off11_eq i⟩
theorem k0_off12_eq (i : grid0.Coords) : k0_off12 i = ![2560, 128 * ((jOf i).val / 8)] := by
  have key : ∀ j : Fin 28, k0_off12 (fun a => match a with | ⟨0, _⟩ => j) = ![2560, 128 * (j.val / 8)] := by decide
  exact key (jOf i)
instance (i : grid0.Coords) : ClosedOff (k0_off12 i) := ⟨_, k0_off12_eq i⟩
theorem k0_off13_eq (i : grid0.Coords) : k0_off13 i = ![2816, 128 * ((jOf i).val / 8)] := by
  have key : ∀ j : Fin 28, k0_off13 (fun a => match a with | ⟨0, _⟩ => j) = ![2816, 128 * (j.val / 8)] := by decide
  exact key (jOf i)
instance (i : grid0.Coords) : ClosedOff (k0_off13 i) := ⟨_, k0_off13_eq i⟩
theorem k0_off14_eq (i : grid0.Coords) : k0_off14 i = ![3072, 128 * ((jOf i).val / 8)] := by
  have key : ∀ j : Fin 28, k0_off14 (fun a => match a with | ⟨0, _⟩ => j) = ![3072, 128 * (j.val / 8)] := by decide
  exact key (jOf i)
instance (i : grid0.Coords) : ClosedOff (k0_off14 i) := ⟨_, k0_off14_eq i⟩
theorem k0_off15_eq (i : grid0.Coords) : k0_off15 i = ![3328, 128 * ((jOf i).val / 8)] := by
  have key : ∀ j : Fin 28, k0_off15 (fun a => match a with | ⟨0, _⟩ => j) = ![3328, 128 * (j.val / 8)] := by decide
  exact key (jOf i)
instance (i : grid0.Coords) : ClosedOff (k0_off15 i) := ⟨_, k0_off15_eq i⟩
theorem k0_off16_eq (i : grid0.Coords) : k0_off16 i = ![3584, 128 * ((jOf i).val / 8)] := by
  have key : ∀ j : Fin 28, k0_off16 (fun a => match a with | ⟨0, _⟩ => j) = ![3584, 128 * (j.val / 8)] := by decide
  exact key (jOf i)
instance (i : grid0.Coords) : ClosedOff (k0_off16 i) := ⟨_, k0_off16_eq i⟩
theorem k0_off17_eq (i : grid0.Coords) : k0_off17 i = ![3840, 128 * ((jOf i).val / 8)] := by
  have key : ∀ j : Fin 28, k0_off17 (fun a => match a with | ⟨0, _⟩ => j) = ![3840, 128 * (j.val / 8)] := by decide
  exact key (jOf i)
instance (i : grid0.Coords) : ClosedOff (k0_off17 i) := ⟨_, k0_off17_eq i⟩

end Cert.Kernel.Body

end
-- ==== Proof.KBody.lean ====
module

public import proofs.«01_k».proof.Proof.Gen.Kernel.Skeleton
public import proofs.«01_k».proof.Proof.KOff
public import Idealize.ShloMosaic.Lib.Tactic

@[expose] public section

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the first step's branch, as the kernel computes it from its grid coordinate. -/
abbrev cond1 (i : grid0.Coords) : Prop := Scalar.cmpi .ne (Scalar.extui (Scalar.cmpi .eq (BitVec.ofNat 32 (i 0).val) 0#32) : BitVec 32) 0#32 = 1#1

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

theorem run_first (c : Dev nD) (i : grid0.Coords) (hc1 : cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(pt c M1 f1 ∗ pt c M2 f2 ∗ pt c M3 f3 ∗ pt c M4 f4 ∗ pt c M5 f5 ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
    ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  sl_exec_parts (disch := first | sl_exact hc1 | sl_exact hc2)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

theorem run_mid (c : Dev nD) (i : grid0.Coords) (hc1 : ¬ cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(pt c M1 f1 ∗ pt c M2 f2 ∗ pt c M3 f3 ∗ pt c M4 f4 ∗ pt c M5 f5 ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
    ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  sl_exec_parts (disch := first | sl_exact hc1 | sl_exact hc2)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

theorem run_last (c : Dev nD) (i : grid0.Coords) (hc1 : ¬ cond1 i) (hc2 : k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(pt c M1 f1 ∗ pt c M2 f2 ∗ pt c M3 f3 ∗ pt c M4 f4 ∗ pt c M5 f5 ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
    ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  sl_exec_parts (disch := first | sl_exact hc1 | sl_exact hc2)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.Kernel.Body

end
-- ==== Proof.KFrame.lean ====
module

public import proofs.«01_k».proof.Proof.KBody
public import proofs.«01_k».proof.Proof.Gen.Kernel.Frame
public import proofs.«01_k».proof.Proof.Gen.Kernel.Points

/-! The frame of `Kernel`: the program runs, terminates without a fault, leaves its arguments as they were and every
semaphore counter at zero. The body's run at a point says only that each buffer then holds something. -/

@[expose] public section

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-- No grid coordinate meets both branch conditions: the first step is not the last. -/
theorem not_both (i : grid0.Coords) (h : cond1 i) : ¬ k0_cond2 i = 1#1 := by
  have key : ∀ j : Fin 28, cond1 (fun a => match a with | ⟨0, _⟩ => j) → ¬ k0_cond2 (fun a => match a with | ⟨0, _⟩ => j) = 1#1 := by decide
  exact key (jOf i) h

/-- The body at any grid coordinate: the inputs come back as they were, every other buffer holding something. -/
theorem run_any (c : Dev nD) (i : grid0.Coords)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(pt c M1 f1 ∗ pt c M2 f2 ∗ pt c M3 f3 ∗ pt c M4 f4 ∗ pt c M5 f5 ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
    ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  by_cases hc1 : cond1 i
  · exact run_first c i hc1 (not_both i hc1) M1 h1 M2 h2 M3 h3 M4 h4 M5 h5 M6 h6 M7 h7 M8 h8 M9 h9 M10 h10 M11 h11 M12 h12 M13 h13 M14 h14 M15 h15 M16 h16 M17 h17 f1 f2 f3 f4 f5 f6 f7 f8 f9 f10 f11 f12 f13 f14 f15 f16 f17 E Q
  · by_cases hc2 : k0_cond2 i = 1#1
    · exact run_last c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f6 f7 f8 f9 f10 f11 f12 f13 f14 f15 f16 f17 E Q
    · exact run_mid c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f6 f7 f8 f9 f10 f11 f12 f13 f14 f15 f16 f17 E Q

variable (m : (ℓ : Loc nD τ sig) → Buf (Elt F) ℓ) (ρ : Dev nD → PrngReg)

/-- Proof data that ask nothing of what the body leaves. -/
def rdatF (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)

theorem owns_pt (c : Dev nD) {sp : Space} {sh : Shape} {e : EltTy} {M : Memref sig .tc sp sh e} (h : M.IsWhole) (X : sh.Idx → Elt F e) :
    (owns (c : Thread nD τ) M fullShare X : sProp 𝕄) ⊢ iprop(∃ f, pt c M f) := by
  unfold owns pt; rw [h.set_eq_univ]
  iintro ⟨%f, -, H⟩; iexists f; iexact H

theorem pt_owns (c : Dev nD) {sp : Space} {sh : Shape} {e : EltTy} {M : Memref sig .tc sp sh e} (h : M.IsWhole) (f : Bf (F := F) c M) :
    pt c M f ⊢ (iprop(∃ X, ⌜True⌝ ∗ owns (c : Thread nD τ) M fullShare X) : sProp 𝕄) := by
  unfold owns pt
  iintro H; iexists (M.view.read _ f); isplitr
  · ipureintro; trivial
  rw [h.set_eq_univ]; iexists f; isplitr
  · ipureintro; rfl
  iexact H

/-- What the body is handed at point `t`. -/
def bodyPre (c : Dev nD) (t : Fin cfg0.N) (Y : (w : Fin cfg0.W) → (cfg0.win w).block.Idx → Elt F (cfg0.win w).elt) : sProp 𝕄 :=
  iprop((rdatF m c).Φ t.castSucc ∗ (rdatF m c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10))
/-- What the body hands back at point `t`. -/
def bodyPost (c : Dev nD) (t : Fin cfg0.N) : sProp 𝕄 :=
  iprop((rdatF m c).Φ t.succ ∗ (rdatF m c).owesAt () t.succ ∗ (∃ X, ⌜True⌝ ∗ owns (c : Thread nD τ) (ms0_0 t) fullShare X) ∗ (∃ X, ⌜True⌝ ∗ owns (c : Thread nD τ) (ms0_1 t) fullShare X) ∗ (∃ X, ⌜True⌝ ∗ owns (c : Thread nD τ) (ms0_2 t) fullShare X) ∗ (∃ X, ⌜True⌝ ∗ owns (c : Thread nD τ) (ms0_3 t) fullShare X) ∗ (∃ X, ⌜True⌝ ∗ owns (c : Thread nD τ) (ms0_4 t) fullShare X) ∗ (∃ X, ⌜True⌝ ∗ owns (c : Thread nD τ) (ms0_5 t) fullShare X) ∗ (∃ X, ⌜True⌝ ∗ owns (c : Thread nD τ) (ms0_6 t) fullShare X) ∗ (∃ X, ⌜True⌝ ∗ owns (c : Thread nD τ) (ms0_7 t) fullShare X) ∗ (∃ X, ⌜True⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X))

theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t) := by
  unfold bodyPre bodyPost bodyAt0
  rw [show (rdatF m c).Φ t.succ = Pipeline.ΦA spec0 c from rfl, show (rdatF m c).Φ t.castSucc = Pipeline.ΦA spec0 c from rfl,
    show (rdatF m c).owesAt () t.succ = (rdatF m c).owesAt () t.castSucc from rfl]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩⟩, Hg⟩, Ho, H0, H1, H2, H3, H4, H5, H6, H7, H8, H9, H10⟩
  ihave G0 := (owns_pt c (M := ms0_0 t) (hstage0_0 ((cfg0.slots t 0).cast nbuf0_0)) (Y 0)) $$ H0
  icases G0 with ⟨%f0, H0⟩
  ihave G1 := (owns_pt c (M := ms0_1 t) (hstage0_1 ((cfg0.slots t 1).cast nbuf0_1)) (Y 1)) $$ H1
  icases G1 with ⟨%f1, H1⟩
  ihave G2 := (owns_pt c (M := ms0_2 t) (hstage0_2 ((cfg0.slots t 2).cast nbuf0_2)) (Y 2)) $$ H2
  icases G2 with ⟨%f2, H2⟩
  ihave G3 := (owns_pt c (M := ms0_3 t) (hstage0_3 ((cfg0.slots t 3).cast nbuf0_3)) (Y 3)) $$ H3
  icases G3 with ⟨%f3, H3⟩
  ihave G4 := (owns_pt c (M := ms0_4 t) (hstage0_4 ((cfg0.slots t 4).cast nbuf0_4)) (Y 4)) $$ H4
  icases G4 with ⟨%f4, H4⟩
  ihave G5 := (owns_pt c (M := ms0_5 t) (hstage0_5 ((cfg0.slots t 5).cast nbuf0_5)) (Y 5)) $$ H5
  icases G5 with ⟨%f5, H5⟩
  ihave G6 := (owns_pt c (M := ms0_6 t) (hstage0_6 ((cfg0.slots t 6).cast nbuf0_6)) (Y 6)) $$ H6
  icases G6 with ⟨%f6, H6⟩
  ihave G7 := (owns_pt c (M := ms0_7 t) (hstage0_7 ((cfg0.slots t 7).cast nbuf0_7)) (Y 7)) $$ H7
  icases G7 with ⟨%f7, H7⟩
  ihave G8 := (owns_pt c (M := ms0_8 t) (hstage0_8 ((cfg0.slots t 8).cast nbuf0_8)) (Y 8)) $$ H8
  icases G8 with ⟨%f8, H8⟩
  ihave G9 := (owns_pt c (M := ms0_9 t) (hstage0_9 ((cfg0.slots t 9).cast nbuf0_9)) (Y 9)) $$ H9
  icases G9 with ⟨%f9, H9⟩
  ihave G10 := (owns_pt c (M := ms0_10 t) (hstage0_10 ((cfg0.slots t 10).cast nbuf0_10)) (Y 10)) $$ H10
  icases G10 with ⟨%f10, H10⟩
  iapply (run_any c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f9 f10 s0 s1 s2 s3 s4 s5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, ⟨%g5, H5⟩, ⟨%g6, H6⟩, ⟨%g7, H7⟩, ⟨%g8, H8⟩, ⟨%g9, H9⟩, ⟨%g10, H10⟩, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    · iexact Hg
  isplitl [Ho]; · iexact Ho
  isplitl [H0]; · iapply (pt_owns c (M := ms0_0 t) (hstage0_0 ((cfg0.slots t 0).cast nbuf0_0)) _); iexact H0
  isplitl [H1]; · iapply (pt_owns c (M := ms0_1 t) (hstage0_1 ((cfg0.slots t 1).cast nbuf0_1)) _); iexact H1
  isplitl [H2]; · iapply (pt_owns c (M := ms0_2 t) (hstage0_2 ((cfg0.slots t 2).cast nbuf0_2)) _); iexact H2
  isplitl [H3]; · iapply (pt_owns c (M := ms0_3 t) (hstage0_3 ((cfg0.slots t 3).cast nbuf0_3)) _); iexact H3
  isplitl [H4]; · iapply (pt_owns c (M := ms0_4 t) (hstage0_4 ((cfg0.slots t 4).cast nbuf0_4)) _); iexact H4
  isplitl [H5]; · iapply (pt_owns c (M := ms0_5 t) (hstage0_5 ((cfg0.slots t 5).cast nbuf0_5)) _); iexact H5
  isplitl [H6]; · iapply (pt_owns c (M := ms0_6 t) (hstage0_6 ((cfg0.slots t 6).cast nbuf0_6)) _); iexact H6
  isplitl [H7]; · iapply (pt_owns c (M := ms0_7 t) (hstage0_7 ((cfg0.slots t 7).cast nbuf0_7)) _); iexact H7
  isplitl [H8]; · iapply (pt_owns c (M := ms0_8 t) (hstage0_8 ((cfg0.slots t 8).cast nbuf0_8)) _); iexact H8
  isplitl [H9]; · iapply (pt_owns c (M := ms0_9 t) (hstage0_9 ((cfg0.slots t 9).cast nbuf0_9)) _); iexact H9
  iapply (pt_owns c (M := ms0_10 t) (hstage0_10 ((cfg0.slots t 10).cast nbuf0_10)) _); iexact H10

/-- The body table's row is the body. -/
theorem defs₀_row (t : Fin cfg0.N) : defs₀ (F := F) .tc cfg0.body (cfg0.bodyArgs t (cfg0.slots t)) = bodyAt0 t := by
  unfold defs₀; rw [Defs.onTc_tc]

theorem body_obligationF (c : Dev nD) : (rdatF m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The run: every final state has the arrays the kernel only reads as they were, and every semaphore counter at zero. -/
theorem run_frame : θ_run defs (onTc (τ := τ) (main (F := F))) (s₀ m ρ)
    (fun r => Pipeline.RDat.FramePost cfg0 (rdatF m) (V m) r ∧ r.2.sem = fun _ => 0) :=
  Pipeline.RDat.θ_run_frame (Q' := _) cfgs (0 : Fin 1) launch0 defs₀ Variants.none (rdatF m) m ρ main
    (hbody := body_obligationF m) (hshare := fun c w => by unfold RDat.share; split <;> rfl)
    (howed := fun _ _ => rfl) (V := V m) (hmain := hmain m Variants.none) (hA := fun _ _ => rfl) (hΦ := fun _ _ => rfl)

/-- The frame claim's post. -/
theorem frame_post : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (by have := (h.1 c).1 3; rw [(rdatF m c).ArrAt_in 3 rfl] at this; exact this.trans (V_main_arg3 m c)),
      (by have := (h.1 c).1 4; rw [(rdatF m c).ArrAt_in 4 rfl] at this; exact this.trans (V_main_arg4 m c))⟩, h.2⟩) (run_frame m ρ)

end Cert.Kernel.Body

end
-- ==== Proof.KIOff.lean ====
module

public import proofs.«01_k».proof.Proof.Gen.KernelIdeal.Skeleton
public import proofs.«01_k».proof.Proof.Gen.KernelIdeal.Launch
public import Idealize.ShloMosaic.Lib.Tactic

/-! The offsets that the kernel computes from its grid coordinate `j`, in closed form: the lane offset
`128 * (j / 8)` of the tile of 128 blocks that step `j` belongs to. -/

@[expose] public section

noncomputable section

namespace Cert.KernelIdeal.Body

open Cert.KernelIdeal Cert.KernelIdeal.Gen
open Idealize.ShloMosaic Idealize.ShloMosaic.Tactic

/-- The grid coordinate, as a number below 28. -/
abbrev jOf (i : grid0.Coords) : Fin 28 := i 0

theorem k0_off1_eq (i : grid0.Coords) : k0_off1 i = ![0, 128 * ((jOf i).val / 8)] := by
  have key : ∀ j : Fin 28, k0_off1 (fun a => match a with | ⟨0, _⟩ => j) = ![0, 128 * (j.val / 8)] := by decide
  exact key (jOf i)
instance (i : grid0.Coords) : ClosedOff (k0_off1 i) := ⟨_, k0_off1_eq i⟩
theorem k0_off2_eq (i : grid0.Coords) : k0_off2 i = ![0, 128 * ((jOf i).val / 8)] := by
  have key : ∀ j : Fin 28, k0_off2 (fun a => match a with | ⟨0, _⟩ => j) = ![0, 128 * (j.val / 8)] := by decide
  exact key (jOf i)
instance (i : grid0.Coords) : ClosedOff (k0_off2 i) := ⟨_, k0_off2_eq i⟩
theorem k0_off3_eq (i : grid0.Coords) : k0_off3 i = ![256, 128 * ((jOf i).val / 8)] := by
  have key : ∀ j : Fin 28, k0_off3 (fun a => match a with | ⟨0, _⟩ => j) = ![256, 128 * (j.val / 8)] := by decide
  exact key (jOf i)
instance (i : grid0.Coords) : ClosedOff (k0_off3 i) := ⟨_, k0_off3_eq i⟩
theorem k0_off4_eq (i : grid0.Coords) : k0_off4 i = ![512, 128 * ((jOf i).val / 8)] := by
  have key : ∀ j : Fin 28, k0_off4 (fun a => match a with | ⟨0, _⟩ => j) = ![512, 128 * (j.val / 8)] := by decide
  exact key (jOf i)
instance (i : grid0.Coords) : ClosedOff (k0_off4 i) := ⟨_, k0_off4_eq i⟩
theorem k0_off5_eq (i : grid0.Coords) : k0_off5 i = ![768, 128 * ((jOf i).val / 8)] := by
  have key : ∀ j : Fin 28, k0_off5 (fun a => match a with | ⟨0, _⟩ => j) = ![768, 128 * (j.val / 8)] := by decide
  exact key (jOf i)
instance (i : grid0.Coords) : ClosedOff (k0_off5 i) := ⟨_, k0_off5_eq i⟩
theorem k0_off6_eq (i : grid0.Coords) : k0_off6 i = ![1024, 128 * ((jOf i).val / 8)] := by
  have key : ∀ j : Fin 28, k0_off6 (fun a => match a with | ⟨0, _⟩ => j) = ![1024, 128 * (j.val / 8)] := by decide
  exact key (jOf i)
instance (i : grid0.Coords) : ClosedOff (k0_off6 i) := ⟨_, k0_off6_eq i⟩
theorem k0_off7_eq (i : grid0.Coords) : k0_off7 i = ![1280, 128 * ((jOf i).val / 8)] := by
  have key : ∀ j : Fin 28, k0_off7 (fun a => match a with | ⟨0, _⟩ => j) = ![1280, 128 * (j.val / 8)] := by decide
  exact key (jOf i)
instance (i : grid0.Coords) : ClosedOff (k0_off7 i) := ⟨_, k0_off7_eq i⟩
theorem k0_off8_eq (i : grid0.Coords) : k0_off8 i = ![1536, 128 * ((jOf i).val / 8)] := by
  have key : ∀ j : Fin 28, k0_off8 (fun a => match a with | ⟨0, _⟩ => j) = ![1536, 128 * (j.val / 8)] := by decide
  exact key (jOf i)
instance (i : grid0.Coords) : ClosedOff (k0_off8 i) := ⟨_, k0_off8_eq i⟩
theorem k0_off9_eq (i : grid0.Coords) : k0_off9 i = ![1792, 128 * ((jOf i).val / 8)] := by
  have key : ∀ j : Fin 28, k0_off9 (fun a => match a with | ⟨0, _⟩ => j) = ![1792, 128 * (j.val / 8)] := by decide
  exact key (jOf i)
instance (i : grid0.Coords) : ClosedOff (k0_off9 i) := ⟨_, k0_off9_eq i⟩
theorem k0_off10_eq (i : grid0.Coords) : k0_off10 i = ![2048, 128 * ((jOf i).val / 8)] := by
  have key : ∀ j : Fin 28, k0_off10 (fun a => match a with | ⟨0, _⟩ => j) = ![2048, 128 * (j.val / 8)] := by decide
  exact key (jOf i)
instance (i : grid0.Coords) : ClosedOff (k0_off10 i) := ⟨_, k0_off10_eq i⟩
theorem k0_off11_eq (i : grid0.Coords) : k0_off11 i = ![2304, 128 * ((jOf i).val / 8)] := by
  have key : ∀ j : Fin 28, k0_off11 (fun a => match a with | ⟨0, _⟩ => j) = ![2304, 128 * (j.val / 8)] := by decide
  exact key (jOf i)
instance (i : grid0.Coords) : ClosedOff (k0_off11 i) := ⟨_, k0_off11_eq i⟩
theorem k0_off12_eq (i : grid0.Coords) : k0_off12 i = ![2560, 128 * ((jOf i).val / 8)] := by
  have key : ∀ j : Fin 28, k0_off12 (fun a => match a with | ⟨0, _⟩ => j) = ![2560, 128 * (j.val / 8)] := by decide
  exact key (jOf i)
instance (i : grid0.Coords) : ClosedOff (k0_off12 i) := ⟨_, k0_off12_eq i⟩
theorem k0_off13_eq (i : grid0.Coords) : k0_off13 i = ![2816, 128 * ((jOf i).val / 8)] := by
  have key : ∀ j : Fin 28, k0_off13 (fun a => match a with | ⟨0, _⟩ => j) = ![2816, 128 * (j.val / 8)] := by decide
  exact key (jOf i)
instance (i : grid0.Coords) : ClosedOff (k0_off13 i) := ⟨_, k0_off13_eq i⟩
theorem k0_off14_eq (i : grid0.Coords) : k0_off14 i = ![3072, 128 * ((jOf i).val / 8)] := by
  have key : ∀ j : Fin 28, k0_off14 (fun a => match a with | ⟨0, _⟩ => j) = ![3072, 128 * (j.val / 8)] := by decide
  exact key (jOf i)
instance (i : grid0.Coords) : ClosedOff (k0_off14 i) := ⟨_, k0_off14_eq i⟩
theorem k0_off15_eq (i : grid0.Coords) : k0_off15 i = ![3328, 128 * ((jOf i).val / 8)] := by
  have key : ∀ j : Fin 28, k0_off15 (fun a => match a with | ⟨0, _⟩ => j) = ![3328, 128 * (j.val / 8)] := by decide
  exact key (jOf i)
instance (i : grid0.Coords) : ClosedOff (k0_off15 i) := ⟨_, k0_off15_eq i⟩
theorem k0_off16_eq (i : grid0.Coords) : k0_off16 i = ![3584, 128 * ((jOf i).val / 8)] := by
  have key : ∀ j : Fin 28, k0_off16 (fun a => match a with | ⟨0, _⟩ => j) = ![3584, 128 * (j.val / 8)] := by decide
  exact key (jOf i)
instance (i : grid0.Coords) : ClosedOff (k0_off16 i) := ⟨_, k0_off16_eq i⟩
theorem k0_off17_eq (i : grid0.Coords) : k0_off17 i = ![3840, 128 * ((jOf i).val / 8)] := by
  have key : ∀ j : Fin 28, k0_off17 (fun a => match a with | ⟨0, _⟩ => j) = ![3840, 128 * (j.val / 8)] := by decide
  exact key (jOf i)
instance (i : grid0.Coords) : ClosedOff (k0_off17 i) := ⟨_, k0_off17_eq i⟩

end Cert.KernelIdeal.Body

end
-- ==== Proof.KIBody.lean ====
module

public import proofs.«01_k».proof.Proof.Gen.KernelIdeal.Skeleton
public import proofs.«01_k».proof.Proof.KIOff
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The condition of the first step's branch, as the kernel computes it from its grid coordinate. -/
abbrev cond1 (i : grid0.Coords) : Prop := Scalar.cmpi .ne (Scalar.extui (Scalar.cmpi .eq (BitVec.ofNat 32 (i 0).val) 0#32) : BitVec 32) 0#32 = 1#1

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

theorem run_first (c : Dev nD) (i : grid0.Coords) (hc1 : cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(pt c M1 f1 ∗ pt c M2 f2 ∗ pt c M3 f3 ∗ pt c M4 f4 ∗ pt c M5 f5 ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
    ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  sl_exec_parts (disch := first | sl_exact hc1 | sl_exact hc2)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

theorem run_mid (c : Dev nD) (i : grid0.Coords) (hc1 : ¬ cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(pt c M1 f1 ∗ pt c M2 f2 ∗ pt c M3 f3 ∗ pt c M4 f4 ∗ pt c M5 f5 ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
    ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  sl_exec_parts (disch := first | sl_exact hc1 | sl_exact hc2)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

theorem run_last (c : Dev nD) (i : grid0.Coords) (hc1 : ¬ cond1 i) (hc2 : k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(pt c M1 f1 ∗ pt c M2 f2 ∗ pt c M3 f3 ∗ pt c M4 f4 ∗ pt c M5 f5 ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
    ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  sl_exec_parts (disch := first | sl_exact hc1 | sl_exact hc2)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.KernelIdeal.Body

end
-- ==== Proof.KIFrame.lean ====
module

public import proofs.«01_k».proof.Proof.KIBody
public import proofs.«01_k».proof.Proof.Gen.KernelIdeal.Frame
public import proofs.«01_k».proof.Proof.Gen.KernelIdeal.Points

/-! The frame of `KernelIdeal`: the program runs, terminates without a fault, leaves its arguments as they were and every
semaphore counter at zero. The body's run at a point says only that each buffer then holds something. -/

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UR sig nD τ) ℕ

/-- No grid coordinate meets both branch conditions: the first step is not the last. -/
theorem not_both (i : grid0.Coords) (h : cond1 i) : ¬ k0_cond2 i = 1#1 := by
  have key : ∀ j : Fin 28, cond1 (fun a => match a with | ⟨0, _⟩ => j) → ¬ k0_cond2 (fun a => match a with | ⟨0, _⟩ => j) = 1#1 := by decide
  exact key (jOf i) h

/-- The body at any grid coordinate: the inputs come back as they were, every other buffer holding something. -/
theorem run_any (c : Dev nD) (i : grid0.Coords)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(pt c M1 f1 ∗ pt c M2 f2 ∗ pt c M3 f3 ∗ pt c M4 f4 ∗ pt c M5 f5 ∗ (∃ f, pt c M6 f) ∗ (∃ f, pt c M7 f) ∗ (∃ f, pt c M8 f) ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
    ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  by_cases hc1 : cond1 i
  · exact run_first c i hc1 (not_both i hc1) M1 h1 M2 h2 M3 h3 M4 h4 M5 h5 M6 h6 M7 h7 M8 h8 M9 h9 M10 h10 M11 h11 M12 h12 M13 h13 M14 h14 M15 h15 M16 h16 M17 h17 f1 f2 f3 f4 f5 f6 f7 f8 f9 f10 f11 f12 f13 f14 f15 f16 f17 E Q
  · by_cases hc2 : k0_cond2 i = 1#1
    · exact run_last c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f6 f7 f8 f9 f10 f11 f12 f13 f14 f15 f16 f17 E Q
    · exact run_mid c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f6 f7 f8 f9 f10 f11 f12 f13 f14 f15 f16 f17 E Q

variable (m : (ℓ : Loc nD τ sig) → Buf (Elt F) ℓ) (ρ : Dev nD → PrngReg)

/-- Proof data that ask nothing of what the body leaves. -/
def rdatF (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)

theorem owns_pt (c : Dev nD) {sp : Space} {sh : Shape} {e : EltTy} {M : Memref sig .tc sp sh e} (h : M.IsWhole) (X : sh.Idx → Elt F e) :
    (owns (c : Thread nD τ) M fullShare X : sProp 𝕄) ⊢ iprop(∃ f, pt c M f) := by
  unfold owns pt; rw [h.set_eq_univ]
  iintro ⟨%f, -, H⟩; iexists f; iexact H

theorem pt_owns (c : Dev nD) {sp : Space} {sh : Shape} {e : EltTy} {M : Memref sig .tc sp sh e} (h : M.IsWhole) (f : Bf (F := F) c M) :
    pt c M f ⊢ (iprop(∃ X, ⌜True⌝ ∗ owns (c : Thread nD τ) M fullShare X) : sProp 𝕄) := by
  unfold owns pt
  iintro H; iexists (M.view.read _ f); isplitr
  · ipureintro; trivial
  rw [h.set_eq_univ]; iexists f; isplitr
  · ipureintro; rfl
  iexact H

/-- What the body is handed at point `t`. -/
def bodyPre (c : Dev nD) (t : Fin cfg0.N) (Y : (w : Fin cfg0.W) → (cfg0.win w).block.Idx → Elt F (cfg0.win w).elt) : sProp 𝕄 :=
  iprop((rdatF m c).Φ t.castSucc ∗ (rdatF m c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10))
/-- What the body hands back at point `t`. -/
def bodyPost (c : Dev nD) (t : Fin cfg0.N) : sProp 𝕄 :=
  iprop((rdatF m c).Φ t.succ ∗ (rdatF m c).owesAt () t.succ ∗ (∃ X, ⌜True⌝ ∗ owns (c : Thread nD τ) (ms0_0 t) fullShare X) ∗ (∃ X, ⌜True⌝ ∗ owns (c : Thread nD τ) (ms0_1 t) fullShare X) ∗ (∃ X, ⌜True⌝ ∗ owns (c : Thread nD τ) (ms0_2 t) fullShare X) ∗ (∃ X, ⌜True⌝ ∗ owns (c : Thread nD τ) (ms0_3 t) fullShare X) ∗ (∃ X, ⌜True⌝ ∗ owns (c : Thread nD τ) (ms0_4 t) fullShare X) ∗ (∃ X, ⌜True⌝ ∗ owns (c : Thread nD τ) (ms0_5 t) fullShare X) ∗ (∃ X, ⌜True⌝ ∗ owns (c : Thread nD τ) (ms0_6 t) fullShare X) ∗ (∃ X, ⌜True⌝ ∗ owns (c : Thread nD τ) (ms0_7 t) fullShare X) ∗ (∃ X, ⌜True⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X))

theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t) := by
  unfold bodyPre bodyPost bodyAt0
  rw [show (rdatF m c).Φ t.succ = Pipeline.ΦA spec0 c from rfl, show (rdatF m c).Φ t.castSucc = Pipeline.ΦA spec0 c from rfl,
    show (rdatF m c).owesAt () t.succ = (rdatF m c).owesAt () t.castSucc from rfl]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩⟩, Hg⟩, Ho, H0, H1, H2, H3, H4, H5, H6, H7, H8, H9, H10⟩
  ihave G0 := (owns_pt c (M := ms0_0 t) (hstage0_0 ((cfg0.slots t 0).cast nbuf0_0)) (Y 0)) $$ H0
  icases G0 with ⟨%f0, H0⟩
  ihave G1 := (owns_pt c (M := ms0_1 t) (hstage0_1 ((cfg0.slots t 1).cast nbuf0_1)) (Y 1)) $$ H1
  icases G1 with ⟨%f1, H1⟩
  ihave G2 := (owns_pt c (M := ms0_2 t) (hstage0_2 ((cfg0.slots t 2).cast nbuf0_2)) (Y 2)) $$ H2
  icases G2 with ⟨%f2, H2⟩
  ihave G3 := (owns_pt c (M := ms0_3 t) (hstage0_3 ((cfg0.slots t 3).cast nbuf0_3)) (Y 3)) $$ H3
  icases G3 with ⟨%f3, H3⟩
  ihave G4 := (owns_pt c (M := ms0_4 t) (hstage0_4 ((cfg0.slots t 4).cast nbuf0_4)) (Y 4)) $$ H4
  icases G4 with ⟨%f4, H4⟩
  ihave G5 := (owns_pt c (M := ms0_5 t) (hstage0_5 ((cfg0.slots t 5).cast nbuf0_5)) (Y 5)) $$ H5
  icases G5 with ⟨%f5, H5⟩
  ihave G6 := (owns_pt c (M := ms0_6 t) (hstage0_6 ((cfg0.slots t 6).cast nbuf0_6)) (Y 6)) $$ H6
  icases G6 with ⟨%f6, H6⟩
  ihave G7 := (owns_pt c (M := ms0_7 t) (hstage0_7 ((cfg0.slots t 7).cast nbuf0_7)) (Y 7)) $$ H7
  icases G7 with ⟨%f7, H7⟩
  ihave G8 := (owns_pt c (M := ms0_8 t) (hstage0_8 ((cfg0.slots t 8).cast nbuf0_8)) (Y 8)) $$ H8
  icases G8 with ⟨%f8, H8⟩
  ihave G9 := (owns_pt c (M := ms0_9 t) (hstage0_9 ((cfg0.slots t 9).cast nbuf0_9)) (Y 9)) $$ H9
  icases G9 with ⟨%f9, H9⟩
  ihave G10 := (owns_pt c (M := ms0_10 t) (hstage0_10 ((cfg0.slots t 10).cast nbuf0_10)) (Y 10)) $$ H10
  icases G10 with ⟨%f10, H10⟩
  iapply (run_any c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f9 f10 s0 s1 s2 s3 s4 s5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, ⟨%g5, H5⟩, ⟨%g6, H6⟩, ⟨%g7, H7⟩, ⟨%g8, H8⟩, ⟨%g9, H9⟩, ⟨%g10, H10⟩, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    · iexact Hg
  isplitl [Ho]; · iexact Ho
  isplitl [H0]; · iapply (pt_owns c (M := ms0_0 t) (hstage0_0 ((cfg0.slots t 0).cast nbuf0_0)) _); iexact H0
  isplitl [H1]; · iapply (pt_owns c (M := ms0_1 t) (hstage0_1 ((cfg0.slots t 1).cast nbuf0_1)) _); iexact H1
  isplitl [H2]; · iapply (pt_owns c (M := ms0_2 t) (hstage0_2 ((cfg0.slots t 2).cast nbuf0_2)) _); iexact H2
  isplitl [H3]; · iapply (pt_owns c (M := ms0_3 t) (hstage0_3 ((cfg0.slots t 3).cast nbuf0_3)) _); iexact H3
  isplitl [H4]; · iapply (pt_owns c (M := ms0_4 t) (hstage0_4 ((cfg0.slots t 4).cast nbuf0_4)) _); iexact H4
  isplitl [H5]; · iapply (pt_owns c (M := ms0_5 t) (hstage0_5 ((cfg0.slots t 5).cast nbuf0_5)) _); iexact H5
  isplitl [H6]; · iapply (pt_owns c (M := ms0_6 t) (hstage0_6 ((cfg0.slots t 6).cast nbuf0_6)) _); iexact H6
  isplitl [H7]; · iapply (pt_owns c (M := ms0_7 t) (hstage0_7 ((cfg0.slots t 7).cast nbuf0_7)) _); iexact H7
  isplitl [H8]; · iapply (pt_owns c (M := ms0_8 t) (hstage0_8 ((cfg0.slots t 8).cast nbuf0_8)) _); iexact H8
  isplitl [H9]; · iapply (pt_owns c (M := ms0_9 t) (hstage0_9 ((cfg0.slots t 9).cast nbuf0_9)) _); iexact H9
  iapply (pt_owns c (M := ms0_10 t) (hstage0_10 ((cfg0.slots t 10).cast nbuf0_10)) _); iexact H10

/-- The body table's row is the body. -/
theorem defs₀_row (t : Fin cfg0.N) : defs₀ (F := F) .tc cfg0.body (cfg0.bodyArgs t (cfg0.slots t)) = bodyAt0 t := by
  unfold defs₀; rw [Defs.onTc_tc]

theorem body_obligationF (c : Dev nD) : (rdatF m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The run: every final state has the arrays the kernel only reads as they were, and every semaphore counter at zero. -/
theorem run_frame : θ_run defs (onTc (τ := τ) (main (F := F))) (s₀ m ρ)
    (fun r => Pipeline.RDat.FramePost cfg0 (rdatF m) (V m) r ∧ r.2.sem = fun _ => 0) :=
  Pipeline.RDat.θ_run_frame (Q' := _) cfgs (0 : Fin 1) launch0 defs₀ Variants.none (rdatF m) m ρ main
    (hbody := body_obligationF m) (hshare := fun c w => by unfold RDat.share; split <;> rfl)
    (howed := fun _ _ => rfl) (V := V m) (hmain := hmain m Variants.none) (hA := fun _ _ => rfl) (hΦ := fun _ _ => rfl)

/-- The frame claim's post. -/
theorem frame_post : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (by have := (h.1 c).1 3; rw [(rdatF m c).ArrAt_in 3 rfl] at this; exact this.trans (V_main_arg3 m c)),
      (by have := (h.1 c).1 4; rw [(rdatF m c).ArrAt_in 4 rfl] at this; exact this.trans (V_main_arg4 m c))⟩, h.2⟩) (run_frame m ρ)

end Cert.KernelIdeal.Body

end
-- ==== Proof.KIMid.lean ====
module

public import proofs.«01_k».proof.Proof.Gen.KernelIdeal.Skeleton
public import proofs.«01_k».proof.Proof.KIBody
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the body leaves at a step that is neither the first nor the last. -/
noncomputable def runMid (c : Dev nD) (i : grid0.Coords) (hc1 : ¬ cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f12 : Bf (F := F) c M12) (f13 : Bf (F := F) c M13) (f14 : Bf (F := F) c M14) (f15 : Bf (F := F) c M15) :
    { W : Bf (F := F) c M7 × Bf (F := F) c M8 × Bf (F := F) c M10 × Bf (F := F) c M11 × Bf (F := F) c M14 × Bf (F := F) c M15 × Bf (F := F) c M16 × Bf (F := F) c M17 //
      ∀ (f6 : Bf (F := F) c M6) (f7 : Bf (F := F) c M7) (f8 : Bf (F := F) c M8) (f9 : Bf (F := F) c M9) (f10 : Bf (F := F) c M10) (f11 : Bf (F := F) c M11) (f16 : Bf (F := F) c M16) (f17 : Bf (F := F) c M17) (E : Set ℕ) (Q : PUnit → sProp 𝕄),
      iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
        ∗ (iprop(pt c M1 f1 ∗ pt c M2 f2 ∗ pt c M3 f3 ∗ pt c M4 f4 ∗ pt c M5 f5 ∗ pt c M6 f6 ∗ pt c M7 W.1 ∗ pt c M8 W.2.1 ∗ pt c M9 f9 ∗ pt c M10 W.2.2.1 ∗ pt c M11 W.2.2.2.1 ∗ pt c M12 f12 ∗ pt c M13 f13 ∗ pt c M14 W.2.2.2.2.1 ∗ pt c M15 W.2.2.2.2.2.1 ∗ pt c M16 W.2.2.2.2.2.2.1 ∗ pt c M17 W.2.2.2.2.2.2.2) -∗ Q ⟨⟩))
      ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q } := by
  refine ⟨⟨?_, ?_, ?_, ?_, ?_, ?_, ?_, ?_⟩, fun f6 f7 f8 f9 f10 f11 f16 f17 E Q => ?run⟩
  case run =>
    iintro ⟨H1, H2, H3, H4, H5, H6, H7, H8, H9, H10, H11, H12, H13, H14, H15, H16, H17, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Body

end
-- ==== Proof.Quant.lean ====
module

public import Idealize.ShloMosaic.PureOps.Ideal
public import Idealize.ShloMosaic.PureOps.Ideal.Laws

/-! The quantiser of one element, over the extended reals: as the kernel computes it and as the reference states it. -/

@[expose] public section

noncomputable section

namespace Cert.Quant

open Idealize.ShloMosaic

/-- The factor that turns a natural logarithm into a binary one. -/
def L2 : EReal := (((Real.log 2)⁻¹ : ℝ) : EReal)

/-! ### Constants -/

/-- A normal pattern of a format of the IEEE kind, as the real it denotes. -/
theorem ieee_eq {e m w : ℕ} {b : BitVec w} {r : ℝ} (h1 : (b.extractLsb' m e).toNat ≠ 2 ^ e - 1) (h2 : (b.extractLsb' m e).toNat ≠ 0)
    (h : (if (b.extractLsb' (e + m) 1 == 1#1) = true then (-1 : ℝ) else 1) * ((2 ^ m + (b.extractLsb' 0 m).toNat : ℕ) : ℝ)
      * (2 : ℝ) ^ (((b.extractLsb' m e).toNat : ℤ) - (2 ^ (e - 1) - 1) - m) = r) : Ideal.ieee e m b = (r : EReal) := by
  simp only [Ideal.ieee]
  rw [if_neg h1, if_neg h2]
  exact congrArg _ h

theorem f32_eq {b : BitVec 32} {r : ℝ} (h1 : (b.extractLsb' 23 8).toNat ≠ 2 ^ 8 - 1) (h2 : (b.extractLsb' 23 8).toNat ≠ 0)
    (h : (if (b.extractLsb' (8 + 23) 1 == 1#1) = true then (-1 : ℝ) else 1) * ((2 ^ 23 + (b.extractLsb' 0 23).toNat : ℕ) : ℝ)
      * (2 : ℝ) ^ (((b.extractLsb' 23 8).toNat : ℤ) - (2 ^ (8 - 1) - 1) - (23 : ℕ)) = r) : Ideal.ofBits .f32 b = (r : EReal) :=
  ieee_eq h1 h2 h

theorem bf16_eq {b : BitVec 16} {r : ℝ} (h1 : (b.extractLsb' 7 8).toNat ≠ 2 ^ 8 - 1) (h2 : (b.extractLsb' 7 8).toNat ≠ 0)
    (h : (if (b.extractLsb' (8 + 7) 1 == 1#1) = true then (-1 : ℝ) else 1) * ((2 ^ 7 + (b.extractLsb' 0 7).toNat : ℕ) : ℝ)
      * (2 : ℝ) ^ (((b.extractLsb' 7 8).toNat : ℤ) - (2 ^ (8 - 1) - 1) - (7 : ℕ)) = r) : Ideal.ofBits .bf16 b = (r : EReal) :=
  ieee_eq h1 h2 h

theorem c_six : Ideal.ofBits .f32 0x40C00000#32 = ((6 : ℝ) : EReal) := f32_eq (by decide) (by decide) (by simp; norm_num)
theorem c_six' : Ideal.ofBits .bf16 0x40C0#16 = ((6 : ℝ) : EReal) := bf16_eq (by decide) (by decide) (by simp; norm_num)
theorem c_slack : Ideal.ofBits .f32 0x3F800800#32 = ((1 + 2 ^ (-12 : ℤ) : ℝ) : EReal) := f32_eq (by decide) (by decide) (by simp; norm_num)
theorem c_min : Ideal.ofBits .bf16 0x01C0#16 = ((3 * 2 ^ (-125 : ℤ) : ℝ) : EReal) := bf16_eq (by decide) (by decide) (by simp; norm_num)
theorem c_min' : Ideal.ofBits .f32 0x01C00000#32 = ((3 * 2 ^ (-125 : ℤ) : ℝ) : EReal) := f32_eq (by decide) (by decide) (by simp; norm_num)
theorem c_max : Ideal.ofBits .f32 0x7F7F0000#32 = ((255 * 2 ^ (120 : ℤ) : ℝ) : EReal) := f32_eq (by decide) (by decide) (by simp; norm_num)
theorem c_one : Ideal.ofBits .f32 0x3F800000#32 = ((1 : ℝ) : EReal) := f32_eq (by decide) (by decide) (by simp; norm_num)
theorem c_one' : Ideal.ofBits .bf16 0x3F80#16 = ((1 : ℝ) : EReal) := bf16_eq (by decide) (by decide) (by simp; norm_num)
theorem c_two : Ideal.ofBits .f32 0x40000000#32 = ((2 : ℝ) : EReal) := f32_eq (by decide) (by decide) (by simp; norm_num)
theorem c_two' : Ideal.ofBits .bf16 0x4000#16 = ((2 : ℝ) : EReal) := bf16_eq (by decide) (by decide) (by simp; norm_num)
theorem c_four : Ideal.ofBits .f32 0x40800000#32 = ((4 : ℝ) : EReal) := f32_eq (by decide) (by decide) (by simp; norm_num)
theorem c_four' : Ideal.ofBits .bf16 0x4080#16 = ((4 : ℝ) : EReal) := bf16_eq (by decide) (by decide) (by simp; norm_num)
theorem c_eight : Ideal.ofBits .f32 0x41000000#32 = ((8 : ℝ) : EReal) := f32_eq (by decide) (by decide) (by simp; norm_num)
theorem c_half : Ideal.ofBits .f32 0x3F000000#32 = ((1 / 2 : ℝ) : EReal) := f32_eq (by decide) (by decide) (by simp; norm_num)
theorem c_half' : Ideal.ofBits .bf16 0x3F00#16 = ((1 / 2 : ℝ) : EReal) := bf16_eq (by decide) (by decide) (by simp; norm_num)
theorem c_96 : Ideal.ofBits .f32 0x42C00000#32 = ((96 : ℝ) : EReal) := f32_eq (by decide) (by decide) (by simp; norm_num)
theorem c_194 : Ideal.ofBits .f32 0x43420000#32 = ((194 : ℝ) : EReal) := f32_eq (by decide) (by decide) (by simp; norm_num)
theorem c_392 : Ideal.ofBits .f32 0x43C40000#32 = ((392 : ℝ) : EReal) := f32_eq (by decide) (by decide) (by simp; norm_num)
theorem c_zero : Ideal.ofBits .f32 0x00000000#32 = 0 := by simp [Ideal.ofBits, Ideal.ieee]
theorem c_zero' : Ideal.ofBits .bf16 0x0000#16 = 0 := by simp [Ideal.ofBits, Ideal.ieee]
theorem c_bot : Ideal.ofBits .f32 0xFF800000#32 = ⊥ := by simp [Ideal.ofBits, Ideal.ieee]

/-- A pattern with exponent field `k` and nothing else is a power of two. -/
theorem pow_fields : ∀ k : Fin 256, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

/-- A pattern with exponent field `k` in `[1, 254]` and nothing else is `2 ^ (k - 127)`. -/
theorem ofBits_pow (k : ℕ) (h1 : 1 ≤ k) (h2 : k ≤ 254) :
    Ideal.ofBits .f32 (BitVec.ofNat 32 k <<< 23) = (((2 : ℝ) ^ ((k : ℤ) - 127) : ℝ) : EReal) := by
  obtain ⟨a, b, c⟩ := pow_fields ⟨k, by omega⟩
  dsimp only at a b c
  refine f32_eq (by rw [b]; omega) (by rw [b]; omega) ?_
  rw [a, b, c]
  rw [show ((k : ℤ) - 127) = ((k : ℤ) - (2 ^ (8 - 1) - 1) - (23 : ℕ)) + 23 by norm_num, zpow_add₀ (by norm_num)]
  norm_num
  ring

theorem shl23 (x : BitVec 32) : IntOp.shli .vector x 23#32 = x <<< 23 := rfl

/-! ### The two quantisers -/

/-- The exponent of a block of greatest magnitude `a` (not zero), less one. -/
def flo (a : EReal) : BitVec 32 :=
  Ideal.fptosi 32 (Ideal.liftRound Int.floor (Ideal.log (Ideal.div (a * Ideal.ofBits .f32 0x3F800800#32) (Ideal.ofBits .f32 0x40C00000#32)) * L2))

/-- The kernel's block scale. -/
def kscale (a : EReal) : EReal :=
  Scalar.select (Ideal.cmp .oge a (Ideal.ofBits .bf16 0x01C0#16))
    (Ideal.ofBits .f32 (IntOp.shli .vector (flo (max a (Ideal.ofBits .bf16 0x01C0#16)) + 128#32) 23#32)) (Ideal.ofBits .bf16 0x3F80#16)

/-- The kernel's scaled magnitude. -/
def ky (v a : EReal) : EReal :=
  min ((max v (-v)) * Ideal.div (Ideal.ofBits .f32 0x3F800000#32) (kscale a)) (Ideal.ofBits .bf16 0x40C0#16)

/-- The kernel's rounding bias at a scaled magnitude. -/
def km (y : EReal) : EReal :=
  Scalar.select (Ideal.cmp .olt y (Ideal.ofBits .bf16 0x4000#16)) (Ideal.ofBits .f32 0x42C00000#32)
    (Scalar.select (Ideal.cmp .olt y (Ideal.ofBits .bf16 0x4080#16)) (Ideal.ofBits .f32 0x43420000#32) (Ideal.ofBits .f32 0x43C40000#32))

/-- The kernel's rounding unit at a scaled magnitude. -/
def ku (y : EReal) : EReal :=
  Scalar.select (Ideal.cmp .olt y (Ideal.ofBits .bf16 0x4000#16)) (Ideal.ofBits .f32 0x3F000000#32)
    (Scalar.select (Ideal.cmp .olt y (Ideal.ofBits .bf16 0x4080#16)) (Ideal.ofBits .f32 0x3F800000#32) (Ideal.ofBits .f32 0x40000000#32))

/-- The kernel's biased integer. -/
def kzi (y : EReal) : EReal := Ideal.liftRound Ideal.roundHalfEven (Ideal.div (y + km y) (ku y))

/-- The kernel's rounded magnitude, scaled back. -/
def kr (v a : EReal) : EReal := (kzi (ky v a) * ku (ky v a) - km (ky v a)) * kscale a

/-- The kernel's quantised element. -/
def kg (v a : EReal) : EReal :=
  Scalar.select (Ideal.cmp .olt v (Ideal.ofBits .bf16 0x0000#16)) (Ideal.ofBits .bf16 0x0000#16 - kr v a) (kr v a)

/-- The reference's block exponent. -/
def rexp (a : EReal) : BitVec 32 :=
  Scalar.select (Ideal.cmp .oeq a (Ideal.ofBits .f32 0x00000000#32)) 0#32 (flo a + 1#32)

/-- The reference's scaled magnitude. -/
def ry (v a : EReal) : EReal :=
  min ((max v (-v)) * Ideal.exp2 (((0#32 - rexp a).toInt : ℝ) : EReal)) (Ideal.ofBits .f32 0x40C00000#32)

/-- The reference's code of a scaled magnitude. -/
def rc (y : EReal) : EReal :=
  Scalar.select (Ideal.cmp .olt y (Ideal.ofBits .f32 0x40000000#32)) (Ideal.liftRound Ideal.roundHalfEven (Ideal.ofBits .f32 0x40000000#32 * y))
    (Scalar.select (Ideal.cmp .olt y (Ideal.ofBits .f32 0x40800000#32))
      (Ideal.liftRound Ideal.roundHalfEven y + Ideal.ofBits .f32 0x40000000#32)
      (Ideal.liftRound Ideal.roundHalfEven (Ideal.div y (Ideal.ofBits .f32 0x40000000#32)) + Ideal.ofBits .f32 0x40800000#32))

/-- The reference's code of an element. -/
def rnib (v a : EReal) : BitVec 32 :=
  Ideal.fptosi 32 (Scalar.select (Ideal.cmp .olt v (Ideal.ofBits .f32 0x00000000#32)) (rc (ry v a) + Ideal.ofBits .f32 0x41000000#32) (rc (ry v a)))

/-- The value of a code. -/
def rdec (q : BitVec 32) : EReal :=
  let c : EReal := (((q &&& 7#32).toInt : ℝ) : EReal)
  let mag : EReal := Scalar.select (Ideal.cmp .olt c (Ideal.ofBits .bf16 0x4080#16)) (Ideal.ofBits .bf16 0x3F00#16 * c)
    (Scalar.select (Ideal.cmp .olt c (Ideal.ofBits .bf16 0x40C0#16)) (c - Ideal.ofBits .bf16 0x4000#16)
      (Ideal.ofBits .bf16 0x4000#16 * (c - Ideal.ofBits .bf16 0x4080#16)))
  Scalar.select (Scalar.cmpi .ne (q &&& 8#32) 0#32) (Ideal.ofBits .bf16 0x0000#16 - mag) mag

/-- The value of a scale byte. -/
def rsc (s : BitVec 32) : EReal := Ideal.exp2 (((s - 127#32).toInt : ℝ) : EReal)

/-- The reference's quantised element. -/
def rg (v a : EReal) : EReal := rdec (rnib v a) * rsc (rexp a + 127#32)

/-! ### They agree -/

theorem rhe_bounds (x : ℝ) (n k : ℤ) (h0 : (n : ℝ) ≤ x) (h1 : x ≤ k) : n ≤ Ideal.roundHalfEven x ∧ Ideal.roundHalfEven x ≤ k := by
  have f0 : n ≤ ⌊x⌋ := Int.le_floor.mpr h0
  have f1 : ⌊x⌋ ≤ k := by exact_mod_cast (Int.floor_le x).trans h1
  have key : ⌊x⌋ = k → x - ⌊x⌋ < 1 / 2 := fun h => by rw [h]; linarith
  unfold Ideal.roundHalfEven
  dsimp only
  split_ifs with a b c
  · exact ⟨f0, f1⟩
  · refine ⟨by omega, ?_⟩
    rcases f1.lt_or_eq with h | h
    · omega
    · exact absurd (key h) a
  · exact ⟨f0, f1⟩
  · refine ⟨by omega, ?_⟩
    rcases f1.lt_or_eq with h | h
    · omega
    · exact absurd (key h) a

theorem rhe_add (x : ℝ) (n : ℤ) (hn : Even n) : Ideal.roundHalfEven (x + n) = Ideal.roundHalfEven x + n := by
  unfold Ideal.roundHalfEven
  dsimp only
  rw [Int.floor_add_intCast]
  have e : x + n - ((⌊x⌋ + n : ℤ) : ℝ) = x - ⌊x⌋ := by push_cast; ring
  rw [e]
  have ev : Even (⌊x⌋ + n) ↔ Even ⌊x⌋ := by rw [Int.even_add]; simp [hn]
  simp only [ev]
  split_ifs <;> ring

theorem select_ofBool {α : Type} (p : Prop) [Decidable p] (x y : α) :
    Scalar.select (BitVec.ofBool (decide p)) x y = if p then x else y := by
  by_cases h : p <;> simp [Scalar.select, h]

theorem div_real (x y : ℝ) (h : y ≠ 0) : Ideal.div (x : EReal) (y : EReal) = ((x / y : ℝ) : EReal) := by
  unfold Ideal.div
  rw [if_neg (by simpa using h), div_eq_mul_inv]
  simp [EReal.coe_mul, EReal.coe_inv]

/-- The value of a magnitude code. -/
def mag (k : ℕ) : ℝ := if k ≤ 4 then k / 2 else if k ≤ 6 then k - 2 else 6

/-- At a scaled magnitude in `[0, 6]` both roundings pick one code `k`: the reference's code is `k`, the kernel's biased
integer is `k` modulo 8, and the kernel's magnitude is the code's. -/
theorem round_eq (y : ℝ) (h0 : 0 ≤ y) (h6 : y ≤ 6) :
    ∃ (k z : ℕ), k ≤ 7 ∧ z ≤ 199 ∧ z % 8 = k ∧ 192 ≤ z ∧ rc (y : EReal) = ((k : ℝ) : EReal) ∧ kzi (y : EReal) = ((z : ℝ) : EReal)
      ∧ kzi (y : EReal) * ku (y : EReal) - km (y : EReal) = ((mag k : ℝ) : EReal) := by
  unfold rc kzi km ku
  simp only [Ideal.cmp, select_ofBool, c_two, c_two', c_four, c_four', c_half, c_one, c_96, c_194, c_392, EReal.coe_lt_coe_iff]
  by_cases h2 : y < 2
  · obtain ⟨b0, b1⟩ := rhe_bounds (2 * y) 0 4 (by push_cast; linarith) (by push_cast; linarith)
    obtain ⟨r, hr⟩ := Int.eq_ofNat_of_zero_le b0
    refine ⟨r, r + 192, by omega, by omega, by omega, by omega, ?_, ?_⟩
    · rw [if_pos h2, ← EReal.coe_mul, Ideal.liftRound_coe, hr]; simp
    have hz : Ideal.liftRound Ideal.roundHalfEven (Ideal.div ((y : EReal) + ((96 : ℝ) : EReal)) ((1 / 2 : ℝ) : EReal)) = (((r + 192 : ℕ) : ℝ) : EReal) := by
      rw [← EReal.coe_add, div_real _ _ (by norm_num), Ideal.liftRound_coe,
        show (y + 96) / (1 / 2) = 2 * y + ((192 : ℤ) : ℝ) by push_cast; ring, rhe_add _ _ (by decide), hr]; simp
    rw [if_pos h2, if_pos h2, hz]
    refine ⟨rfl, ?_⟩
    rw [← EReal.coe_mul, ← EReal.coe_sub]
    unfold mag; rw [if_pos (by omega)]; congr 1; push_cast; ring
  by_cases h4 : y < 4
  · obtain ⟨b0, b1⟩ := rhe_bounds y 2 4 (by push_cast; linarith) (by push_cast; linarith)
    obtain ⟨r, hr⟩ := Int.eq_ofNat_of_zero_le (show 0 ≤ Ideal.roundHalfEven y by omega)
    refine ⟨r + 2, r + 194, by omega, by omega, by omega, by omega, ?_, ?_⟩
    · rw [if_neg h2, if_pos h4, Ideal.liftRound_coe, hr, ← EReal.coe_add]; simp
    have hz : Ideal.liftRound Ideal.roundHalfEven (Ideal.div ((y : EReal) + ((194 : ℝ) : EReal)) ((1 : ℝ) : EReal)) = (((r + 194 : ℕ) : ℝ) : EReal) := by
      rw [← EReal.coe_add, div_real _ _ (by norm_num), Ideal.liftRound_coe,
        show (y + 194) / 1 = y + ((194 : ℤ) : ℝ) by push_cast; ring, rhe_add _ _ (by decide), hr]; simp
    rw [if_neg h2, if_pos h4, if_neg h2, if_pos h4, hz]
    refine ⟨rfl, ?_⟩
    rw [← EReal.coe_mul, ← EReal.coe_sub]
    congr 1
    unfold mag
    have : r = 2 ∨ r = 3 ∨ r = 4 := by omega
    rcases this with rfl | rfl | rfl <;> norm_num
  · obtain ⟨b0, b1⟩ := rhe_bounds (y / 2) 2 3 (by push_cast; linarith) (by push_cast; linarith)
    obtain ⟨r, hr⟩ := Int.eq_ofNat_of_zero_le (show 0 ≤ Ideal.roundHalfEven (y / 2) by omega)
    refine ⟨r + 4, r + 196, by omega, by omega, by omega, by omega, ?_, ?_⟩
    · rw [if_neg h2, if_neg h4, div_real _ _ (by norm_num), Ideal.liftRound_coe, hr, ← EReal.coe_add]; simp
    have hz : Ideal.liftRound Ideal.roundHalfEven (Ideal.div ((y : EReal) + ((392 : ℝ) : EReal)) ((2 : ℝ) : EReal)) = (((r + 196 : ℕ) : ℝ) : EReal) := by
      rw [← EReal.coe_add, div_real _ _ (by norm_num), Ideal.liftRound_coe,
        show (y + 392) / 2 = y / 2 + ((196 : ℤ) : ℝ) by push_cast; ring, rhe_add _ _ (by decide), hr]; simp
    rw [if_neg h2, if_neg h4, if_neg h2, if_neg h4, hz]
    refine ⟨rfl, ?_⟩
    rw [← EReal.coe_mul, ← EReal.coe_sub]
    congr 1
    unfold mag
    have : r = 2 ∨ r = 3 := by omega
    rcases this with rfl | rfl <;> norm_num

/-- A greatest magnitude the quantisers agree at. -/
def Ok (a : ℝ) : Prop := a = 0 ∨ (3 * 2 ^ (-125 : ℤ) ≤ a ∧ a ≤ 255 * 2 ^ (120 : ℤ))

theorem flo_eq (a : ℝ) (h0 : 3 * 2 ^ (-125 : ℤ) ≤ a) (h1 : a ≤ 255 * 2 ^ (120 : ℤ)) :
    ∃ n : ℤ, -126 ≤ n ∧ n ≤ 125 ∧ flo (a : EReal) = BitVec.ofInt 32 n := by
  have pos : 0 < a := lt_of_lt_of_le (by positivity) h0
  set x : ℝ := a * (1 + 2 ^ (-12 : ℤ)) / 6 with hx
  have px : 0 < x := by positivity
  have l2 : 0 < Real.log 2 := Real.log_pos (by norm_num)
  have l : Real.log x * (Real.log 2)⁻¹ = Real.log x / Real.log 2 := (div_eq_mul_inv _ _).symm
  have lo : (-126 : ℤ) ≤ ⌊Real.log x / Real.log 2⌋ := by
    rw [Int.le_floor, le_div_iff₀ l2, ← Real.log_zpow]
    refine Real.log_le_log (by positivity) ?_
    rw [hx, le_div_iff₀ (by norm_num), show (2 : ℝ) ^ (-126 : ℤ) * 6 = 3 * 2 ^ (-125 : ℤ) by norm_num]
    have t : 0 < a * (2 : ℝ) ^ (-12 : ℤ) := by positivity
    linarith
  have hi : ⌊Real.log x / Real.log 2⌋ < (126 : ℤ) := by
    rw [Int.floor_lt, div_lt_iff₀ l2, ← Real.log_zpow]
    refine Real.log_lt_log px ?_
    rw [hx, div_lt_iff₀ (by norm_num)]
    calc a * (1 + 2 ^ (-12 : ℤ)) ≤ (255 * 2 ^ (120 : ℤ)) * (1 + 2 ^ (-12 : ℤ)) := by gcongr
      _ < 2 ^ (126 : ℤ) * 6 := by norm_num
  refine ⟨⌊Real.log x / Real.log 2⌋, lo, by omega, ?_⟩
  unfold flo
  rw [c_slack, c_six, ← EReal.coe_mul, div_real _ _ (by norm_num), ← hx, Ideal.log_coe, if_neg (by linarith), L2, ← EReal.coe_mul, l,
    Ideal.liftRound_coe, Ideal.fptosi, Ideal.toIntClamped_coe]
  congr 1
  rcases le_or_gt 0 ⌊Real.log x / Real.log 2⌋ with h | h
  · rw [if_pos (by exact_mod_cast h), Int.floor_intCast]; omega
  · rw [if_neg (by rw [not_le]; exact_mod_cast h), Int.ceil_intCast]; omega

/-- At a greatest magnitude they agree at, both scales are `2 ^ e` for one exponent `e`. -/
theorem scale_eq (a : ℝ) (h : Ok a) : ∃ e : ℤ, -125 ≤ e ∧ e ≤ 126 ∧ kscale (a : EReal) = (((2 : ℝ) ^ e : ℝ) : EReal)
    ∧ rexp (a : EReal) = BitVec.ofInt 32 e := by
  unfold kscale rexp
  simp only [Ideal.cmp, select_ofBool, c_min, c_zero, c_one', shl23]
  rcases h with rfl | ⟨h0, h1⟩
  · refine ⟨0, by norm_num, by norm_num, ?_, ?_⟩
    · rw [if_neg]
      · simp
      · rw [EReal.coe_le_coe_iff, not_le]; positivity
    · rw [if_pos (by simp)]; rfl
  · have pos : 0 < a := lt_of_lt_of_le (by positivity) h0
    obtain ⟨n, n0, n1, hn⟩ := flo_eq a h0 h1
    refine ⟨n + 1, by omega, by omega, ?_, ?_⟩
    · rw [if_pos (EReal.coe_le_coe_iff.mpr h0), max_eq_left (EReal.coe_le_coe_iff.mpr h0), hn]
      obtain ⟨k, hk⟩ := Int.eq_ofNat_of_zero_le (show 0 ≤ n + 128 by omega)
      rw [show BitVec.ofInt 32 n + 128#32 = BitVec.ofNat 32 k by
        rw [show (128#32 : BitVec 32) = BitVec.ofInt 32 128 from rfl, ← BitVec.ofInt_add, hk]; simp,
        ofBits_pow k (by omega) (by omega)]
      congr 2; omega
    · rw [if_neg (by simpa using pos.ne'), hn, show (1#32 : BitVec 32) = BitVec.ofInt 32 1 from rfl, ← BitVec.ofInt_add]

theorem toInt_ofInt32 (e : ℤ) (h0 : -2147483648 ≤ e) (h1 : e < 2147483648) : (BitVec.ofInt 32 e).toInt = e := by
  rw [BitVec.toInt_ofInt]; simp only [Int.bmod]; omega

theorem coe_max (x y : ℝ) : max (x : EReal) (y : EReal) = ((max x y : ℝ) : EReal) := (EReal.coe_strictMono.monotone.map_max).symm

theorem coe_min (x y : ℝ) : min (x : EReal) (y : EReal) = ((min x y : ℝ) : EReal) := (EReal.coe_strictMono.monotone.map_min).symm

/-- The scaled magnitude is one real in `[0, 6]` for both. -/
theorem y_eq (v a : ℝ) (e : ℤ) (e0 : -125 ≤ e) (e1 : e ≤ 126) (hk : kscale (a : EReal) = (((2 : ℝ) ^ e : ℝ) : EReal))
    (hr : rexp (a : EReal) = BitVec.ofInt 32 e) :
    ∃ y : ℝ, 0 ≤ y ∧ y ≤ 6 ∧ ky (v : EReal) (a : EReal) = (y : EReal) ∧ ry (v : EReal) (a : EReal) = (y : EReal) := by
  refine ⟨min (|v| * (2 ^ e)⁻¹) 6, by positivity, min_le_right _ _, ?_, ?_⟩
  · unfold ky
    rw [hk, c_one, c_six', div_real _ _ (by positivity), ← EReal.coe_neg, coe_max, ← EReal.coe_mul, coe_min, one_div]; rfl
  · unfold ry
    rw [hr, c_six, BitVec.zero_sub, ← BitVec.ofInt_neg, toInt_ofInt32 _ (by omega) (by omega), Ideal.exp2_coe,
      ← EReal.coe_neg, coe_max, ← EReal.coe_mul, coe_min]
    congr 3
    show (2 : ℝ) ^ (((-e : ℤ) : ℝ)) = _
    rw [Real.rpow_intCast, zpow_neg]

theorem fptosi_nat (k : ℕ) (h : k < 1000) : Ideal.fptosi 32 ((k : ℝ) : EReal) = BitVec.ofNat 32 k := by
  rw [Ideal.fptosi, Ideal.toIntClamped_coe, if_pos (by positivity), Int.floor_natCast]
  rw [show max (-(2 ^ (32 - 1) : ℕ) : ℤ) (min (((2 ^ (32 - 1) : ℕ) : ℤ) - 1) (k : ℤ)) = (k : ℤ) by norm_num; omega]
  simp

theorem rdec_of (q : BitVec 32) (k : ℕ) (hk : k ≤ 7) (h : (q &&& 7#32).toInt = k) :
    rdec q = Scalar.select (Scalar.cmpi .ne (q &&& 8#32) 0#32) ((-mag k : ℝ) : EReal) ((mag k : ℝ) : EReal) := by
  unfold rdec
  rw [h]
  simp only [Ideal.cmp, select_ofBool, c_four', c_half', c_six', c_two', c_zero', ← EReal.coe_mul, ← EReal.coe_sub, EReal.coe_lt_coe_iff]
  have m : (if (((k : ℤ) : ℝ)) < 4 then ((1 / 2 * ((k : ℤ) : ℝ) : ℝ) : EReal)
      else if (((k : ℤ) : ℝ)) < 6 then ((((k : ℤ) : ℝ) - 2 : ℝ) : EReal) else ((2 * (((k : ℤ) : ℝ) - 4) : ℝ) : EReal)) = ((mag k : ℝ) : EReal) := by
    rw [← apply_ite, ← apply_ite]
    congr 1
    interval_cases k <;> norm_num [mag]
  rw [m, zero_sub, ← EReal.coe_neg]

theorem nib_fields : ∀ k : Fin 8, (BitVec.ofNat 32 k.val &&& 7#32).toInt = k.val ∧ (BitVec.ofNat 32 (k.val + 8) &&& 7#32).toInt = k.val
    ∧ Scalar.cmpi .ne (BitVec.ofNat 32 k.val &&& 8#32) 0#32 = 0#1 ∧ Scalar.cmpi .ne (BitVec.ofNat 32 (k.val + 8) &&& 8#32) 0#32 = 1#1 := by
  decide

theorem rdec_pos (k : ℕ) (hk : k ≤ 7) : rdec (BitVec.ofNat 32 k) = ((mag k : ℝ) : EReal) := by
  have f := nib_fields ⟨k, by omega⟩
  rw [rdec_of _ k hk f.1, f.2.2.1]; rfl

theorem rdec_neg (k : ℕ) (hk : k ≤ 7) : rdec (BitVec.ofNat 32 (k + 8)) = ((-mag k : ℝ) : EReal) := by
  have f := nib_fields ⟨k, by omega⟩
  rw [rdec_of _ k hk f.2.1, f.2.2.2]; rfl

/-- The code of an element, and what both make of it. -/
theorem quant (v a : ℝ) (h : Ok a) : ∃ (e : ℤ) (k z : ℕ), -125 ≤ e ∧ e ≤ 126 ∧ k ≤ 7 ∧ z ≤ 199 ∧ z % 8 = k ∧ 192 ≤ z
    ∧ kscale (a : EReal) = (((2 : ℝ) ^ e : ℝ) : EReal) ∧ rexp (a : EReal) = BitVec.ofInt 32 e
    ∧ kzi (ky (v : EReal) (a : EReal)) = ((z : ℝ) : EReal)
    ∧ rnib (v : EReal) (a : EReal) = BitVec.ofNat 32 (if v < 0 then k + 8 else k)
    ∧ kg (v : EReal) (a : EReal) = rg (v : EReal) (a : EReal) := by
  obtain ⟨e, e0, e1, hk, hr⟩ := scale_eq a h
  obtain ⟨y, y0, y6, hky, hry⟩ := y_eq v a e e0 e1 hk hr
  obtain ⟨k, z, k7, z1, zk, z0, hrc, hkz, hmag⟩ := round_eq y y0 y6
  have hn : rnib (v : EReal) (a : EReal) = BitVec.ofNat 32 (if v < 0 then k + 8 else k) := by
    unfold rnib
    simp only [Ideal.cmp, select_ofBool, c_zero, c_eight, hry, hrc]
    have : ((v : EReal) < 0) ↔ v < 0 := by exact_mod_cast EReal.coe_lt_coe_iff (x := v) (y := 0)
    simp only [this]
    split_ifs
    · rw [← EReal.coe_add, show ((k : ℝ) + 8) = ((k + 8 : ℕ) : ℝ) by push_cast; ring, fptosi_nat _ (by omega)]
    · rw [fptosi_nat _ (by omega)]
  refine ⟨e, k, z, e0, e1, k7, z1, zk, z0, hk, hr, by rw [hky, hkz], hn, ?_⟩
  have hs : rsc (rexp (a : EReal) + 127#32) = (((2 : ℝ) ^ e : ℝ) : EReal) := by
    unfold rsc
    rw [BitVec.add_sub_cancel, hr, toInt_ofInt32 _ (by omega) (by omega), Ideal.exp2_coe]
    congr 1
    show (2 : ℝ) ^ ((e : ℤ) : ℝ) = _
    rw [Real.rpow_intCast]
  unfold kg rg kr
  rw [hky, hmag, hk, hn, hs]
  simp only [Ideal.cmp, select_ofBool, c_zero']
  have : ((v : EReal) < 0) ↔ v < 0 := by exact_mod_cast EReal.coe_lt_coe_iff (x := v) (y := 0)
  simp only [this]
  split_ifs
  · rw [rdec_neg _ k7, ← EReal.coe_mul, ← EReal.coe_mul, zero_sub, ← EReal.coe_neg]; congr 1; ring
  · rw [rdec_pos _ k7]

end Cert.Quant

end
-- ==== Proof.KICol.lean ====
module

public import proofs.«01_k».proof.Proof.KIMid
public import proofs.«01_k».proof.Proof.Quant
public import Idealize.ShloMosaic.Lib.ValueIdx
public import Idealize.ShloMosaic.Lib.Pipeline.Value

/-! The column quantiser of the kernel's body, read at an element, over the extended reals. -/

@[expose] public section

set_option backward.isDefEq.respectTransparency.types false
set_option maxRecDepth 8000

noncomputable section

namespace Cert.KernelIdeal.Val

open Idealize.ShloMosaic Idealize.ShloMosaic.ValueIdx Cert.KernelIdeal Cert.KernelIdeal.Gen Cert.KernelIdeal.Body Cert.Quant

theorem named_log2e : Named.named (F := Ideal) κ "log2e" (φ := .f32) 0x3FB8AA3B#32 = L2 := by
  show (κ "log2e").getD _ = _
  rw [show κ "log2e" = some L2 from rfl]
  rfl

/-- The greatest magnitude of column `n` of a block of 32 rows. -/
def cmax (v : S32x512.Idx → EReal) (n : Fin 512) : EReal :=
  (Finset.univ : Finset (Fin 32)).fold max ⊥ (fun k => max (v (ix2 k n)) (-(v (ix2 k n))))

/-- A block of 32 rows, each column quantised as one block. -/
def col (v : S32x512.Idx → EReal) : S32x512.Idx → EReal := fun i => kg (v i) (cmax v (i 1))

/-- A value for each column, at every row of the block. -/
def colR (m : FVec Ideal S512 .f32) : FVec Ideal S32x512 .bf16 :=
  truncf .bf16 (broadcastTo S32x512 (shapeCast S1x512 (shapeCast S1x512 m
    shapeCasts_S512_S1x512) shapeCasts_S1x512_S1x512) broadcasts_S1x512_S32x512) bitsLt_bf16_f32

/-- Each column's greatest magnitude, as the body computes it. -/
def colM (v : FVec Ideal S32x512 .bf16) : FVec Ideal S512 .f32 :=
  multiReduction .maximumf [0] S512
    (extf .f32 (absf (shapeCast S32x512 v shapeCasts_S32x512_S32x512)) bitsLt_bf16_f32) 0xFF800000#32 reduces_S32x512_S512 (.inl rfl) rfl

theorem shapeCast_self {s : Shape} {α : Type} (x : s.Idx → α) (h : s.ShapeCasts s) : shapeCast s x h = x :=
  funext fun j => shapeCast_apply x h j j rfl

theorem colR_apply (m : FVec Ideal S512 .f32) (i : S32x512.Idx) : colR m i = m (ix1 (i 1)) := by
  unfold colR
  rw [truncf_apply]
  refine (broadcastTo_apply (s := S1x512) (t := S32x512) _ _ i (ix2 (n0 := 1) (n1 := 512) 0 (i 1)) (by intro a; match a with | 0 => rfl | 1 => rfl)).trans ?_
  rw [shapeCast_self]
  exact shapeCast_apply _ _ (ix2 0 (i 1)) (ix1 (i 1)) (by rw [Shape.rowMajor_val_one, Shape.rowMajor_val_two]; simp)

theorem colM_apply (v : FVec Ideal S32x512 .bf16) (n : Fin 512) : colM v (ix1 n) = cmax v n := by
  unfold colM
  refine (Ideal.multiReduction_maximumf_single _ _ _ _ _ _).trans ?_
  show Finset.fold max (Ideal.ofBits .f32 0xFF800000#32) _ _ = _
  rw [c_bot, shapeCast_self]
  unfold cmax
  congr 1
  funext k
  have : reduces_S32x512_S512.lift (ix1 n) k = ix2 k n := by
    funext a; match a with | 0 => rfl | 1 => rfl
  show max (v _) (-(v _)) = _
  rw [this]; rfl

/-- The exponents at an array of greatest magnitudes, as the body computes them. -/
def vflo (B : FVec Ideal S32x512 .bf16) : IVec S32x512 32 :=
  fptosi 32 (floor (mulf (log (divf (mulf (extf .f32 B bitsLt_bf16_f32) (broadcast S32x512 (Scalar.ofBits .f32 0x3F800800#32)))
    (broadcast S32x512 (Scalar.ofBits .f32 0x40C00000#32)))) (broadcast S32x512 L2)))

/-- The scales at an array of greatest magnitudes, as the body computes them. -/
def vscale (B : FVec Ideal S32x512 .bf16) : FVec Ideal S32x512 .bf16 :=
  select (cmpf .oge B (broadcast S32x512 (Scalar.ofBits .bf16 0x01C0#16)))
    (truncf .bf16 (bitcastToFloat .f32 (shli (addi (vflo (maximumf B (broadcast S32x512 (Scalar.ofBits .bf16 0x01C0#16))))
      (broadcast S32x512 128#32)) (broadcast S32x512 23#32))) bitsLt_bf16_f32)
    (broadcast S32x512 (Scalar.ofBits .bf16 0x3F80#16))

theorem vscale_apply (B : FVec Ideal S32x512 .bf16) (i : S32x512.Idx) : vscale B i = kscale (B i) := rfl

theorem pay266_eq (v : FVec Ideal S32x512 .bf16) : k0_pay266 (F := Ideal) v = vscale (colR (colM v)) := by
  unfold k0_pay266
  rw [named_log2e]
  rfl

theorem pay267_apply (a s : FVec Ideal S32x512 .bf16) (i : S32x512.Idx) :
    k0_pay267 (F := Ideal) a s i = min (a i * Ideal.div (Ideal.ofBits .f32 0x3F800000#32) (s i)) (Ideal.ofBits .bf16 0x40C0#16) := rfl

theorem pay268_apply (a s : FVec Ideal S32x512 .bf16) (i : S32x512.Idx) : k0_pay268 (F := Ideal) a s i = km (k0_pay267 (F := Ideal) a s i) := rfl

theorem pay269_apply (a s : FVec Ideal S32x512 .bf16) (i : S32x512.Idx) : k0_pay269 (F := Ideal) a s i = ku (k0_pay267 (F := Ideal) a s i) := rfl

theorem pay270_apply (a s : FVec Ideal S32x512 .bf16) (i : S32x512.Idx) : k0_pay270 (F := Ideal) a s i = kzi (k0_pay267 (F := Ideal) a s i) := by
  show Ideal.liftRound Ideal.roundHalfEven (Ideal.div (k0_pay267 (F := Ideal) a s i + k0_pay268 (F := Ideal) a s i) (k0_pay269 (F := Ideal) a s i)) = _
  rw [pay268_apply, pay269_apply]; rfl

theorem pay271_apply (a s : FVec Ideal S32x512 .bf16) (i : S32x512.Idx) : k0_pay271 (F := Ideal) a s i
    = (kzi (k0_pay267 (F := Ideal) a s i) * ku (k0_pay267 (F := Ideal) a s i) - km (k0_pay267 (F := Ideal) a s i)) * s i := by
  show (k0_pay270 (F := Ideal) a s i * k0_pay269 (F := Ideal) a s i - k0_pay268 (F := Ideal) a s i) * s i = _
  rw [pay268_apply, pay269_apply, pay270_apply]

theorem pay274_apply (v r : FVec Ideal S32x512 .bf16) (i : S32x512.Idx) : k0_pay274 (F := Ideal) v r i
    = Scalar.select (Ideal.cmp .olt (v i) (Ideal.ofBits .bf16 0x0000#16)) (Ideal.ofBits .bf16 0x0000#16 - r i) (r i) := by
  unfold k0_pay274
  exact congrFun (shapeCast_self _ _) i

theorem pay264_eq (v : FVec Ideal S32x512 .bf16) : k0_pay264 (F := Ideal) v = v := shapeCast_self _ _

theorem pay265_apply (v : FVec Ideal S32x512 .bf16) (i : S32x512.Idx) : k0_pay265 (F := Ideal) v i = max (v i) (-(v i)) := by
  show absf (k0_pay264 (F := Ideal) v) i = _
  rw [pay264_eq]; rfl

/-- What the body stores for a block of 32 rows is the block quantised along its columns. -/
theorem col_pay (v : FVec Ideal S32x512 .bf16) :
    k0_pay274 (F := Ideal) (k0_pay264 (F := Ideal) v) (k0_pay271 (F := Ideal) (k0_pay265 (F := Ideal) v) (k0_pay266 (F := Ideal) v)) = col v := by
  funext i
  rw [pay266_eq, pay264_eq, pay274_apply, pay271_apply, pay267_apply, pay265_apply, vscale_apply, colR_apply, colM_apply]
  rfl

end Cert.KernelIdeal.Val
-- ==== Proof.KIVal.lean ====
module

public import proofs.«01_k».proof.Proof.KICol

/-! What the body's stores leave, read at an element, over the extended reals: the quantised block and the products. -/

@[expose] public section

set_option backward.isDefEq.respectTransparency.types false
set_option maxRecDepth 8000

noncomputable section

namespace Cert.KernelIdeal.Val

open Idealize.ShloMosaic Idealize.ShloMosaic.ValueIdx Cert.KernelIdeal Cert.KernelIdeal.Gen Cert.KernelIdeal.Body Cert.Quant

/-! ### Rectangles of a rank-2 buffer -/

/-- A unit-stride rectangle of a rank-2 buffer places `x` at its offset plus `x`. -/
theorem emb_unit2 {M N m n : ℕ} (o p : ℕ) (inb : ∀ a, (![o, p] : Fin 2 → ℕ) a + (⟨2, ![m, n]⟩ : Shape).size a ≤ (⟨2, ![M, N]⟩ : Shape).size a)
    (x : (⟨2, ![m, n]⟩ : Shape).Idx) (h0 : o + (x 0).val < M) (h1 : p + (x 1).val < N) :
    (Rect.unit (s := (⟨2, ![M, N]⟩ : Shape)) ![o, p] (⟨2, ![m, n]⟩ : Shape).size inb).emb x = ix2 ⟨o + (x 0).val, h0⟩ ⟨p + (x 1).val, h1⟩ := by
  funext a
  refine Fin.ext ?_
  match a with
  | 0 => show o + 1 * (x 0).val = _; rw [one_mul]; rfl
  | 1 => show p + 1 * (x 1).val = _; rw [one_mul]; rfl

theorem mem_unit2 {M N m n : ℕ} (o p : ℕ) (inb : ∀ a, (![o, p] : Fin 2 → ℕ) a + (⟨2, ![m, n]⟩ : Shape).size a ≤ (⟨2, ![M, N]⟩ : Shape).size a)
    (y : (⟨2, ![M, N]⟩ : Shape).Idx) (h0 : o ≤ (y 0).val ∧ (y 0).val < o + m) (h1 : p ≤ (y 1).val ∧ (y 1).val < p + n) :
    y ∈ (Rect.unit (s := (⟨2, ![M, N]⟩ : Shape)) ![o, p] (⟨2, ![m, n]⟩ : Shape).size inb).set := by
  refine Rect.mem_set_unit.mpr fun a => ?_
  match a with
  | 0 => exact h0
  | 1 => exact h1

/-! ### The block quantised along its columns -/

/-- The `b`-th block of 32 rows. -/
def blk (X : S128x512.Idx → EReal) (b : Fin 4) : S32x512.Idx → EReal :=
  fun i => X (ix2 ⟨32 * b.val + (i 0).val, by have := idx2_lt0 i; omega⟩ (i 1))

/-- A grid step's block, quantised along its columns. -/
def gcolF (X : S128x512.Idx → EReal) : S128x512.Idx → EReal := fun j =>
  col (blk X ⟨(j 0).val / 32, by have := idx2_lt0 j; omega⟩) (ix2 ⟨(j 0).val % 32, by omega⟩ (j 1))

theorem gcolF_emb (X : S128x512.Idx → EReal) (b : Fin 4) (o : ℕ) (ho : o = 32 * b.val)
    (inb : ∀ a, (![o, 0] : Fin 2 → ℕ) a + S32x512.size a ≤ S128x512.size a) (x : S32x512.Idx) :
    gcolF X ((Rect.unit (s := S128x512) ![o, 0] S32x512.size inb).emb x) = col (blk X b) x := by
  have l0 := idx2_lt0 x
  have l1 := idx2_lt1 x
  subst ho
  rw [emb_unit2 (M := 128) (N := 512) (m := 32) (n := 512) (32 * b.val) 0 inb x (by omega) (by omega)]
  unfold gcolF
  have hb : (⟨(32 * b.val + (x 0).val) / 32, by omega⟩ : Fin 4) = b := Fin.ext (by show (32 * b.val + (x 0).val) / 32 = b.val; omega)
  have hx : (ix2 (⟨(32 * b.val + (x 0).val) % 32, by omega⟩ : Fin 32) (⟨0 + (x 1).val, by omega⟩ : Fin 512) : S32x512.Idx) = x := by
    conv_rhs => rw [eq_ix2 x]
    congr 1
    · exact Fin.ext (by show (32 * b.val + (x 0).val) % 32 = (x 0).val; omega)
    · exact Fin.ext (by show 0 + (x 1).val = (x 1).val; omega)
  show col (blk X (⟨(32 * b.val + (x 0).val) / 32, _⟩ : Fin 4)) (ix2 (⟨(32 * b.val + (x 0).val) % 32, _⟩ : Fin 32) (⟨0 + (x 1).val, _⟩ : Fin 512)) = _
  rw [hb, hx]

theorem readAt_blk {κ : Kind} {sp : Space} (v : View sig κ sp S128x512 .bf16) (f : v.ty.Contents (Elt Ideal)) (b : Fin 4) (o : ℕ) (ho : o = 32 * b.val)
    (inb : ∀ a, (![o, 0] : Fin 2 → ℕ) a + S32x512.size a ≤ S128x512.size a) :
    v.readAt (Elt Ideal) (Rect.unit (s := S128x512) ![o, 0] S32x512.size inb).toLoadRect f = blk (v.read (Elt Ideal) f) b := by
  funext x
  have l0 := idx2_lt0 x
  have l1 := idx2_lt1 x
  subst ho
  refine congrArg (v.read (Elt Ideal) f) ((emb_unit2 (M := 128) (N := 512) (m := 32) (n := 512) (32 * b.val) 0 inb x (by omega) (by omega)).trans ?_)
  congr 1
  exact Fin.ext (Nat.zero_add _)

section
variable (c : Dev nD) (M1 : Memref sig .tc .vmem S128x512 .bf16) (f1 : M1.view.ty.Contents (Elt Ideal))

/-- The block a grid step reads. -/
abbrev X1 : S128x512.Idx → EReal := M1.view.read (Elt Ideal) f1

theorem gcol_pieces : ∀ p ∈ runMid.sl.H17_4 (F := Ideal) c M1 f1, ∀ x, p.2 x = gcolF (X1 M1 f1) (p.1.emb x) := by
  intro p hp
  simp only [runMid.sl.H17_4, runMid.sl.H17_3, runMid.sl.H17_2, runMid.sl.H17_1, List.mem_cons, List.not_mem_nil, or_false] at hp
  rcases hp with rfl | rfl | rfl | rfl
  · intro x
    refine Eq.trans ?_ (gcolF_emb (X1 M1 f1) 3 96 rfl inb_S128x512_S32x512_96_0 x).symm
    rw [← readAt_blk M1.view f1 3 96 rfl inb_S128x512_S32x512_96_0, ← col_pay]
    rfl
  · intro x
    refine Eq.trans ?_ (gcolF_emb (X1 M1 f1) 2 64 rfl inb_S128x512_S32x512_64_0 x).symm
    rw [← readAt_blk M1.view f1 2 64 rfl inb_S128x512_S32x512_64_0, ← col_pay]
    rfl
  · intro x
    refine Eq.trans ?_ (gcolF_emb (X1 M1 f1) 1 32 rfl inb_S128x512_S32x512_32_0 x).symm
    rw [← readAt_blk M1.view f1 1 32 rfl inb_S128x512_S32x512_32_0, ← col_pay]
    rfl
  · intro x
    refine Eq.trans ?_ (gcolF_emb (X1 M1 f1) 0 0 rfl inb_S128x512_S32x512_0_0 x).symm
    rw [← readAt_blk M1.view f1 0 0 rfl inb_S128x512_S32x512_0_0, ← col_pay]
    rfl

theorem gcol_read (v : View sig .tc .vmem S128x512 .bf16) (f : v.ty.Contents (Elt Ideal)) :
    v.read (Elt Ideal) (v.writes (Elt Ideal) f (runMid.sl.H17_4 (F := Ideal) c M1 f1)) = gcolF (X1 M1 f1) := by
  funext y
  refine View.read_writes_apply_of_pieces (Val := Elt Ideal) (s := S128x512) (e := .bf16) _ _ (gcolF (X1 M1 f1)) _ (gcol_pieces c M1 f1) y ?_
  have l0 := idx2_lt0 y
  have l1 := idx2_lt1 y
  simp only [runMid.sl.H17_4, runMid.sl.H17_3, runMid.sl.H17_2, runMid.sl.H17_1, List.mem_cons, List.not_mem_nil, or_false, exists_eq_or_imp, exists_eq_left]
  by_cases h3 : 96 ≤ (y 0).val
  · exact Or.inl (mem_unit2 96 0 _ y ⟨h3, by omega⟩ ⟨by omega, by omega⟩)
  by_cases h2 : 64 ≤ (y 0).val
  · exact Or.inr (Or.inl (mem_unit2 64 0 _ y ⟨h2, by omega⟩ ⟨by omega, by omega⟩))
  by_cases h1 : 32 ≤ (y 0).val
  · exact Or.inr (Or.inr (Or.inl (mem_unit2 32 0 _ y ⟨h1, by omega⟩ ⟨by omega, by omega⟩)))
  · exact Or.inr (Or.inr (Or.inr (mem_unit2 0 0 _ y ⟨by omega, by omega⟩ ⟨by omega, by omega⟩)))

end

/-! ### The product of the weight gradient -/

theorem mm_dw (A : FVec Ideal S256x128 .bf16) (B : FVec Ideal S128x512 .bf16) (k : Fin 256) (n : Fin 512) :
    matmul (F := Ideal) dot_S256x128_S128x512_S256x512_1_0_0_1_n_n none A B (constant (F := Ideal) S256x512 .f32 0x00000000#32) (ix2 k n)
      = ∑ s : Fin 128, A (ix2 k s) * B (ix2 s n) := by
  refine (Ideal.matmul_constant_zero_apply dot_S256x128_S128x512_S256x512_1_0_0_1_n_n none A B (ix2 k n)).trans ?_
  refine (Equiv.sum_comp (contrEquiv1 dot_S256x128_S128x512_S256x512_1_0_0_1_n_n 128 rfl rfl).symm (fun k' => A (dot_S256x128_S128x512_S256x512_1_0_0_1_n_n.lhsIdx (ix2 k n) k') * B (dot_S256x128_S128x512_S256x512_1_0_0_1_n_n.rhsIdx (ix2 k n) k'))).symm.trans ?_
  refine Finset.sum_congr rfl fun s _ => ?_
  congr 2
  · funext a; match a with | 0 => rfl | 1 => rfl
  · funext a; match a with | 0 => rfl | 1 => rfl

/-- The product of the transposed activations with the quantised block. -/
def dwF (T : S4096x128.Idx → EReal) (G : S128x512.Idx → EReal) : S4096x512.Idx → EReal :=
  fun j => ∑ s : Fin 128, T (ix2 (j 0) s) * G (ix2 s (j 1))

theorem dwF_emb (T : S4096x128.Idx → EReal) (G : S128x512.Idx → EReal) (o : ℕ)
    (inb : ∀ a, (![o, 0] : Fin 2 → ℕ) a + S256x512.size a ≤ S4096x512.size a) (ho : o + 256 ≤ 4096) (x : S256x512.Idx) :
    dwF T G ((Rect.unit (s := S4096x512) ![o, 0] S256x512.size inb).emb x)
      = ∑ s : Fin 128, T (ix2 ⟨o + (x 0).val, by have := idx2_lt0 x; omega⟩ s) * G (ix2 s (x 1)) := by
  have l0 := idx2_lt0 x
  have l1 := idx2_lt1 x
  rw [emb_unit2 (M := 4096) (N := 512) (m := 256) (n := 512) o 0 inb x (by omega) (by omega)]
  have : (⟨0 + (x 1).val, by omega⟩ : Fin 512) = x 1 := Fin.ext (Nat.zero_add _)
  show ∑ s : Fin 128, T (ix2 _ s) * G (ix2 s (⟨0 + (x 1).val, _⟩ : Fin 512)) = _
  rw [this]

section
variable (c : Dev nD) (M1 : Memref sig .tc .vmem S128x512 .bf16) (f1 : M1.view.ty.Contents (Elt Ideal))
variable (M12 : Memref sig .tc .vmem S4096x128 .bf16) (f12 : M12.view.ty.Contents (Elt Ideal)) (M17 : Memref sig .tc .vmem S128x512 .bf16)

theorem v1369_eq : runMid.sl.v1369 (F := Ideal) c M1 M17 f1 = gcolF (X1 M1 f1) := by
  funext x
  have l0 := idx2_lt0 x
  have l1 := idx2_lt1 x
  refine (congrFun (gcol_read c M1 f1 M17.view M17.view.junk) _).trans (congrArg (gcolF (X1 M1 f1)) ?_)
  refine (emb_unit2 (M := 128) (N := 512) (m := 128) (n := 512) 0 0 inb_S128x512_S128x512_0_0 x (by omega) (by omega)).trans ?_
  conv_rhs => rw [eq_ix2 x]
  congr 1
  · exact Fin.ext (Nat.zero_add _)
  · exact Fin.ext (Nat.zero_add _)

/-- One store of the weight gradient: 256 rows of the product. -/
theorem dw_piece (o : ℕ) (inb : ∀ a, (![o, 0] : Fin 2 → ℕ) a + S256x512.size a ≤ S4096x512.size a)
    (inb' : ∀ a, (![o, 0] : Fin 2 → ℕ) a + S256x128.size a ≤ S4096x128.size a) (ho : o + 256 ≤ 4096) (x : S256x512.Idx) :
    matmul (F := Ideal) (φ₁ := .bf16) (φ₂ := .bf16) dot_S256x128_S128x512_S256x512_1_0_0_1_n_n none (M12.view.readAt (Elt Ideal) (Rect.unit (s := S4096x128) ![o, 0] S256x128.size inb').toLoadRect f12)
      (runMid.sl.v1369 (F := Ideal) c M1 M17 f1) (constant (F := Ideal) S256x512 .f32 0x00000000#32) x
    = dwF (M12.view.read (Elt Ideal) f12) (gcolF (X1 M1 f1)) ((Rect.unit (s := S4096x512) ![o, 0] S256x512.size inb).emb x) := by
  rw [dwF_emb _ _ o inb ho, v1369_eq]
  have e := eq_ix2 (n0 := 256) (n1 := 512) x
  refine (congrArg _ e).trans ((mm_dw _ _ _ _).trans ?_)
  refine Finset.sum_congr rfl fun s _ => ?_
  congr 1
  refine congrArg (M12.view.read (Elt Ideal) f12) ((emb_unit2 (M := 4096) (N := 128) (m := 256) (n := 128) o 0 inb' (ix2 (x 0) s) (by have := idx2_lt0 x; show o + (x 0).val < 4096; omega) (by show 0 + s.val < 128; omega)).trans ?_)
  congr 1
  exact Fin.ext (Nat.zero_add _)

theorem dw_pieces : ∀ p ∈ runMid.sl.H7_16 (F := Ideal) c M1 M12 M17 f1 f12, ∀ x, p.2 x = dwF (M12.view.read (Elt Ideal) f12) (gcolF (X1 M1 f1)) (p.1.emb x) := by
  refine List.forall_mem_cons.mpr ⟨fun x => dw_piece c M1 f1 M12 f12 M17 3840 inb_S4096x512_S256x512_3840_0 inb_S4096x128_S256x128_3840_0 (by omega) x, ?_⟩
  refine List.forall_mem_cons.mpr ⟨fun x => dw_piece c M1 f1 M12 f12 M17 3584 inb_S4096x512_S256x512_3584_0 inb_S4096x128_S256x128_3584_0 (by omega) x, ?_⟩
  refine List.forall_mem_cons.mpr ⟨fun x => dw_piece c M1 f1 M12 f12 M17 3328 inb_S4096x512_S256x512_3328_0 inb_S4096x128_S256x128_3328_0 (by omega) x, ?_⟩
  refine List.forall_mem_cons.mpr ⟨fun x => dw_piece c M1 f1 M12 f12 M17 3072 inb_S4096x512_S256x512_3072_0 inb_S4096x128_S256x128_3072_0 (by omega) x, ?_⟩
  refine List.forall_mem_cons.mpr ⟨fun x => dw_piece c M1 f1 M12 f12 M17 2816 inb_S4096x512_S256x512_2816_0 inb_S4096x128_S256x128_2816_0 (by omega) x, ?_⟩
  refine List.forall_mem_cons.mpr ⟨fun x => dw_piece c M1 f1 M12 f12 M17 2560 inb_S4096x512_S256x512_2560_0 inb_S4096x128_S256x128_2560_0 (by omega) x, ?_⟩
  refine List.forall_mem_cons.mpr ⟨fun x => dw_piece c M1 f1 M12 f12 M17 2304 inb_S4096x512_S256x512_2304_0 inb_S4096x128_S256x128_2304_0 (by omega) x, ?_⟩
  refine List.forall_mem_cons.mpr ⟨fun x => dw_piece c M1 f1 M12 f12 M17 2048 inb_S4096x512_S256x512_2048_0 inb_S4096x128_S256x128_2048_0 (by omega) x, ?_⟩
  refine List.forall_mem_cons.mpr ⟨fun x => dw_piece c M1 f1 M12 f12 M17 1792 inb_S4096x512_S256x512_1792_0 inb_S4096x128_S256x128_1792_0 (by omega) x, ?_⟩
  refine List.forall_mem_cons.mpr ⟨fun x => dw_piece c M1 f1 M12 f12 M17 1536 inb_S4096x512_S256x512_1536_0 inb_S4096x128_S256x128_1536_0 (by omega) x, ?_⟩
  refine List.forall_mem_cons.mpr ⟨fun x => dw_piece c M1 f1 M12 f12 M17 1280 inb_S4096x512_S256x512_1280_0 inb_S4096x128_S256x128_1280_0 (by omega) x, ?_⟩
  refine List.forall_mem_cons.mpr ⟨fun x => dw_piece c M1 f1 M12 f12 M17 1024 inb_S4096x512_S256x512_1024_0 inb_S4096x128_S256x128_1024_0 (by omega) x, ?_⟩
  refine List.forall_mem_cons.mpr ⟨fun x => dw_piece c M1 f1 M12 f12 M17 768 inb_S4096x512_S256x512_768_0 inb_S4096x128_S256x128_768_0 (by omega) x, ?_⟩
  refine List.forall_mem_cons.mpr ⟨fun x => dw_piece c M1 f1 M12 f12 M17 512 inb_S4096x512_S256x512_512_0 inb_S4096x128_S256x128_512_0 (by omega) x, ?_⟩
  refine List.forall_mem_cons.mpr ⟨fun x => dw_piece c M1 f1 M12 f12 M17 256 inb_S4096x512_S256x512_256_0 inb_S4096x128_S256x128_256_0 (by omega) x, ?_⟩
  refine List.forall_mem_cons.mpr ⟨fun x => dw_piece c M1 f1 M12 f12 M17 0 inb_S4096x512_S256x512_0_0 inb_S4096x128_S256x128_0_0 (by omega) x, ?_⟩
  exact fun p hp => absurd hp List.not_mem_nil

theorem dw_read (v : View sig .tc .vmem S4096x512 .f32) (f : v.ty.Contents (Elt Ideal)) :
    v.read (Elt Ideal) (v.writes (Elt Ideal) f (runMid.sl.H7_16 (F := Ideal) c M1 M12 M17 f1 f12))
      = dwF (M12.view.read (Elt Ideal) f12) (gcolF (X1 M1 f1)) := by
  funext y
  refine View.read_writes_apply_of_pieces (Val := Elt Ideal) (s := S4096x512) (e := .f32) _ _ (dwF (M12.view.read (Elt Ideal) f12) (gcolF (X1 M1 f1))) _ (dw_pieces c M1 f1 M12 f12 M17) y ?_
  have l0 := idx2_lt0 y
  have l1 := idx2_lt1 y
  rcases Nat.lt_or_ge (y 0).val 3840 with h | h
  swap
  · exact ⟨_, List.mem_cons_self, mem_unit2 3840 0 inb_S4096x512_S256x512_3840_0 y ⟨h, by omega⟩ ⟨by omega, by omega⟩⟩
  rcases Nat.lt_or_ge (y 0).val 3584 with h | h
  swap
  · exact ⟨_, List.mem_cons_of_mem _ (List.mem_cons_self), mem_unit2 3584 0 inb_S4096x512_S256x512_3584_0 y ⟨h, by omega⟩ ⟨by omega, by omega⟩⟩
  rcases Nat.lt_or_ge (y 0).val 3328 with h | h
  swap
  · exact ⟨_, List.mem_cons_of_mem _ (List.mem_cons_of_mem _ (List.mem_cons_self)), mem_unit2 3328 0 inb_S4096x512_S256x512_3328_0 y ⟨h, by omega⟩ ⟨by omega, by omega⟩⟩
  rcases Nat.lt_or_ge (y 0).val 3072 with h | h
  swap
  · exact ⟨_, List.mem_cons_of_mem _ (List.mem_cons_of_mem _ (List.mem_cons_of_mem _ (List.mem_cons_self))), mem_unit2 3072 0 inb_S4096x512_S256x512_3072_0 y ⟨h, by omega⟩ ⟨by omega, by omega⟩⟩
  rcases Nat.lt_or_ge (y 0).val 2816 with h | h
  swap
  · exact ⟨_, List.mem_cons_of_mem _ (List.mem_cons_of_mem _ (List.mem_cons_of_mem _ (List.mem_cons_of_mem _ (List.mem_cons_self)))), mem_unit2 2816 0 inb_S4096x512_S256x512_2816_0 y ⟨h, by omega⟩ ⟨by omega, by omega⟩⟩
  rcases Nat.lt_or_ge (y 0).val 2560 with h | h
  swap
  · exact ⟨_, List.mem_cons_of_mem _ (List.mem_cons_of_mem _ (List.mem_cons_of_mem _ (List.mem_cons_of_mem _ (List.mem_cons_of_mem _ (List.mem_cons_self))))), mem_unit2 2560 0 inb_S4096x512_S256x512_2560_0 y ⟨h, by omega⟩ ⟨by omega, by omega⟩⟩
  rcases Nat.lt_or_ge (y 0).val 2304 with h | h
  swap
  · exact ⟨_, List.mem_cons_of_mem _ (List.mem_cons_of_mem _ (List.mem_cons_of_mem _ (List.mem_cons_of_mem _ (List.mem_cons_of_mem _ (List.mem_cons_of_mem _ (List.mem_cons_self)))))), mem_unit2 2304 0 inb_S4096x512_S256x512_2304_0 y ⟨h, by omega⟩ ⟨by omega, by omega⟩⟩
  rcases Nat.lt_or_ge (y 0).val 2048 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit2 2048 0 inb_S4096x512_S256x512_2048_0 y ⟨h, by omega⟩ ⟨by omega, by omega⟩⟩
  rcases Nat.lt_or_ge (y 0).val 1792 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_unit2 1792 0 inb_S4096x512_S256x512_1792_0 y ⟨h, by omega⟩ ⟨by omega, by omega⟩⟩
  rcases Nat.lt_or_ge (y 0).val 1536 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_unit2 1536 0 inb_S4096x512_S256x512_1536_0 y ⟨h, by omega⟩ ⟨by omega, by omega⟩⟩
  rcases Nat.lt_or_ge (y 0).val 1280 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_unit2 1280 0 inb_S4096x512_S256x512_1280_0 y ⟨h, by omega⟩ ⟨by omega, by omega⟩⟩
  rcases Nat.lt_or_ge (y 0).val 1024 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_unit2 1024 0 inb_S4096x512_S256x512_1024_0 y ⟨h, by omega⟩ ⟨by omega, by omega⟩⟩
  rcases Nat.lt_or_ge (y 0).val 768 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_unit2 768 0 inb_S4096x512_S256x512_768_0 y ⟨h, by omega⟩ ⟨by omega, by omega⟩⟩
  rcases Nat.lt_or_ge (y 0).val 512 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_unit2 512 0 inb_S4096x512_S256x512_512_0 y ⟨h, by omega⟩ ⟨by omega, by omega⟩⟩
  rcases Nat.lt_or_ge (y 0).val 256 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_unit2 256 0 inb_S4096x512_S256x512_256_0 y ⟨h, by omega⟩ ⟨by omega, by omega⟩⟩
  rcases Nat.lt_or_ge (y 0).val 0 with h | h
  swap
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_unit2 0 0 inb_S4096x512_S256x512_0_0 y ⟨h, by omega⟩ ⟨by omega, by omega⟩⟩
  exact absurd h (Nat.not_lt_zero _)

end

end Cert.KernelIdeal.Val
-- ==== Proof.KIRow.lean ====
module

public import proofs.«01_k».proof.Proof.KIVal

/-! The row quantiser of the kernel's body, read at an element, over the extended reals: the greatest magnitude of
a block of 32 lanes by five exchanges between lanes, and the block quantised by it. -/

@[expose] public section

set_option backward.isDefEq.respectTransparency.types false
set_option maxRecDepth 8000

noncomputable section

namespace Cert.KernelIdeal.Val

open Idealize.ShloMosaic Idealize.ShloMosaic.ValueIdx Cert.KernelIdeal Cert.KernelIdeal.Gen Cert.KernelIdeal.Body Cert.Quant

/-! ### Five exchanges give the maximum of 32 lanes -/

/-- The lane that `l` exchanges with at distance `d`. -/
def lx (d : ℕ) (l : Fin 128) : Fin 128 := ⟨(l.val ^^^ d) % 128, Nat.mod_lt _ (by decide)⟩

/-- One exchange: each lane keeps the greater of its own value and its partner's. -/
def lex (d : ℕ) (f : Fin 128 → EReal) : Fin 128 → EReal := fun l => max (f l) (f (lx d l))

theorem lx_block : ∀ l : Fin 128, (lx 1 l).val / 32 = l.val / 32 ∧ (lx 2 l).val / 32 = l.val / 32 ∧ (lx 4 l).val / 32 = l.val / 32
    ∧ (lx 8 l).val / 32 = l.val / 32 ∧ (lx 16 l).val / 32 = l.val / 32 := by decide +kernel

theorem lx_near (j : Fin 5) : ∀ l p : Fin 128, l.val / 2 ^ (j.val + 1) = p.val / 2 ^ (j.val + 1) →
    l.val / 2 ^ j.val = p.val / 2 ^ j.val ∨ (lx (2 ^ j.val) l).val / 2 ^ j.val = p.val / 2 ^ j.val := by
  revert j; decide +kernel

theorem lex_le (d : ℕ) (f : Fin 128 → EReal) (M : EReal) (q : ℕ) (hd : ∀ l : Fin 128, (lx d l).val / 32 = l.val / 32)
    (h : ∀ l : Fin 128, l.val / 32 = q → f l ≤ M) (l : Fin 128) (hl : l.val / 32 = q) : lex d f l ≤ M :=
  max_le (h l hl) (h _ ((hd l).trans hl))

theorem le_lex (j : Fin 5) (f : Fin 128 → EReal) (x : EReal) (p : Fin 128)
    (h : ∀ l : Fin 128, l.val / 2 ^ j.val = p.val / 2 ^ j.val → x ≤ f l) (l : Fin 128)
    (hl : l.val / 2 ^ (j.val + 1) = p.val / 2 ^ (j.val + 1)) : x ≤ lex (2 ^ j.val) f l := by
  rcases lx_near j l p hl with h1 | h1
  · exact (h l h1).trans (le_max_left _ _)
  · exact (h _ h1).trans (le_max_right _ _)

/-- The greatest of the 32 lanes of `l`'s block. -/
def lmax (f : Fin 128 → EReal) (l : Fin 128) : EReal :=
  (Finset.univ : Finset (Fin 32)).fold max ⊥ (fun k => f ⟨32 * (l.val / 32) + k.val, by omega⟩)

theorem lex_all (f : Fin 128 → EReal) (l : Fin 128) : lex 16 (lex 8 (lex 4 (lex 2 (lex 1 f)))) l = lmax f l := by
  apply le_antisymm
  · have h0 : ∀ p : Fin 128, p.val / 32 = l.val / 32 → f p ≤ lmax f l := fun p hp => by
      refine (Finset.le_fold_max (f p)).mpr (Or.inr ⟨⟨p.val % 32, Nat.mod_lt _ (by decide)⟩, Finset.mem_univ _, le_of_eq (congrArg f (Fin.ext ?_))⟩)
      show p.val = 32 * (l.val / 32) + p.val % 32
      omega
    have h1 := lex_le 1 f _ _ (fun l => (lx_block l).1) h0
    have h2 := lex_le 2 _ _ _ (fun l => (lx_block l).2.1) h1
    have h3 := lex_le 4 _ _ _ (fun l => (lx_block l).2.2.1) h2
    have h4 := lex_le 8 _ _ _ (fun l => (lx_block l).2.2.2.1) h3
    exact lex_le 16 _ _ _ (fun l => (lx_block l).2.2.2.2) h4 l rfl
  · refine (Finset.fold_max_le _).mpr ⟨bot_le, fun k _ => ?_⟩
    have h0 : ∀ p : Fin 128, ∀ q : Fin 128, q.val / 2 ^ 0 = p.val / 2 ^ 0 → f p ≤ f q := fun p q h => by
      rw [pow_zero, Nat.div_one, Nat.div_one] at h
      rw [Fin.ext h]
    have hp := h0 ⟨32 * (l.val / 32) + k.val, by omega⟩
    have h1 := le_lex 0 f _ _ hp
    have h2 := le_lex 1 _ _ _ h1
    have h3 := le_lex 2 _ _ _ h2
    have h4 := le_lex 3 _ _ _ h3
    refine le_lex 4 _ _ _ h4 l ?_
    show l.val / 32 = (32 * (l.val / 32) + k.val) / 32
    omega

/-! ### The exchanges as the body computes them -/

/-- The partner's lane at distance `d`, as a vector of lane numbers. -/
def lidx (d : BitVec 32) : IVec S128x128 32 :=
  shapeCast S128x128 (shapeCast S128x128x1 (select
    (cmpi .slt (xori (iota .tc S128x128 32 [1] iota_S128x128_d1_w32) (broadcast S128x128 d)) (broadcast S128x128 0#32))
    (addi (xori (iota .tc S128x128 32 [1] iota_S128x128_d1_w32) (broadcast S128x128 d)) (broadcast S128x128 128#32))
    (xori (iota .tc S128x128 32 [1] iota_S128x128_d1_w32) (broadcast S128x128 d))) shapeCasts_S128x128_S128x128x1) shapeCasts_S128x128x1_S128x128

/-- One exchange of the body. -/
def vlex (d : BitVec 32) (a : FVec Ideal S128x128 .bf16) : FVec Ideal S128x128 .bf16 :=
  maximumf a (truncf .bf16 (dynamicGather 1 (extf .f32 a bitsLt_bf16_f32) (lidx d)) bitsLt_bf16_f32)

theorem lidx_apply (d : BitVec 32) (i : S128x128.Idx) : lidx d i
    = Scalar.select (IntOp.cmpi .slt (BitVec.ofNat 32 (i 1).val ^^^ d) 0#32) ((BitVec.ofNat 32 (i 1).val ^^^ d) + 128#32) (BitVec.ofNat 32 (i 1).val ^^^ d) := by
  unfold lidx
  refine (shapeCast_apply _ _ i (ix3 (n0 := 128) (n1 := 128) (n2 := 1) (i 0) (i 1) 0) (by rw [Shape.rowMajor_val_three, Shape.rowMajor_val_two]; show ((i 0).val * 128 + (i 1).val) * 1 + 0 = (i 0).val * 128 + (i 1).val; omega)).trans ?_
  refine (shapeCast_apply _ _ (ix3 (n0 := 128) (n1 := 128) (n2 := 1) (i 0) (i 1) 0) i (by rw [Shape.rowMajor_val_three, Shape.rowMajor_val_two]; show (i 0).val * 128 + (i 1).val = ((i 0).val * 128 + (i 1).val) * 1 + 0; omega)).trans ?_
  show Scalar.select (IntOp.cmpi .slt (BitVec.ofNat 32 (0 * 128 + (i 1).val) ^^^ d) 0#32) ((BitVec.ofNat 32 (0 * 128 + (i 1).val) ^^^ d) + 128#32) (BitVec.ofNat 32 (0 * 128 + (i 1).val) ^^^ d) = _
  rw [Nat.zero_mul, Nat.zero_add]

theorem lidx_nat : ∀ d : Fin 5, ∀ l : Fin 128, (Scalar.select (IntOp.cmpi .slt (BitVec.ofNat 32 l.val ^^^ BitVec.ofNat 32 (2 ^ d.val)) 0#32) ((BitVec.ofNat 32 l.val ^^^ BitVec.ofNat 32 (2 ^ d.val)) + 128#32) (BitVec.ofNat 32 l.val ^^^ BitVec.ofNat 32 (2 ^ d.val))).toNat % 128 = (lx (2 ^ d.val) l).val := by
  decide +kernel

theorem vlex_apply (j : Fin 5) (a : FVec Ideal S128x128 .bf16) (r l : Fin 128) :
    vlex (BitVec.ofNat 32 (2 ^ j.val)) a (ix2 r l) = lex (2 ^ j.val) (fun l => a (ix2 r l)) l := by
  refine congrArg (fun z => max (a (ix2 r l)) (a z)) ?_
  funext b
  match b with
  | 0 => rfl
  | 1 => exact Fin.ext ((congrArg (fun z : BitVec 32 => z.toNat % 128) (lidx_apply _ _)).trans (lidx_nat j l))

/-- The block's greatest magnitude at every lane, as the body computes it. -/
def rowM (v : FVec Ideal S128x128 .bf16) : FVec Ideal S128x128 .bf16 :=
  vlex 16#32 (vlex 8#32 (vlex 4#32 (vlex 2#32 (vlex 1#32 (absf (shapeCast S128x128 v shapeCasts_S128x128_S128x128))))))

theorem rowM_apply (v : FVec Ideal S128x128 .bf16) (r l : Fin 128) :
    rowM v (ix2 r l) = lmax (fun l => max (v (ix2 r l)) (-(v (ix2 r l)))) l := by
  unfold rowM
  rw [← lex_all]
  refine (vlex_apply 4 _ r l).trans (congrFun (congrArg (lex 16) ?_) l)
  funext l
  refine (vlex_apply 3 _ r l).trans (congrFun (congrArg (lex 8) ?_) l)
  funext l
  refine (vlex_apply 2 _ r l).trans (congrFun (congrArg (lex 4) ?_) l)
  funext l
  refine (vlex_apply 1 _ r l).trans (congrFun (congrArg (lex 2) ?_) l)
  funext l
  refine (vlex_apply 0 _ r l).trans (congrFun (congrArg (lex 1) ?_) l)
  funext l
  rw [shapeCast_self]
  rfl

/-! ### The quantiser as the body computes it -/

/-- The exponents at an array of greatest magnitudes. -/
def rflo (B : FVec Ideal S128x128 .bf16) : IVec S128x128 32 :=
  fptosi 32 (floor (mulf (log (divf (mulf (extf .f32 B bitsLt_bf16_f32) (broadcast S128x128 (Scalar.ofBits .f32 0x3F800800#32)))
    (broadcast S128x128 (Scalar.ofBits .f32 0x40C00000#32)))) (broadcast S128x128 (Named.named (F := Ideal) κ "log2e" (φ := .f32) 0x3FB8AA3B#32))))

/-- The scales at an array of greatest magnitudes. -/
def rscale (B : FVec Ideal S128x128 .bf16) : FVec Ideal S128x128 .bf16 :=
  select (cmpf .oge B (broadcast S128x128 (Scalar.ofBits .bf16 0x01C0#16)))
    (truncf .bf16 (bitcastToFloat .f32 (shli (addi (rflo (maximumf B (broadcast S128x128 (Scalar.ofBits .bf16 0x01C0#16))))
      (broadcast S128x128 128#32)) (broadcast S128x128 23#32))) bitsLt_bf16_f32)
    (broadcast S128x128 (Scalar.ofBits .bf16 0x3F80#16))

theorem rscale_apply (B : FVec Ideal S128x128 .bf16) (i : S128x128.Idx) : rscale B i = kscale (B i) := by
  unfold rscale rflo
  rw [named_log2e]
  rfl

/-- Magnitudes over their scale, clipped. -/
def rowY (v s : FVec Ideal S128x128 .bf16) : FVec Ideal S128x128 .bf16 :=
  minimumf (mulf (absf v) (truncf .bf16 (divf (broadcast S128x128 (Scalar.ofBits .f32 0x3F800000#32)) (extf .f32 s bitsLt_bf16_f32)) bitsLt_bf16_f32)) (broadcast S128x128 (Scalar.ofBits .bf16 0x40C0#16))

/-- The offset that the rounding adds. -/
def rowK (y : FVec Ideal S128x128 .bf16) : FVec Ideal S128x128 .bf16 :=
  truncf .bf16 (select (cmpf .olt y (broadcast S128x128 (Scalar.ofBits .bf16 0x4000#16))) (broadcast S128x128 (Scalar.ofBits .f32 0x42C00000#32))
    (select (cmpf .olt y (broadcast S128x128 (Scalar.ofBits .bf16 0x4080#16))) (broadcast S128x128 (Scalar.ofBits .f32 0x43420000#32)) (broadcast S128x128 (Scalar.ofBits .f32 0x43C40000#32)))) bitsLt_bf16_f32

/-- The rounding's unit. -/
def rowU (y : FVec Ideal S128x128 .bf16) : FVec Ideal S128x128 .f32 :=
  select (cmpf .olt y (broadcast S128x128 (Scalar.ofBits .bf16 0x4000#16))) (broadcast S128x128 (Scalar.ofBits .f32 0x3F000000#32))
    (select (cmpf .olt y (broadcast S128x128 (Scalar.ofBits .bf16 0x4080#16))) (broadcast S128x128 (Scalar.ofBits .f32 0x3F800000#32)) (broadcast S128x128 (Scalar.ofBits .f32 0x40000000#32)))

/-- The rounded quotients. -/
def rowZ (y : FVec Ideal S128x128 .bf16) : FVec Ideal S128x128 .f32 :=
  roundeven (divf (extf .f32 (addf y (rowK y)) bitsLt_bf16_f32) (rowU y))

/-- The dequantised magnitudes. -/
def rowR (y s : FVec Ideal S128x128 .bf16) : FVec Ideal S128x128 .bf16 :=
  mulf (subf (truncf .bf16 (mulf (rowZ y) (rowU y)) bitsLt_bf16_f32) (rowK y)) s

/-- 128 lanes quantised, with their signs. -/
def rowP (v : FVec Ideal S128x128 .bf16) : FVec Ideal S128x128 .bf16 :=
  shapeCast S128x128 (select (cmpf .olt (shapeCast S128x128 v shapeCasts_S128x128_S128x128) (broadcast S128x128 (Scalar.ofBits .bf16 0x0000#16)))
    (subf (broadcast S128x128 (Scalar.ofBits .bf16 0x0000#16)) (rowR (rowY (shapeCast S128x128 v shapeCasts_S128x128_S128x128) (rscale (rowM v))) (rscale (rowM v))))
    (rowR (rowY (shapeCast S128x128 v shapeCasts_S128x128_S128x128) (rscale (rowM v))) (rscale (rowM v)))) shapeCasts_S128x128_S128x128

theorem rowY_apply (v s : FVec Ideal S128x128 .bf16) (i : S128x128.Idx) :
    rowY v s i = min (max (v i) (-(v i)) * Ideal.div (Ideal.ofBits .f32 0x3F800000#32) (s i)) (Ideal.ofBits .bf16 0x40C0#16) := rfl
theorem rowK_apply (y : FVec Ideal S128x128 .bf16) (i : S128x128.Idx) : rowK y i = km (y i) := rfl
theorem rowU_apply (y : FVec Ideal S128x128 .bf16) (i : S128x128.Idx) : rowU y i = ku (y i) := rfl
theorem rowZ_apply (y : FVec Ideal S128x128 .bf16) (i : S128x128.Idx) : rowZ y i = kzi (y i) := by
  show Ideal.liftRound Ideal.roundHalfEven (Ideal.div (y i + rowK y i) (rowU y i)) = _
  rw [rowK_apply, rowU_apply]; rfl
theorem rowR_apply (y s : FVec Ideal S128x128 .bf16) (i : S128x128.Idx) : rowR y s i = (kzi (y i) * ku (y i) - km (y i)) * s i := by
  show (rowZ y i * rowU y i - rowK y i) * s i = _
  rw [rowZ_apply, rowU_apply, rowK_apply]

theorem rowP_apply (v : FVec Ideal S128x128 .bf16) (r l : Fin 128) :
    rowP v (ix2 r l) = kg (v (ix2 r l)) (lmax (fun l => max (v (ix2 r l)) (-(v (ix2 r l)))) l) := by
  unfold rowP
  rw [shapeCast_self, shapeCast_self]
  show Scalar.select (Ideal.cmp .olt (v (ix2 r l)) (Ideal.ofBits .bf16 0x0000#16)) (Ideal.ofBits .bf16 0x0000#16 - rowR _ _ (ix2 r l)) (rowR _ _ (ix2 r l)) = _
  rw [rowR_apply, rowY_apply, rscale_apply, rowM_apply]
  rfl

/-- A grid step's block, each run of 32 lanes quantised as one block. -/
def growF (X : S128x512.Idx → EReal) : S128x512.Idx → EReal := fun j =>
  kg (X j) ((Finset.univ : Finset (Fin 32)).fold max ⊥ (fun k =>
    max (X (ix2 (j 0) ⟨32 * ((j 1).val / 32) + k.val, by have := idx2_lt1 j; omega⟩)) (-(X (ix2 (j 0) ⟨32 * ((j 1).val / 32) + k.val, by have := idx2_lt1 j; omega⟩)))))

section
variable (c : Dev nD) (M1 : Memref sig .tc .vmem S128x512 .bf16) (f1 : M1.view.ty.Contents (Elt Ideal))

/-- The row-quantised stores: four tiles of 128 lanes. -/
theorem grow_list : runMid.sl.H16_4 (F := Ideal) c M1 f1 =
    [⟨Rect.unit (s := S128x512) ![0, 384] S128x128.size inb_S128x512_S128x128_0_384, rowP (M1.view.readAt (Elt Ideal) (Rect.unit (s := S128x512) ![0, 384] S128x128.size inb_S128x512_S128x128_0_384).toLoadRect f1)⟩,
     ⟨Rect.unit (s := S128x512) ![0, 256] S128x128.size inb_S128x512_S128x128_0_256, rowP (M1.view.readAt (Elt Ideal) (Rect.unit (s := S128x512) ![0, 256] S128x128.size inb_S128x512_S128x128_0_256).toLoadRect f1)⟩,
     ⟨Rect.unit (s := S128x512) ![0, 128] S128x128.size inb_S128x512_S128x128_0_128, rowP (M1.view.readAt (Elt Ideal) (Rect.unit (s := S128x512) ![0, 128] S128x128.size inb_S128x512_S128x128_0_128).toLoadRect f1)⟩,
     ⟨Rect.unit (s := S128x512) ![0, 0] S128x128.size inb_S128x512_S128x128_0_0, rowP (M1.view.readAt (Elt Ideal) (Rect.unit (s := S128x512) ![0, 0] S128x128.size inb_S128x512_S128x128_0_0).toLoadRect f1)⟩] := rfl

theorem grow_piece (p : ℕ) (hp : p % 128 = 0) (hp' : p ≤ 384) (inb : ∀ a, (![0, p] : Fin 2 → ℕ) a + S128x128.size a ≤ S128x512.size a) (x : S128x128.Idx) :
    rowP (M1.view.readAt (Elt Ideal) (Rect.unit (s := S128x512) ![0, p] S128x128.size inb).toLoadRect f1) x
      = growF (X1 M1 f1) ((Rect.unit (s := S128x512) ![0, p] S128x128.size inb).emb x) := by
  have l0 := idx2_lt0 x
  have l1 := idx2_lt1 x
  have rd : ∀ r l : Fin 128, M1.view.readAt (Elt Ideal) (Rect.unit (s := S128x512) ![0, p] S128x128.size inb).toLoadRect f1 (ix2 r l) = X1 M1 f1 (ix2 r ⟨p + l.val, by omega⟩) := fun r l => by
    refine congrArg (M1.view.read (Elt Ideal) f1) ((emb_unit2 (M := 128) (N := 512) (m := 128) (n := 128) 0 p inb (ix2 r l) (by show 0 + r.val < 128; omega) (by show p + l.val < 512; omega)).trans ?_)
    exact congrArg (fun z => ix2 z _) (Fin.ext (Nat.zero_add _))
  rw [emb_unit2 (M := 128) (N := 512) (m := 128) (n := 128) 0 p inb x (by omega) (by omega)]
  refine (congrArg _ (eq_ix2 (n0 := 128) (n1 := 128) x)).trans ((rowP_apply _ _ _).trans ?_)
  unfold growF lmax
  have e0 : (⟨0 + (x 0).val, by omega⟩ : Fin 128) = x 0 := Fin.ext (Nat.zero_add _)
  refine congrArg₂ kg ((rd _ _).trans ?_) (Finset.fold_congr fun k _ => ?_)
  · exact congrArg (fun z => X1 M1 f1 (ix2 z _)) e0.symm
  · refine congrArg (fun z : EReal => max z (-z)) ((rd _ _).trans ?_)
    refine congrArg (X1 M1 f1) (congrArg₂ ix2 e0.symm (Fin.ext ?_))
    show p + (32 * ((x 1).val / 32) + k.val) = 32 * ((p + (x 1).val) / 32) + k.val
    omega

theorem grow_read (v : View sig .tc .vmem S128x512 .bf16) (f : v.ty.Contents (Elt Ideal)) :
    v.read (Elt Ideal) (v.writes (Elt Ideal) f (runMid.sl.H16_4 (F := Ideal) c M1 f1)) = growF (X1 M1 f1) := by
  funext y
  rw [grow_list]
  refine View.read_writes_apply_of_pieces (Val := Elt Ideal) (s := S128x512) (e := .bf16) _ _ (growF (X1 M1 f1)) _ ?_ y ?_
  · refine List.forall_mem_cons.mpr ⟨fun x => grow_piece M1 f1 384 rfl (by omega) _ x, ?_⟩
    refine List.forall_mem_cons.mpr ⟨fun x => grow_piece M1 f1 256 rfl (by omega) _ x, ?_⟩
    refine List.forall_mem_cons.mpr ⟨fun x => grow_piece M1 f1 128 rfl (by omega) _ x, ?_⟩
    refine List.forall_mem_cons.mpr ⟨fun x => grow_piece M1 f1 0 rfl (by omega) _ x, ?_⟩
    exact fun p hp => absurd hp List.not_mem_nil
  · have l0 := idx2_lt0 y
    have l1 := idx2_lt1 y
    simp only [List.mem_cons, List.not_mem_nil, or_false, exists_eq_or_imp, exists_eq_left]
    by_cases h3 : 384 ≤ (y 1).val
    · exact Or.inl (mem_unit2 0 384 _ y ⟨by omega, by omega⟩ ⟨h3, by omega⟩)
    by_cases h2 : 256 ≤ (y 1).val
    · exact Or.inr (Or.inl (mem_unit2 0 256 _ y ⟨by omega, by omega⟩ ⟨h2, by omega⟩))
    by_cases h1 : 128 ≤ (y 1).val
    · exact Or.inr (Or.inr (Or.inl (mem_unit2 0 128 _ y ⟨by omega, by omega⟩ ⟨h1, by omega⟩)))
    · exact Or.inr (Or.inr (Or.inr (mem_unit2 0 0 _ y ⟨by omega, by omega⟩ ⟨by omega, by omega⟩)))

end

end Cert.KernelIdeal.Val
-- ==== Proof.KILast.lean ====
module

public import proofs.«01_k».proof.Proof.Gen.KernelIdeal.Skeleton
public import proofs.«01_k».proof.Proof.KIBody
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the body leaves at the last step. -/
noncomputable def runLast (c : Dev nD) (i : grid0.Coords) (hc1 : ¬ cond1 i) (hc2 : k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f12 : Bf (F := F) c M12) (f13 : Bf (F := F) c M13) (f14 : Bf (F := F) c M14) (f15 : Bf (F := F) c M15) :
    { W : Bf (F := F) c M6 × Bf (F := F) c M7 × Bf (F := F) c M8 × Bf (F := F) c M9 × Bf (F := F) c M10 × Bf (F := F) c M11 × Bf (F := F) c M14 × Bf (F := F) c M15 × Bf (F := F) c M16 × Bf (F := F) c M17 //
      ∀ (f6 : Bf (F := F) c M6) (f7 : Bf (F := F) c M7) (f8 : Bf (F := F) c M8) (f9 : Bf (F := F) c M9) (f10 : Bf (F := F) c M10) (f11 : Bf (F := F) c M11) (f16 : Bf (F := F) c M16) (f17 : Bf (F := F) c M17) (E : Set ℕ) (Q : PUnit → sProp 𝕄),
      iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
        ∗ (iprop(pt c M1 f1 ∗ pt c M2 f2 ∗ pt c M3 f3 ∗ pt c M4 f4 ∗ pt c M5 f5 ∗ pt c M6 W.1 ∗ pt c M7 W.2.1 ∗ pt c M8 W.2.2.1 ∗ pt c M9 W.2.2.2.1 ∗ pt c M10 W.2.2.2.2.1 ∗ pt c M11 W.2.2.2.2.2.1 ∗ pt c M12 f12 ∗ pt c M13 f13 ∗ pt c M14 W.2.2.2.2.2.2.1 ∗ pt c M15 W.2.2.2.2.2.2.2.1 ∗ pt c M16 W.2.2.2.2.2.2.2.2.1 ∗ pt c M17 W.2.2.2.2.2.2.2.2.2) -∗ Q ⟨⟩))
      ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q } := by
  refine ⟨⟨?_, ?_, ?_, ?_, ?_, ?_, ?_, ?_, ?_, ?_⟩, fun f6 f7 f8 f9 f10 f11 f16 f17 E Q => ?run⟩
  case run =>
    iintro ⟨H1, H2, H3, H4, H5, H6, H7, H8, H9, H10, H11, H12, H13, H14, H15, H16, H17, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Body

end
-- ==== Proof.KIFirst.lean ====
module

public import proofs.«01_k».proof.Proof.Gen.KernelIdeal.Skeleton
public import proofs.«01_k».proof.Proof.KIBody
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the body leaves at the first step. -/
noncomputable def runFirst (c : Dev nD) (i : grid0.Coords) (hc1 : cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := F) c M1) (f2 : Bf (F := F) c M2) (f3 : Bf (F := F) c M3) (f4 : Bf (F := F) c M4) (f5 : Bf (F := F) c M5) (f13 : Bf (F := F) c M13) :
    { W : Bf (F := F) c M7 × Bf (F := F) c M8 × Bf (F := F) c M10 × Bf (F := F) c M11 × Bf (F := F) c M12 × Bf (F := F) c M13 × Bf (F := F) c M14 × Bf (F := F) c M15 × Bf (F := F) c M16 × Bf (F := F) c M17 //
      ∀ (f6 : Bf (F := F) c M6) (f7 : Bf (F := F) c M7) (f8 : Bf (F := F) c M8) (f9 : Bf (F := F) c M9) (f10 : Bf (F := F) c M10) (f11 : Bf (F := F) c M11) (f12 : Bf (F := F) c M12) (f14 : Bf (F := F) c M14) (f15 : Bf (F := F) c M15) (f16 : Bf (F := F) c M16) (f17 : Bf (F := F) c M17) (E : Set ℕ) (Q : PUnit → sProp 𝕄),
      iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
        ∗ (iprop(pt c M1 f1 ∗ pt c M2 f2 ∗ pt c M3 f3 ∗ pt c M4 f4 ∗ pt c M5 f5 ∗ pt c M6 f6 ∗ pt c M7 W.1 ∗ pt c M8 W.2.1 ∗ pt c M9 f9 ∗ pt c M10 W.2.2.1 ∗ pt c M11 W.2.2.2.1 ∗ pt c M12 W.2.2.2.2.1 ∗ pt c M13 W.2.2.2.2.2.1 ∗ pt c M14 W.2.2.2.2.2.2.1 ∗ pt c M15 W.2.2.2.2.2.2.2.1 ∗ pt c M16 W.2.2.2.2.2.2.2.2.1 ∗ pt c M17 W.2.2.2.2.2.2.2.2.2) -∗ Q ⟨⟩))
      ⊢ wp frame (wpE (defs₀ (F := F)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q } := by
  refine ⟨⟨?_, ?_, ?_, ?_, ?_, ?_, ?_, ?_, ?_, ?_⟩, fun f6 f7 f8 f9 f10 f11 f12 f14 f15 f16 f17 E Q => ?run⟩
  case run =>
    iintro ⟨H1, H2, H3, H4, H5, H6, H7, H8, H9, H10, H11, H12, H13, H14, H15, H16, H17, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Body

end
-- ==== Proof.KIEq.lean ====
module

public import proofs.«01_k».proof.Proof.KIVal
public import proofs.«01_k».proof.Proof.KILast
public import proofs.«01_k».proof.Proof.KIFirst

/-! The stores of the first and of the last step against those of a middle step. -/

@[expose] public section

set_option backward.isDefEq.respectTransparency.types false
set_option maxRecDepth 8000

noncomputable section

namespace Cert.KernelIdeal.Val

open Idealize.ShloMosaic Idealize.ShloMosaic.ValueIdx Cert.KernelIdeal Cert.KernelIdeal.Gen Cert.KernelIdeal.Body Cert.Quant

section
variable (c : Dev nD) (M1 : Memref sig .tc .vmem S128x512 .bf16) (f1 : M1.view.ty.Contents (Elt Ideal))
variable (M2 : Memref sig .tc .vmem S128x4096 .fp8e4m3) (f2 : M2.view.ty.Contents (Elt Ideal))
variable (M3 : Memref sig .tc .vmem S4x4096 .i8) (f3 : M3.view.ty.Contents (Elt Ideal))
variable (M12 : Memref sig .tc .vmem S4096x128 .bf16) (f12 : M12.view.ty.Contents (Elt Ideal)) (M17 : Memref sig .tc .vmem S128x512 .bf16)
variable (M16 : Memref sig .tc .vmem S128x512 .bf16)

theorem last_H17 : runLast.sl.H17_4 (F := Ideal) c M1 f1 = runMid.sl.H17_4 (F := Ideal) c M1 f1 := rfl
theorem last_H16 : runLast.sl.H16_4 (F := Ideal) c M1 f1 = runMid.sl.H16_4 (F := Ideal) c M1 f1 := rfl
theorem last_H8 : runLast.sl.H8_4 (F := Ideal) c M1 f1 = runMid.sl.H8_4 (F := Ideal) c M1 f1 := rfl
theorem last_H10 : runLast.sl.H10_2 (F := Ideal) c M1 f1 = runMid.sl.H10_2 (F := Ideal) c M1 f1 := rfl
theorem last_H11 : runLast.sl.H11_1 (F := Ideal) c M1 f1 = runMid.sl.H11_1 (F := Ideal) c M1 f1 := rfl
theorem last_H7 : runLast.sl.H7_16 (F := Ideal) c M1 M12 M17 f1 f12 = runMid.sl.H7_16 (F := Ideal) c M1 M12 M17 f1 f12 := rfl
theorem first_H17 : runFirst.sl.H17_4 (F := Ideal) c M1 f1 = runMid.sl.H17_4 (F := Ideal) c M1 f1 := rfl
theorem first_H16 : runFirst.sl.H16_4 (F := Ideal) c M1 f1 = runMid.sl.H16_4 (F := Ideal) c M1 f1 := rfl
theorem first_H8 : runFirst.sl.H8_4 (F := Ideal) c M1 f1 = runMid.sl.H8_4 (F := Ideal) c M1 f1 := rfl
theorem first_H10 : runFirst.sl.H10_2 (F := Ideal) c M1 f1 = runMid.sl.H10_2 (F := Ideal) c M1 f1 := rfl
theorem first_H11 : runFirst.sl.H11_1 (F := Ideal) c M1 f1 = runMid.sl.H11_1 (F := Ideal) c M1 f1 := rfl
theorem first_H7 : runFirst.sl.H7_16 (F := Ideal) c M1 M2 M3 M12 M17 f1 f2 f3 = runMid.sl.H7_16 (F := Ideal) c M1 M12 M17 f1 (M12.view.writes (Elt Ideal) M12.view.junk (runFirst.sl.H12_128 c M2 M3 f2 f3)) := rfl

end

/-! ### The activations, scaled and transposed at the first step -/

/-- A stored scale code read as the power of two it names. -/
def dsc (s : BitVec 8) : EReal := Ideal.ofBits .f32 (IntOp.shli .vector (s.setWidth 32) 23#32)

section
variable (c : Dev nD) (M2 : Memref sig .tc .vmem S128x4096 .fp8e4m3) (f2 : M2.view.ty.Contents (Elt Ideal))
variable (M3 : Memref sig .tc .vmem S4x4096 .i8) (f3 : M3.view.ty.Contents (Elt Ideal))

/-- Rows `o … o+31` of the activations times the scales of row `b`. -/
def xrow (o b : ℕ) (i2 : ∀ a, (![o, 0] : Fin 2 → ℕ) a + S32x4096.size a ≤ S128x4096.size a) (i3 : ∀ a, (![b, 0] : Fin 2 → ℕ) a + S1x4096.size a ≤ S4x4096.size a) : FVec Ideal S32x4096 .bf16 :=
  mulf (extf .bf16 (shapeCast S32x4096 (M2.view.readAt (Elt Ideal) (Rect.unit (s := S128x4096) ![o, 0] S32x4096.size i2).toLoadRect f2) shapeCasts_S32x4096_S32x4096 : FVec Ideal S32x4096 .fp8e4m3) bitsLt_fp8e4m3_bf16)
    (broadcastTo S32x4096 (truncf .bf16 (bitcastToFloat (F := Ideal) .f32 (shli (extui 32 (shapeCast S1x4096 (M3.view.readAt (Elt Ideal) (Rect.unit (s := S4x4096) ![b, 0] S1x4096.size i3).toLoadRect f3) shapeCasts_S1x4096_S1x4096 : IVec S1x4096 8)) (constantI S1x4096 32 23#32))) bitsLt_bf16_f32) broadcasts_S1x4096_S32x4096)

/-- Columns `p … p+127` of such rows, transposed. -/
def xpay (o b p : ℕ) (i2 : ∀ a, (![o, 0] : Fin 2 → ℕ) a + S32x4096.size a ≤ S128x4096.size a) (i3 : ∀ a, (![b, 0] : Fin 2 → ℕ) a + S1x4096.size a ≤ S4x4096.size a)
    (i4 : S32x4096.Slices ![0, p] S32x128) : FVec Ideal S128x32 .bf16 :=
  shapeCast S128x32 (transpose S128x32 [1, 0] (extractStridedSlice S32x128 ![0, p] (xrow M2 f2 M3 f3 o b i2 i3) i4) transposes_S32x128_p1_0_S128x32) shapeCasts_S128x32_S128x32

theorem xin2 (n : ℕ) (h : n < 128) : ∀ a, (![n / 32 * 32, 0] : Fin 2 → ℕ) a + S32x4096.size a ≤ S128x4096.size a := fun a => by
  match a with
  | 0 => show n / 32 * 32 + 32 ≤ 128; omega
  | 1 => show 0 + 4096 ≤ 4096; omega
theorem xin3 (n : ℕ) (h : n < 128) : ∀ a, (![n / 32, 0] : Fin 2 → ℕ) a + S1x4096.size a ≤ S4x4096.size a := fun a => by
  match a with
  | 0 => show n / 32 + 1 ≤ 4; omega
  | 1 => show 0 + 4096 ≤ 4096; omega
theorem xin4 (n : ℕ) : S32x4096.Slices ![0, n % 32 * 128] S32x128 := ⟨rfl, fun a => by
  match a with
  | 0 => show 0 + 32 ≤ 32; omega
  | 1 => show n % 32 * 128 + 128 ≤ 4096; omega⟩
theorem xin12 (n : ℕ) (h : n < 128) : ∀ a, (![n % 32 * 128, n / 32 * 32] : Fin 2 → ℕ) a + S128x32.size a ≤ S4096x128.size a := fun a => by
  match a with
  | 0 => show n % 32 * 128 + 128 ≤ 4096; omega
  | 1 => show n / 32 * 32 + 32 ≤ 128; omega

/-- The first `n` stores of the transposed activations. -/
def xtList : (n : ℕ) → n ≤ 128 → List (Idealize.ShloMosaic.View.Piece (Elt Ideal) S4096x128 .bf16)
  | 0, _ => []
  | n + 1, h => ⟨Rect.unit (s := S4096x128) ![n % 32 * 128, n / 32 * 32] S128x32.size (xin12 n h), xpay M2 f2 M3 f3 (n / 32 * 32) (n / 32) (n % 32 * 128) (xin2 n h) (xin3 n h) (xin4 n)⟩ :: xtList n (Nat.le_of_succ_le h)

theorem xt_list : runFirst.sl.H12_128 (F := Ideal) c M2 M3 f2 f3 = xtList M2 f2 M3 f3 128 le_rfl := rfl

/-- The activations times their scales, transposed. -/
def xtF (X : S128x4096.Idx → EReal) (s : S4x4096.Idx → BitVec 8) : S4096x128.Idx → EReal :=
  fun j => X (ix2 (j 1) (j 0)) * dsc (s (ix2 ⟨(j 1).val / 32, by have := idx2_lt1 j; omega⟩ (j 0)))

theorem xrow_apply (o b : ℕ) (i2 : ∀ a, (![o, 0] : Fin 2 → ℕ) a + S32x4096.size a ≤ S128x4096.size a) (i3 : ∀ a, (![b, 0] : Fin 2 → ℕ) a + S1x4096.size a ≤ S4x4096.size a)
    (r : Fin 32) (k : Fin 4096) (ho : o + r.val < 128) (hb : b < 4) :
    xrow M2 f2 M3 f3 o b i2 i3 (ix2 r k) = M2.view.read (Elt Ideal) f2 (ix2 ⟨o + r.val, ho⟩ k) * dsc (M3.view.read (Elt Ideal) f3 (ix2 ⟨b, hb⟩ k)) := by
  unfold xrow
  rw [mulf_apply]
  refine congrArg₂ (fun a b : EReal => a * b) ?_ ?_
  · refine (congrFun (shapeCast_self (s := S32x4096) (M2.view.readAt (Elt Ideal) (Rect.unit (s := S128x4096) ![o, 0] S32x4096.size i2).toLoadRect f2) shapeCasts_S32x4096_S32x4096) (ix2 r k)).trans ?_
    refine congrArg (M2.view.read (Elt Ideal) f2) ((emb_unit2 (M := 128) (N := 4096) (m := 32) (n := 4096) o 0 i2 (ix2 r k) ho (by show 0 + k.val < 4096; omega)).trans ?_)
    exact congrArg (ix2 _) (Fin.ext (Nat.zero_add _))
  · refine (broadcastTo_apply (s := S1x4096) (t := S32x4096) _ _ (ix2 r k) (ix2 (n0 := 1) (n1 := 4096) 0 k) (by intro a; match a with | 0 => rfl | 1 => rfl)).trans ?_
    refine (congrArg dsc (congrFun (shapeCast_self (s := S1x4096) (M3.view.readAt (Elt Ideal) (Rect.unit (s := S4x4096) ![b, 0] S1x4096.size i3).toLoadRect f3) shapeCasts_S1x4096_S1x4096) (ix2 0 k))).trans ?_
    refine congrArg (fun z => dsc (M3.view.read (Elt Ideal) f3 z)) ((emb_unit2 (M := 4) (N := 4096) (m := 1) (n := 4096) b 0 i3 (ix2 0 k) (by show b + 0 < 4; omega) (by show 0 + k.val < 4096; omega)).trans ?_)
    exact congrArg₂ ix2 (Fin.ext (Nat.add_zero _)) (Fin.ext (Nat.zero_add _))

theorem xpay_apply (n : ℕ) (h : n < 128) (x : S128x32.Idx) :
    xpay M2 f2 M3 f3 (n / 32 * 32) (n / 32) (n % 32 * 128) (xin2 n h) (xin3 n h) (xin4 n) x
      = xtF (M2.view.read (Elt Ideal) f2) (M3.view.read (Elt Ideal) f3) ((Rect.unit (s := S4096x128) ![n % 32 * 128, n / 32 * 32] S128x32.size (xin12 n h)).emb x) := by
  have l0 := idx2_lt0 x
  have l1 := idx2_lt1 x
  rw [emb_unit2 (M := 4096) (N := 128) (m := 128) (n := 32) _ _ (xin12 n h) x (by omega) (by omega)]
  unfold xpay
  rw [shapeCast_self]
  refine (transpose_apply (s := S32x128) (t := S128x32) _ _ _ x (ix2 (n0 := 32) (n1 := 128) (x 1) (x 0)) (by intro a; match a with | 0 => rfl | 1 => rfl)).trans ?_
  refine (extractStridedSlice_apply (s := S32x4096) (t := S32x128) _ _ _ _ (ix2 (n0 := 32) (n1 := 4096) (x 1) ⟨n % 32 * 128 + (x 0).val, by omega⟩) (by intro a; match a with | 0 => exact (Nat.zero_add _).symm | 1 => rfl)).trans ?_
  rw [xrow_apply M2 f2 M3 f3 _ _ _ _ _ _ (by omega) (by omega)]
  unfold xtF
  refine congrArg (fun z => _ * dsc (M3.view.read (Elt Ideal) f3 (ix2 z _))) (Fin.ext ?_)
  show n / 32 = (n / 32 * 32 + (x 1).val) / 32
  omega

theorem xt_pieces : ∀ (n : ℕ) (h : n ≤ 128), ∀ p ∈ xtList M2 f2 M3 f3 n h, ∀ x, p.2 x = xtF (M2.view.read (Elt Ideal) f2) (M3.view.read (Elt Ideal) f3) (p.1.emb x)
  | 0, _ => fun p hp => absurd hp List.not_mem_nil
  | n + 1, h => List.forall_mem_cons.mpr ⟨fun x => xpay_apply M2 f2 M3 f3 n h x, xt_pieces n (Nat.le_of_succ_le h)⟩

theorem xt_cover (k : ℕ) (hk : k < 128) : ∀ (n : ℕ) (h : n ≤ 128), k < n → ∃ p ∈ xtList M2 f2 M3 f3 n h, p.1 = Rect.unit (s := S4096x128) ![k % 32 * 128, k / 32 * 32] S128x32.size (xin12 k hk)
  | 0, _, h => absurd h (Nat.not_lt_zero _)
  | n + 1, h, hl => by
    rcases Nat.lt_succ_iff_lt_or_eq.mp hl with h1 | h1
    · obtain ⟨p, hp, e⟩ := xt_cover k hk n (Nat.le_of_succ_le h) h1
      exact ⟨p, List.mem_cons_of_mem _ hp, e⟩
    · subst h1
      exact ⟨_, List.mem_cons_self, rfl⟩

/-- After the first step the scratch holds the scaled activations, transposed. -/
theorem xt_read (v : View sig .tc .vmem S4096x128 .bf16) (f : v.ty.Contents (Elt Ideal)) :
    v.read (Elt Ideal) (v.writes (Elt Ideal) f (runFirst.sl.H12_128 (F := Ideal) c M2 M3 f2 f3))
      = xtF (M2.view.read (Elt Ideal) f2) (M3.view.read (Elt Ideal) f3) := by
  funext y
  rw [xt_list]
  refine View.read_writes_apply_of_pieces (Val := Elt Ideal) (s := S4096x128) (e := .bf16) _ _ _ _ (xt_pieces M2 f2 M3 f3 128 le_rfl) y ?_
  have l0 := idx2_lt0 y
  have l1 := idx2_lt1 y
  have hk : (y 0).val / 128 + (y 1).val / 32 * 32 < 128 := by omega
  obtain ⟨p, hp, e⟩ := xt_cover M2 f2 M3 f3 _ hk 128 le_rfl hk
  refine ⟨p, hp, ?_⟩
  rw [e]
  exact mem_unit2 _ _ (xin12 _ hk) y (by omega) (by omega)

end

end Cert.KernelIdeal.Val
-- ==== Proof.KIAcc.lean ====
module

public import proofs.«01_k».proof.Proof.KIRow
public import proofs.«01_k».proof.Proof.KIEq
public import proofs.«01_k».proof.Proof.KIOff
public import Idealize.ShloMosaic.Lib.WritesUnit

/-! The accumulator of the input gradient: what one grid step adds to it, and what the first and the last step do
around that, over the extended reals. -/

@[expose] public section

set_option backward.isDefEq.respectTransparency.types false
set_option maxRecDepth 8000

noncomputable section

namespace Cert.KernelIdeal.Val

open Idealize.ShloMosaic Idealize.ShloMosaic.ValueIdx Cert.KernelIdeal Cert.KernelIdeal.Gen Cert.KernelIdeal.Body Cert.Quant

/-! ### The weights under their scales -/

/-- The lane of the scale tile that each lane of the `t / 4`-th tile of 128 weights takes its scale from. -/
def widx (i : grid0.Coords) (t : BitVec 32) : IVec S256x128 32 :=
  shapeCast S256x128 (shapeCast S256x128x1 (select
    (cmpi .slt (addi (addi (broadcast S256x128 (runMid.sl.v172 i)) (shrui (iota .tc S256x128 32 [1] iota_S256x128_d1_w32) (broadcast S256x128 5#32))) (broadcast S256x128 t)) (broadcast S256x128 0#32))
    (addi (addi (addi (broadcast S256x128 (runMid.sl.v172 i)) (shrui (iota .tc S256x128 32 [1] iota_S256x128_d1_w32) (broadcast S256x128 5#32))) (broadcast S256x128 t)) (broadcast S256x128 128#32))
    (addi (addi (broadcast S256x128 (runMid.sl.v172 i)) (shrui (iota .tc S256x128 32 [1] iota_S256x128_d1_w32) (broadcast S256x128 5#32))) (broadcast S256x128 t))) shapeCasts_S256x128_S256x128x1) shapeCasts_S256x128x1_S256x128

theorem v172_eq (i : grid0.Coords) : runMid.sl.v172 i = BitVec.ofNat 32 (16 * ((i 0).val % 8)) := by
  have key : ∀ j : Fin 28, runMid.sl.v172 (fun a => match a with | ⟨0, _⟩ => j) = BitVec.ofNat 32 (16 * (j.val % 8)) := by decide
  exact key (jOf i)

/-- A lane number wrapped as the gather's index is. -/
def wrapw (b : BitVec 32) (l : ℕ) (t : BitVec 32) : BitVec 32 :=
  Scalar.select (IntOp.cmpi .slt (b + IntOp.shrui .vector (BitVec.ofNat 32 l) 5#32 + t) 0#32) (b + IntOp.shrui .vector (BitVec.ofNat 32 l) 5#32 + t + 128#32) (b + IntOp.shrui .vector (BitVec.ofNat 32 l) 5#32 + t)

theorem widx_apply (i : grid0.Coords) (t : BitVec 32) (x : S256x128.Idx) : widx i t x = wrapw (BitVec.ofNat 32 (16 * ((i 0).val % 8))) (x 1).val t := by
  unfold widx
  refine (shapeCast_apply _ _ x (ix3 (n0 := 256) (n1 := 128) (n2 := 1) (x 0) (x 1) 0) (by rw [Shape.rowMajor_val_three, Shape.rowMajor_val_two]; show ((x 0).val * 128 + (x 1).val) * 1 + 0 = (x 0).val * 128 + (x 1).val; omega)).trans ?_
  refine (shapeCast_apply _ _ (ix3 (n0 := 256) (n1 := 128) (n2 := 1) (x 0) (x 1) 0) x (by rw [Shape.rowMajor_val_three, Shape.rowMajor_val_two]; show (x 0).val * 128 + (x 1).val = ((x 0).val * 128 + (x 1).val) * 1 + 0; omega)).trans ?_
  rw [v172_eq]
  show wrapw (BitVec.ofNat 32 (16 * ((i 0).val % 8))) (0 * 128 + (x 1).val) t = _
  rw [Nat.zero_mul, Nat.zero_add]

theorem wrapw_nat : ∀ (j : Fin 8) (t : Fin 4) (l : Fin 128), (wrapw (BitVec.ofNat 32 (16 * j.val)) l.val (BitVec.ofNat 32 (4 * t.val))).toNat % 128 = 16 * j.val + 4 * t.val + l.val / 32 := by
  decide +kernel

/-- 128 lanes of 256 rows of weights times their scales. -/
def wpart (i : grid0.Coords) (t : BitVec 32) (w : FVec Ideal S256x128 .fp8e4m3) (s : FVec Ideal S256x128 .bf16) : FVec Ideal S256x128 .bf16 :=
  mulf (extf .bf16 w bitsLt_fp8e4m3_bf16) (truncf .bf16 (dynamicGather 1 (extf .f32 s bitsLt_bf16_f32) (widx i t)) bitsLt_bf16_f32)

theorem wpart_apply (i : grid0.Coords) (t : Fin 4) (w : FVec Ideal S256x128 .fp8e4m3) (s : FVec Ideal S256x128 .bf16) (r : Fin 256) (l : Fin 128) :
    wpart i (BitVec.ofNat 32 (4 * t.val)) w s (ix2 r l) = w (ix2 r l) * s (ix2 r ⟨16 * ((i 0).val % 8) + 4 * t.val + l.val / 32, by omega⟩) := by
  refine congrArg (fun z => w (ix2 r l) * s z) ?_
  funext b
  match b with
  | 0 => rfl
  | 1 => exact Fin.ext ((congrArg (fun z : BitVec 32 => z.toNat % 128) (widx_apply i _ _)).trans (wrapw_nat ⟨(i 0).val % 8, Nat.mod_lt _ (by decide)⟩ t l))

/-- 256 rows of weights times their scales. -/
def wcat (i : grid0.Coords) (w0 w1 w2 w3 : FVec Ideal S256x128 .fp8e4m3) (s : FVec Ideal S256x128 .bf16) : FVec Ideal S256x512 .bf16 :=
  concatenate S256x512 1 [⟨S256x128, wpart i 0#32 w0 s⟩, ⟨S256x128, wpart i 4#32 w1 s⟩, ⟨S256x128, wpart i 8#32 w2 s⟩, ⟨S256x128, wpart i 12#32 w3 s⟩]
    concatenates_S256x128_S256x128_S256x128_S256x128_S256x512_d1

theorem wcat_apply (i : grid0.Coords) (w : Fin 4 → FVec Ideal S256x128 .fp8e4m3) (s : FVec Ideal S256x128 .bf16) (r : Fin 256) (t : Fin 4) (l : Fin 128) (h : 128 * t.val + l.val < 512) :
    wcat i (w 0) (w 1) (w 2) (w 3) s (ix2 r ⟨128 * t.val + l.val, h⟩)
      = w t (ix2 r l) * s (ix2 r ⟨16 * ((i 0).val % 8) + 4 * t.val + l.val / 32, by omega⟩) := by
  have key := concatenate_ofFn_apply (t := S256x512) (s₁ := S256x128) 1 (fun t : Fin 4 => wpart i (BitVec.ofNat 32 (4 * t.val)) (w t) s)
    concatenates_S256x128_S256x128_S256x128_S256x128_S256x512_d1 rfl 128 rfl (ix2 r ⟨128 * t.val + l.val, h⟩) t
    (by show (128 * t.val + l.val) / 128 = t.val; omega) (ix2 r l) (by show l.val = (128 * t.val + l.val) % 128; omega)
    (by intro b hb; match b with | 0 => rfl | 1 => exact absurd rfl hb)
  refine Eq.trans ?_ (key.trans (wpart_apply i t _ _ r l))
  rfl

theorem mm_dx (A : FVec Ideal S256x512 .bf16) (B : FVec Ideal S128x512 .bf16) (k : Fin 256) (s : Fin 128) :
    matmul (F := Ideal) dot_S256x512_S128x512_S256x128_1_1_0_0_n_n none A B (constant (F := Ideal) S256x128 .f32 0x00000000#32) (ix2 k s)
      = ∑ n : Fin 512, A (ix2 k n) * B (ix2 s n) := by
  refine (Ideal.matmul_constant_zero_apply dot_S256x512_S128x512_S256x128_1_1_0_0_n_n none A B (ix2 k s)).trans ?_
  refine (Equiv.sum_comp (contrEquiv1 dot_S256x512_S128x512_S256x128_1_1_0_0_n_n 512 rfl rfl).symm (fun k' => A (dot_S256x512_S128x512_S256x128_1_1_0_0_n_n.lhsIdx (ix2 k s) k') * B (dot_S256x512_S128x512_S256x128_1_1_0_0_n_n.rhsIdx (ix2 k s) k'))).symm.trans ?_
  refine Finset.sum_congr rfl fun n _ => ?_
  congr 2
  · funext a; match a with | 0 => rfl | 1 => rfl
  · funext a; match a with | 0 => rfl | 1 => rfl

/-- What a step stores over 256 rows of the accumulator. -/
def accPay (i : grid0.Coords) (w0 w1 w2 w3 : FVec Ideal S256x128 .fp8e4m3) (s : FVec Ideal S256x128 .bf16) (G : FVec Ideal S128x512 .bf16) (a : FVec Ideal S256x128 .f32) : FVec Ideal S256x128 .f32 :=
  shapeCast S256x128 (addf a (matmul (F := Ideal) dot_S256x512_S128x512_S256x128_1_1_0_0_n_n none (wcat i w0 w1 w2 w3 s) G (constant (F := Ideal) S256x128 .f32 0x00000000#32))) shapeCasts_S256x128_S256x128

/-- The weights of step `j` times their scales: lane `n` takes the scale of block `16 j + n / 32`. -/
def wF (W S : S4096x512.Idx → EReal) (j : ℕ) : S4096x512.Idx → EReal :=
  fun y => W y * S (ix2 (y 0) ⟨(16 * j + (y 1).val / 32) % 512, Nat.mod_lt _ (by decide)⟩)

/-- The accumulator after step `j`. -/
def stepF (W S : S4096x512.Idx → EReal) (j : ℕ) (G : S128x512.Idx → EReal) (a : S4096x128.Idx → EReal) : S4096x128.Idx → EReal :=
  fun y => a y + ∑ n : Fin 512, wF W S j (ix2 (y 0) n) * G (ix2 (y 1) n)

/-- The offset of the scales that the `n`-th 256 rows take. -/
def koff (i : grid0.Coords) : ℕ → Fin 2 → ℕ
  | 0 => k0_off2 i
  | 1 => k0_off3 i
  | 2 => k0_off4 i
  | 3 => k0_off5 i
  | 4 => k0_off6 i
  | 5 => k0_off7 i
  | 6 => k0_off8 i
  | 7 => k0_off9 i
  | 8 => k0_off10 i
  | 9 => k0_off11 i
  | 10 => k0_off12 i
  | 11 => k0_off13 i
  | 12 => k0_off14 i
  | 13 => k0_off15 i
  | 14 => k0_off16 i
  | _ => k0_off17 i

theorem koff_eq (i : grid0.Coords) (n : ℕ) (h : n < 16) : koff i n = ![256 * n, 128 * ((i 0).val / 8)] := by
  interval_cases n
  · exact k0_off2_eq i
  · exact k0_off3_eq i
  · exact k0_off4_eq i
  · exact k0_off5_eq i
  · exact k0_off6_eq i
  · exact k0_off7_eq i
  · exact k0_off8_eq i
  · exact k0_off9_eq i
  · exact k0_off10_eq i
  · exact k0_off11_eq i
  · exact k0_off12_eq i
  · exact k0_off13_eq i
  · exact k0_off14_eq i
  · exact k0_off15_eq i
  · exact k0_off16_eq i
  · exact k0_off17_eq i

theorem ain14 (n : ℕ) (h : n < 16) : ∀ a, (![256 * n, 0] : Fin 2 → ℕ) a + S256x128.size a ≤ S4096x128.size a := fun a => by
  match a with
  | 0 => show 256 * n + 256 ≤ 4096; omega
  | 1 => show 0 + 128 ≤ 128; omega
theorem ain4 (n t : ℕ) (h : n < 16) (ht : t < 4) : ∀ a, (![256 * n, 128 * t] : Fin 2 → ℕ) a + S256x128.size a ≤ S4096x512.size a := fun a => by
  match a with
  | 0 => show 256 * n + 256 ≤ 4096; omega
  | 1 => show 128 * t + 128 ≤ 512; omega
theorem ain13 (i : grid0.Coords) (n : ℕ) (h : n < 16) : ∀ a, koff i n a + S256x128.size a ≤ S4096x512.size a := by
  have hj : (i 0).val < 28 := (jOf i).isLt
  rw [koff_eq i n h]
  intro a
  match a with
  | 0 => show 256 * n + 256 ≤ 4096; omega
  | 1 => show 128 * ((i 0).val / 8) + 128 ≤ 512; omega

section
variable (i : grid0.Coords) (M4 : Memref sig .tc .vmem S4096x512 .fp8e4m3) (f4 : M4.view.ty.Contents (Elt Ideal))
variable (M13 : Memref sig .tc .vmem S4096x512 .bf16) (f13 : M13.view.ty.Contents (Elt Ideal)) (G : FVec Ideal S128x512 .bf16)
variable (M14 : Memref sig .tc .vmem S4096x128 .f32) (f14 : M14.view.ty.Contents (Elt Ideal))

/-- A tile of the weights, as it is read. -/
def rd4 (n t : ℕ) (h : n < 16) (ht : t < 4) : FVec Ideal S256x128 .fp8e4m3 :=
  M4.view.readAt (Elt Ideal) (Rect.unit (s := S4096x512) ![256 * n, 128 * t] S256x128.size (ain4 n t h ht)).toLoadRect f4

/-- A step's store over the `n`-th 256 rows, from what they held. -/
def accP (n : ℕ) (h : n < 16) (a : FVec Ideal S256x128 .f32) : FVec Ideal S256x128 .f32 :=
  accPay i (rd4 M4 f4 n 0 h (by decide)) (rd4 M4 f4 n 1 h (by decide)) (rd4 M4 f4 n 2 h (by decide)) (rd4 M4 f4 n 3 h (by decide))
    (M13.view.readAt (Elt Ideal) (Rect.unit (s := S4096x512) (koff i n) S256x128.size (ain13 i n h)).toLoadRect f13) G a

theorem rd4_apply (n t : ℕ) (h : n < 16) (ht : t < 4) (r : Fin 256) (l : Fin 128) :
    rd4 M4 f4 n t h ht (ix2 r l) = M4.view.read (Elt Ideal) f4 (ix2 ⟨256 * n + r.val, by omega⟩ ⟨128 * t + l.val, by omega⟩) :=
  congrArg (M4.view.read (Elt Ideal) f4) (emb_unit2 (M := 4096) (N := 512) (m := 256) (n := 128) (256 * n) (128 * t) (ain4 n t h ht) (ix2 r l) (by show 256 * n + r.val < 4096; omega) (by show 128 * t + l.val < 512; omega))

theorem rd13_apply (n : ℕ) (h : n < 16) (off : Fin 2 → ℕ) (ho : off = ![256 * n, 128 * ((i 0).val / 8)]) (inb : ∀ a, off a + S256x128.size a ≤ S4096x512.size a) (r : Fin 256) (l : Fin 128) :
    M13.view.readAt (Elt Ideal) (Rect.unit (s := S4096x512) off S256x128.size inb).toLoadRect f13 (ix2 r l)
      = M13.view.read (Elt Ideal) f13 (ix2 ⟨256 * n + r.val, by omega⟩ ⟨128 * ((i 0).val / 8) + l.val, by have : (i 0).val < 28 := (jOf i).isLt; omega⟩) := by
  subst ho
  have hj : (i 0).val < 28 := (jOf i).isLt
  exact congrArg (M13.view.read (Elt Ideal) f13) (emb_unit2 (M := 4096) (N := 512) (m := 256) (n := 128) (256 * n) (128 * ((i 0).val / 8)) inb (ix2 r l) (by show 256 * n + r.val < 4096; omega) (by show 128 * ((i 0).val / 8) + l.val < 512; omega))

theorem accP_apply (n : ℕ) (h : n < 16) (a : FVec Ideal S256x128 .f32) (r : Fin 256) (s : Fin 128) :
    accP i M4 f4 M13 f13 G n h a (ix2 r s)
      = a (ix2 r s) + ∑ n' : Fin 512, wF (M4.view.read (Elt Ideal) f4) (M13.view.read (Elt Ideal) f13) (i 0).val (ix2 ⟨256 * n + r.val, by omega⟩ n') * G (ix2 s n') := by
  have hj : (i 0).val < 28 := (jOf i).isLt
  unfold accP accPay
  rw [shapeCast_self]
  refine congrArg (fun z => a (ix2 r s) + z) ((mm_dx _ _ r s).trans (Finset.sum_congr rfl fun n' _ => congrArg (fun z => z * G (ix2 s n')) ?_))
  have hn' : n' = ⟨128 * (n'.val / 128) + n'.val % 128, by omega⟩ := Fin.ext (by show n'.val = 128 * (n'.val / 128) + n'.val % 128; omega)
  refine (congrArg (fun z => wcat i _ _ _ _ _ (ix2 r z)) hn').trans ?_
  refine (wcat_apply i (fun t : Fin 4 => rd4 M4 f4 n t.val h t.isLt) _ r ⟨n'.val / 128, by omega⟩ ⟨n'.val % 128, by omega⟩ (by show 128 * (n'.val / 128) + n'.val % 128 < 512; omega)).trans ?_
  refine congrArg₂ (fun a b : EReal => a * b) ((rd4_apply M4 f4 n _ h _ r _).trans ?_) ((rd13_apply i M13 f13 n h (koff i n) (koff_eq i n h) (ain13 i n h) r _).trans ?_)
  · exact congrArg (fun z => M4.view.read (Elt Ideal) f4 (ix2 _ z)) hn'.symm
  · refine congrArg (fun z => M13.view.read (Elt Ideal) f13 (ix2 _ z)) (Fin.ext ?_)
    show 128 * ((i 0).val / 8) + (16 * ((i 0).val % 8) + 4 * (n'.val / 128) + n'.val % 128 / 32) = (16 * (i 0).val + n'.val / 32) % 512
    omega

/-- The accumulator's stores at a middle step. -/
def midList : (n : ℕ) → n ≤ 16 → List (Idealize.ShloMosaic.View.Piece (Elt Ideal) S4096x128 .f32)
  | 0, _ => []
  | n + 1, h => ⟨Rect.unit (s := S4096x128) ![256 * n, 0] S256x128.size (ain14 n h), accP i M4 f4 M13 f13 G n h (M14.view.readAt (Elt Ideal) (Rect.unit (s := S4096x128) ![256 * n, 0] S256x128.size (ain14 n h)).toLoadRect f14)⟩ :: midList n (Nat.le_of_succ_le h)

theorem mid_pieces : ∀ (n : ℕ) (h : n ≤ 16), ∀ p ∈ midList i M4 f4 M13 f13 G M14 f14 n h, ∀ x, p.2 x
    = stepF (M4.view.read (Elt Ideal) f4) (M13.view.read (Elt Ideal) f13) (i 0).val G (M14.view.read (Elt Ideal) f14) (p.1.emb x)
  | 0, _ => fun p hp => absurd hp List.not_mem_nil
  | n + 1, h => List.forall_mem_cons.mpr ⟨fun x => by
      have l0 : (x 0).val < 256 := idx2_lt0 (n0 := 256) (n1 := 128) x
      have l1 : (x 1).val < 128 := idx2_lt1 (n0 := 256) (n1 := 128) x
      have e : (Rect.unit (s := S4096x128) ![256 * n, 0] S256x128.size (ain14 n h)).emb x = ix2 ⟨256 * n + (x 0).val, by omega⟩ (x 1) :=
        (emb_unit2 (M := 4096) (N := 128) (m := 256) (n := 128) (256 * n) 0 (ain14 n h) x (by omega) (by omega)).trans (congrArg (ix2 _) (Fin.ext (Nat.zero_add _)))
      refine (congrArg _ (eq_ix2 (n0 := 256) (n1 := 128) x)).trans ((accP_apply i M4 f4 M13 f13 G n h _ (x 0) (x 1)).trans ?_)
      refine Eq.trans ?_ (congrArg _ e.symm)
      refine congrArg (fun z : EReal => z + _) ?_
      exact congrArg (M14.view.read (Elt Ideal) f14) ((congrArg _ (eq_ix2 (n0 := 256) (n1 := 128) x).symm).trans e), mid_pieces n (Nat.le_of_succ_le h)⟩

theorem mid_cover (k : ℕ) (hk : k < 16) : ∀ (n : ℕ) (h : n ≤ 16), k < n → ∃ p ∈ midList i M4 f4 M13 f13 G M14 f14 n h, p.1 = Rect.unit (s := S4096x128) ![256 * k, 0] S256x128.size (ain14 k hk)
  | 0, _, h => absurd h (Nat.not_lt_zero _)
  | n + 1, h, hl => by
    rcases Nat.lt_succ_iff_lt_or_eq.mp hl with h1 | h1
    · obtain ⟨p, hp, e⟩ := mid_cover k hk n (Nat.le_of_succ_le h) h1
      exact ⟨p, List.mem_cons_of_mem _ hp, e⟩
    · subst h1
      exact ⟨_, List.mem_cons_self, rfl⟩

theorem midList_read (v : View sig .tc .vmem S4096x128 .f32) (f : v.ty.Contents (Elt Ideal)) :
    v.read (Elt Ideal) (v.writes (Elt Ideal) f (midList i M4 f4 M13 f13 G M14 f14 16 le_rfl))
      = stepF (M4.view.read (Elt Ideal) f4) (M13.view.read (Elt Ideal) f13) (i 0).val G (M14.view.read (Elt Ideal) f14) := by
  funext y
  refine View.read_writes_apply_of_pieces (Val := Elt Ideal) (s := S4096x128) (e := .f32) _ _ _ _ (mid_pieces i M4 f4 M13 f13 G M14 f14 16 le_rfl) y ?_
  have l0 := idx2_lt0 y
  have l1 := idx2_lt1 y
  have hk : (y 0).val / 256 < 16 := by omega
  obtain ⟨p, hp, e⟩ := mid_cover i M4 f4 M13 f13 G M14 f14 _ hk 16 le_rfl hk
  refine ⟨p, hp, ?_⟩
  rw [e]
  exact mem_unit2 _ _ (ain14 _ hk) y (by omega) (by omega)

/-- The accumulator's stores at the first step: zeros, then the step's own. -/
def firstList : (n : ℕ) → n ≤ 16 → List (Idealize.ShloMosaic.View.Piece (Elt Ideal) S4096x128 .f32)
  | 0, _ => [⟨Rect.unit (s := S4096x128) ![0, 0] S4096x128.size inb_S4096x128_S4096x128_0_0, shapeCast S4096x128 (broadcast S4096x128 (Scalar.ofBits (F := Ideal) .f32 0x00000000#32)) shapeCasts_S4096x128_S4096x128⟩]
  | n + 1, h => ⟨Rect.unit (s := S4096x128) ![256 * n, 0] S256x128.size (ain14 n h), accP i M4 f4 M13 f13 G n h (M14.view.readCov (firstList n (Nat.le_of_succ_le h)) (Rect.unit (s := S4096x128) ![256 * n, 0] S256x128.size (ain14 n h)).toLoadRect)⟩ :: firstList n (Nat.le_of_succ_le h)

theorem firstList_read : ∀ (n : ℕ) (h : n ≤ 16) (y : S4096x128.Idx),
    M14.view.read (Elt Ideal) (M14.view.writes (Elt Ideal) M14.view.junk (firstList i M4 f4 M13 f13 G M14 n h)) y
      = if (y 0).val < 256 * n then stepF (M4.view.read (Elt Ideal) f4) (M13.view.read (Elt Ideal) f13) (i 0).val G (fun _ => 0) y else 0
  | 0, h, y => by
    rw [if_neg (by omega)]
    refine (View.read_writes_cons_unit_of_mem M14.view M14.view.junk (off' := ![0, 0]) inb_S4096x128_S4096x128_0_0 _ _ y y rfl (by intro a; match a with | 0 => exact (Nat.zero_add _).symm | 1 => exact (Nat.zero_add _).symm)).trans ?_
    rw [shapeCast_self]
    exact c_zero
  | n + 1, h, y => by
    have l0 := idx2_lt0 y
    have l1 := idx2_lt1 y
    by_cases hy : 256 * n ≤ (y 0).val ∧ (y 0).val < 256 * n + 256
    · rw [if_pos (by omega)]
      refine (View.read_writes_cons_unit_of_mem M14.view M14.view.junk (off' := ![256 * n, 0]) (ain14 n h) _ _ y (ix2 (n0 := 256) (n1 := 128) ⟨(y 0).val - 256 * n, by omega⟩ (y 1)) rfl (by intro a; match a with | 0 => show (y 0).val = 256 * n + ((y 0).val - 256 * n); omega | 1 => exact (Nat.zero_add _).symm)).trans ?_
      refine (accP_apply i M4 f4 M13 f13 G n h _ _ _).trans ?_
      have e0 : (⟨256 * n + ((y 0).val - 256 * n), by omega⟩ : Fin 4096) = y 0 := Fin.ext (by show 256 * n + ((y 0).val - 256 * n) = (y 0).val; omega)
      unfold stepF
      refine congrArg₂ (fun a b : EReal => a + b) ?_ (Finset.sum_congr rfl fun n' _ => congrArg (fun z => wF _ _ _ (ix2 z n') * _) e0)
      refine (congrArg (M14.view.read (Elt Ideal) (M14.view.writes (Elt Ideal) M14.view.junk (firstList i M4 f4 M13 f13 G M14 n (Nat.le_of_succ_le h)))) ((emb_unit2 (M := 4096) (N := 128) (m := 256) (n := 128) (256 * n) 0 (ain14 n h) (ix2 (n0 := 256) (n1 := 128) ⟨(y 0).val - 256 * n, by omega⟩ (y 1)) (by show 256 * n + ((y 0).val - 256 * n) < 4096; omega) (by show 0 + (y 1).val < 128; omega)))).trans ?_
      rw [firstList_read n (Nat.le_of_succ_le h)]
      exact if_neg (by show ¬ 256 * n + ((y 0).val - 256 * n) < 256 * n; omega)
    · refine (View.read_writes_cons_unit_of_not_mem M14.view M14.view.junk (off' := ![256 * n, 0]) (ain14 n h) _ _ y rfl 0 (by show (y 0).val < 256 * n ∨ 256 * n + 256 ≤ (y 0).val; omega)).trans ?_
      rw [firstList_read n (Nat.le_of_succ_le h)]
      exact if_congr (by omega) rfl rfl

end

/-! ### The first step's scales and the last step's transposed result -/

theorem sin13 (n : ℕ) (h : n < 16) : ∀ a, (![256 * n, 0] : Fin 2 → ℕ) a + S256x448.size a ≤ S4096x512.size a := fun a => by
  match a with
  | 0 => show 256 * n + 256 ≤ 4096; omega
  | 1 => show 0 + 448 ≤ 512; omega
theorem sin5 (n : ℕ) (h : n < 16) : ∀ a, (![256 * n, 0] : Fin 2 → ℕ) a + S256x448.size a ≤ S4096x448.size a := fun a => by
  match a with
  | 0 => show 256 * n + 256 ≤ 4096; omega
  | 1 => show 0 + 448 ≤ 448; omega

section
variable (c : Dev nD) (M5 : Memref sig .tc .vmem S4096x448 .i8) (f5 : M5.view.ty.Contents (Elt Ideal))

/-- The weights' scales as floats, over the scratch's columns. -/
def scT (s : S4096x448.Idx → BitVec 8) : S4096x512.Idx → EReal := fun y => dsc (s (ix2 (y 0) ⟨(y 1).val % 448, Nat.mod_lt _ (by decide)⟩))

/-- The scales of 256 rows of weights as floats. -/
def scPay (n : ℕ) (h : n < 16) : FVec Ideal S256x448 .bf16 :=
  shapeCast S256x448 (truncf .bf16 (bitcastToFloat (F := Ideal) .f32 (shli (extui 32 (M5.view.readAt (Elt Ideal) (Rect.unit (s := S4096x448) ![256 * n, 0] S256x448.size (sin5 n h)).toLoadRect f5 : IVec S256x448 8)) (constantI S256x448 32 23#32))) bitsLt_bf16_f32) shapeCasts_S256x448_S256x448

theorem scPay_apply (n : ℕ) (h : n < 16) (x : S256x448.Idx) :
    scPay M5 f5 n h x = dsc (M5.view.read (Elt Ideal) f5 ((Rect.unit (s := S4096x448) ![256 * n, 0] S256x448.size (sin5 n h)).emb x)) := by
  unfold scPay
  exact congrFun (shapeCast_self _ shapeCasts_S256x448_S256x448) x

/-- The stores of the weights' scales as floats. -/
def scList : (n : ℕ) → n ≤ 16 → List (Idealize.ShloMosaic.View.Piece (Elt Ideal) S4096x512 .bf16)
  | 0, _ => []
  | n + 1, h => ⟨Rect.unit (s := S4096x512) ![256 * n, 0] S256x448.size (sin13 n h),
      scPay M5 f5 n h⟩ :: scList n (Nat.le_of_succ_le h)

theorem sc_list : runFirst.sl.H13_16 (F := Ideal) c M5 f5 = scList M5 f5 16 le_rfl := rfl

theorem sc_pieces : ∀ (n : ℕ) (h : n ≤ 16), ∀ p ∈ scList M5 f5 n h, ∀ x, p.2 x
    = scT (M5.view.read (Elt Ideal) f5) (p.1.emb x)
  | 0, _ => fun p hp => absurd hp List.not_mem_nil
  | n + 1, h => List.forall_mem_cons.mpr ⟨fun x => by
      have l0 : (x 0).val < 256 := idx2_lt0 (n0 := 256) (n1 := 448) x
      have l1 : (x 1).val < 448 := idx2_lt1 (n0 := 256) (n1 := 448) x
      have e : (Rect.unit (s := S4096x512) ![256 * n, 0] S256x448.size (sin13 n h)).emb x = ix2 ⟨256 * n + (x 0).val, by omega⟩ ⟨0 + (x 1).val, by omega⟩ :=
        emb_unit2 (M := 4096) (N := 512) (m := 256) (n := 448) (256 * n) 0 (sin13 n h) x (by omega) (by omega)
      have e5 : (Rect.unit (s := S4096x448) ![256 * n, 0] S256x448.size (sin5 n h)).emb x = ix2 ⟨256 * n + (x 0).val, by omega⟩ ⟨0 + (x 1).val, by omega⟩ :=
        emb_unit2 (M := 4096) (N := 448) (m := 256) (n := 448) (256 * n) 0 (sin5 n h) x (by omega) (by omega)
      refine Eq.trans ?_ (congrArg _ e.symm)
      refine (scPay_apply M5 f5 n h x).trans ?_
      refine congrArg (fun z => dsc (M5.view.read (Elt Ideal) f5 z)) (e5.trans (congrArg (ix2 _) (Fin.ext ?_)))
      show 0 + (x 1).val = (0 + (x 1).val) % 448
      omega, sc_pieces n (Nat.le_of_succ_le h)⟩

theorem sc_cover (k : ℕ) (hk : k < 16) : ∀ (n : ℕ) (h : n ≤ 16), k < n → ∃ p ∈ scList M5 f5 n h, p.1 = Rect.unit (s := S4096x512) ![256 * k, 0] S256x448.size (sin13 k hk)
  | 0, _, h => absurd h (Nat.not_lt_zero _)
  | n + 1, h, hl => by
    rcases Nat.lt_succ_iff_lt_or_eq.mp hl with h1 | h1
    · obtain ⟨p, hp, e⟩ := sc_cover k hk n (Nat.le_of_succ_le h) h1
      exact ⟨p, List.mem_cons_of_mem _ hp, e⟩
    · subst h1
      exact ⟨_, List.mem_cons_self, rfl⟩

/-- The scratch `S` holds the weights' scales `s` as floats in its first 448 columns. -/
def Scales (S : S4096x512.Idx → EReal) (s : S4096x448.Idx → BitVec 8) : Prop :=
  ∀ (k : Fin 4096) (b : Fin 448), S (ix2 k ⟨b.val, by omega⟩) = dsc (s (ix2 k b))

/-- After the first step the scratch holds the weights' scales. -/
theorem sc_read (v : View sig .tc .vmem S4096x512 .bf16) (f : v.ty.Contents (Elt Ideal)) :
    Scales (v.read (Elt Ideal) (v.writes (Elt Ideal) f (runFirst.sl.H13_16 (F := Ideal) c M5 f5))) (M5.view.read (Elt Ideal) f5) := by
  intro k b
  rw [sc_list]
  have hk : k.val / 256 < 16 := by omega
  refine (View.read_writes_apply_of_pieces (Val := Elt Ideal) (s := S4096x512) (e := .bf16) _ _ (scT (M5.view.read (Elt Ideal) f5)) _ (sc_pieces M5 f5 16 le_rfl) (ix2 k ⟨b.val, by omega⟩) ?_).trans ?_
  · obtain ⟨p, hp, e⟩ := sc_cover M5 f5 _ hk 16 le_rfl hk
    refine ⟨p, hp, ?_⟩
    rw [e]
    exact mem_unit2 _ _ (sin13 _ hk) (ix2 k ⟨b.val, by omega⟩) (by show 256 * (k.val / 256) ≤ k.val ∧ k.val < 256 * (k.val / 256) + 256; omega) (by show 0 ≤ b.val ∧ b.val < 0 + 448; omega)
  · exact congrArg (fun z => dsc (M5.view.read (Elt Ideal) f5 (ix2 k z))) (Fin.ext (by show b.val % 448 = b.val; omega))

end

section
variable (M14 : Memref sig .tc .vmem S4096x128 .f32) (H : List (Idealize.ShloMosaic.View.Piece (Elt Ideal) S4096x128 .f32))

theorem ain6 (n : ℕ) (h : n < 16) : ∀ a, (![0, 256 * n] : Fin 2 → ℕ) a + S128x256.size a ≤ S128x4096.size a := fun a => by
  match a with
  | 0 => show 0 + 128 ≤ 128; omega
  | 1 => show 256 * n + 256 ≤ 4096; omega

/-- 256 columns of the result. -/
def dxPay (n : ℕ) (h : n < 16) : FVec Ideal S128x256 .bf16 :=
  transpose S128x256 [1, 0] (truncf (F := Ideal) .bf16 (M14.view.readCov (Val := Elt Ideal) H (Rect.unit (s := S4096x128) ![256 * n, 0] S256x128.size (ain14 n h)).toLoadRect) bitsLt_bf16_f32) transposes_S256x128_p1_0_S128x256

theorem dxPay_apply (n : ℕ) (h : n < 16) (x : S128x256.Idx) :
    dxPay M14 H n h x = M14.view.readCov (Val := Elt Ideal) H (Rect.unit (s := S4096x128) ![256 * n, 0] S256x128.size (ain14 n h)).toLoadRect (ix2 (n0 := 256) (n1 := 128) (x 1) (x 0)) := by
  unfold dxPay
  exact transpose_apply (s := S256x128) (t := S128x256) _ _ _ x (ix2 (n0 := 256) (n1 := 128) (x 1) (x 0)) (by intro a; match a with | 0 => rfl | 1 => rfl)

/-- The stores of the result from the accumulator's stores. -/
def dxList : (n : ℕ) → n ≤ 16 → List (Idealize.ShloMosaic.View.Piece (Elt Ideal) S128x4096 .bf16)
  | 0, _ => []
  | n + 1, h => ⟨Rect.unit (s := S128x4096) ![0, 256 * n] S128x256.size (ain6 n h),
      dxPay M14 H n h⟩ :: dxList n (Nat.le_of_succ_le h)

/-- The accumulator's result, transposed. -/
def dxT (A : S4096x128.Idx → EReal) : S128x4096.Idx → EReal := fun y => A (ix2 (y 1) (y 0))

theorem dx_pieces : ∀ (n : ℕ) (h : n ≤ 16), ∀ p ∈ dxList M14 H n h, ∀ x, p.2 x
    = dxT (M14.view.read (Elt Ideal) (M14.view.writes (Elt Ideal) M14.view.junk H)) (p.1.emb x)
  | 0, _ => fun p hp => absurd hp List.not_mem_nil
  | n + 1, h => List.forall_mem_cons.mpr ⟨fun x => by
      have l0 : (x 0).val < 128 := idx2_lt0 (n0 := 128) (n1 := 256) x
      have l1 : (x 1).val < 256 := idx2_lt1 (n0 := 128) (n1 := 256) x
      have e : (Rect.unit (s := S128x4096) ![0, 256 * n] S128x256.size (ain6 n h)).emb x = ix2 ⟨0 + (x 0).val, by omega⟩ ⟨256 * n + (x 1).val, by omega⟩ :=
        emb_unit2 (M := 128) (N := 4096) (m := 128) (n := 256) 0 (256 * n) (ain6 n h) x (by omega) (by omega)
      refine Eq.trans ?_ (congrArg _ e.symm)
      refine (dxPay_apply M14 H n h x).trans ?_
      refine (congrArg (M14.view.read (Elt Ideal) (M14.view.writes (Elt Ideal) M14.view.junk H)) (emb_unit2 (M := 4096) (N := 128) (m := 256) (n := 128) (256 * n) 0 (ain14 n h) (ix2 (n0 := 256) (n1 := 128) (x 1) (x 0)) (by show 256 * n + (x 1).val < 4096; omega) (by show 0 + (x 0).val < 128; omega))).trans ?_
      rfl, dx_pieces n (Nat.le_of_succ_le h)⟩

theorem dx_cover (k : ℕ) (hk : k < 16) : ∀ (n : ℕ) (h : n ≤ 16), k < n → ∃ p ∈ dxList M14 H n h, p.1 = Rect.unit (s := S128x4096) ![0, 256 * k] S128x256.size (ain6 k hk)
  | 0, _, h => absurd h (Nat.not_lt_zero _)
  | n + 1, h, hl => by
    rcases Nat.lt_succ_iff_lt_or_eq.mp hl with h1 | h1
    · obtain ⟨p, hp, e⟩ := dx_cover k hk n (Nat.le_of_succ_le h) h1
      exact ⟨p, List.mem_cons_of_mem _ hp, e⟩
    · subst h1
      exact ⟨_, List.mem_cons_self, rfl⟩

theorem dxList_read (v : View sig .tc .vmem S128x4096 .bf16) (f : v.ty.Contents (Elt Ideal)) :
    v.read (Elt Ideal) (v.writes (Elt Ideal) f (dxList M14 H 16 le_rfl)) = dxT (M14.view.read (Elt Ideal) (M14.view.writes (Elt Ideal) M14.view.junk H)) := by
  funext y
  refine View.read_writes_apply_of_pieces (Val := Elt Ideal) (s := S128x4096) (e := .bf16) _ _ _ _ (dx_pieces M14 H 16 le_rfl) y ?_
  have l0 := idx2_lt0 y
  have l1 := idx2_lt1 y
  have hk : (y 1).val / 256 < 16 := by omega
  obtain ⟨p, hp, e⟩ := dx_cover M14 H _ hk 16 le_rfl hk
  refine ⟨p, hp, ?_⟩
  rw [e]
  exact mem_unit2 _ _ (ain6 _ hk) y (by omega) (by omega)

end

/-! ### The runs' own lists -/

section
variable (c : Dev nD) (i : grid0.Coords) (M1 : Memref sig .tc .vmem S128x512 .bf16) (f1 : M1.view.ty.Contents (Elt Ideal))
variable (M4 : Memref sig .tc .vmem S4096x512 .fp8e4m3) (f4 : M4.view.ty.Contents (Elt Ideal)) (M5 : Memref sig .tc .vmem S4096x448 .i8) (f5 : M5.view.ty.Contents (Elt Ideal))
variable (M13 : Memref sig .tc .vmem S4096x512 .bf16) (f13 : M13.view.ty.Contents (Elt Ideal))
variable (M14 : Memref sig .tc .vmem S4096x128 .f32) (f14 : M14.view.ty.Contents (Elt Ideal)) (M16 : Memref sig .tc .vmem S128x512 .bf16)

/-- The row-quantised gradient as the products read it back. -/
def G16 : FVec Ideal S128x512 .bf16 :=
  M16.view.readCov (Val := Elt Ideal) (runMid.sl.H16_4 (F := Ideal) c M1 f1) (Rect.unit (s := S128x512) ![0, 0] S128x512.size inb_S128x512_S128x512_0_0).toLoadRect

theorem G16_eq : G16 c M1 f1 M16 = growF (M1.view.read (Elt Ideal) f1) := by
  unfold G16
  refine Eq.trans ?_ (grow_read c M1 f1 M16.view M16.view.junk)
  funext y
  have l0 := idx2_lt0 (n0 := 128) (n1 := 512) y
  have l1 := idx2_lt1 (n0 := 128) (n1 := 512) y
  refine congrArg (M16.view.read (Elt Ideal) (M16.view.writes (Elt Ideal) M16.view.junk (runMid.sl.H16_4 (F := Ideal) c M1 f1))) ((emb_unit2 (M := 128) (N := 512) (m := 128) (n := 512) 0 0 inb_S128x512_S128x512_0_0 y (by omega) (by omega)).trans ?_)
  exact (congrArg₂ ix2 (Fin.ext (Nat.zero_add _)) (Fin.ext (Nat.zero_add _))).trans (eq_ix2 (n0 := 128) (n1 := 512) y).symm

theorem mid14_list : runMid.sl.H14_16 (F := Ideal) c i M1 M4 M13 M14 M16 f1 f4 f13 f14
    = midList i M4 f4 M13 f13 (G16 c M1 f1 M16) M14 f14 16 le_rfl := rfl

theorem last14_list : runLast.sl.H14_16 (F := Ideal) c i M1 M4 M13 M14 M16 f1 f4 f13 f14
    = midList i M4 f4 M13 f13 (G16 c M1 f1 M16) M14 f14 16 le_rfl := rfl

theorem last6_list : runLast.sl.H6_16 (F := Ideal) c i M1 M4 M13 M14 M16 f1 f4 f13 f14
    = dxList M14 (midList i M4 f4 M13 f13 (G16 c M1 f1 M16) M14 f14 16 le_rfl) 16 le_rfl :=
  (show runLast.sl.H6_16 (F := Ideal) c i M1 M4 M13 M14 M16 f1 f4 f13 f14 = dxList M14 (runLast.sl.H14_16 (F := Ideal) c i M1 M4 M13 M14 M16 f1 f4 f13 f14) 16 le_rfl from rfl).trans
    (congrArg (fun z => dxList M14 z 16 le_rfl) (last14_list c i M1 f1 M4 f4 M13 f13 M14 f14 M16))

/-- One more store of the first step's on top of a list. -/
def fcons (n : ℕ) (h : n < 16) (L : List (Idealize.ShloMosaic.View.Piece (Elt Ideal) S4096x128 .f32)) : List (Idealize.ShloMosaic.View.Piece (Elt Ideal) S4096x128 .f32) :=
  ⟨Rect.unit (s := S4096x128) ![256 * n, 0] S256x128.size (ain14 n h), accP i M4 f4 M13 (M13.view.writes (Elt Ideal) f13 (runFirst.sl.H13_16 (F := Ideal) c M5 f5)) (G16 c M1 f1 M16) n h
    (M14.view.readCov L (Rect.unit (s := S4096x128) ![256 * n, 0] S256x128.size (ain14 n h)).toLoadRect)⟩ :: L

/-- The first `n` of the first step's stores after the zeros. -/
def fL (n : ℕ) (h : n ≤ 16) : List (Idealize.ShloMosaic.View.Piece (Elt Ideal) S4096x128 .f32) :=
  firstList i M4 f4 M13 (M13.view.writes (Elt Ideal) f13 (runFirst.sl.H13_16 (F := Ideal) c M5 f5)) (G16 c M1 f1 M16) M14 n h

theorem fL_succ (n : ℕ) (h : n + 1 ≤ 16) (L : List (Idealize.ShloMosaic.View.Piece (Elt Ideal) S4096x128 .f32)) (e : L = fL c i M1 f1 M4 f4 M5 f5 M13 f13 M14 M16 n (Nat.le_of_succ_le h)) :
    fcons c i M1 f1 M4 f4 M5 f5 M13 f13 M14 M16 n h L = fL c i M1 f1 M4 f4 M5 f5 M13 f13 M14 M16 (n + 1) h := by
  subst e; rfl

theorem first14_0 : runFirst.sl.H14_1 (F := Ideal) = fL c i M1 f1 M4 f4 M5 f5 M13 f13 M14 M16 0 (by decide) := rfl
theorem first14_1 : runFirst.sl.H14_2 (F := Ideal) c i M1 M4 M5 M13 M14 M16 f1 f4 f5 f13 = fL c i M1 f1 M4 f4 M5 f5 M13 f13 M14 M16 1 (by decide) :=
  (show runFirst.sl.H14_2 (F := Ideal) c i M1 M4 M5 M13 M14 M16 f1 f4 f5 f13 = fcons c i M1 f1 M4 f4 M5 f5 M13 f13 M14 M16 0 (by decide) (runFirst.sl.H14_1 (F := Ideal)) from rfl).trans (fL_succ c i M1 f1 M4 f4 M5 f5 M13 f13 M14 M16 0 (by decide) _ (first14_0 c i M1 f1 M4 f4 M5 f5 M13 f13 M14 M16))
theorem first14_2 : runFirst.sl.H14_3 (F := Ideal) c i M1 M4 M5 M13 M14 M16 f1 f4 f5 f13 = fL c i M1 f1 M4 f4 M5 f5 M13 f13 M14 M16 2 (by decide) :=
  (show runFirst.sl.H14_3 (F := Ideal) c i M1 M4 M5 M13 M14 M16 f1 f4 f5 f13 = fcons c i M1 f1 M4 f4 M5 f5 M13 f13 M14 M16 1 (by decide) (runFirst.sl.H14_2 (F := Ideal) c i M1 M4 M5 M13 M14 M16 f1 f4 f5 f13) from rfl).trans (fL_succ c i M1 f1 M4 f4 M5 f5 M13 f13 M14 M16 1 (by decide) _ (first14_1 c i M1 f1 M4 f4 M5 f5 M13 f13 M14 M16))
theorem first14_3 : runFirst.sl.H14_4 (F := Ideal) c i M1 M4 M5 M13 M14 M16 f1 f4 f5 f13 = fL c i M1 f1 M4 f4 M5 f5 M13 f13 M14 M16 3 (by decide) :=
  (show runFirst.sl.H14_4 (F := Ideal) c i M1 M4 M5 M13 M14 M16 f1 f4 f5 f13 = fcons c i M1 f1 M4 f4 M5 f5 M13 f13 M14 M16 2 (by decide) (runFirst.sl.H14_3 (F := Ideal) c i M1 M4 M5 M13 M14 M16 f1 f4 f5 f13) from rfl).trans (fL_succ c i M1 f1 M4 f4 M5 f5 M13 f13 M14 M16 2 (by decide) _ (first14_2 c i M1 f1 M4 f4 M5 f5 M13 f13 M14 M16))
theorem first14_4 : runFirst.sl.H14_5 (F := Ideal) c i M1 M4 M5 M13 M14 M16 f1 f4 f5 f13 = fL c i M1 f1 M4 f4 M5 f5 M13 f13 M14 M16 4 (by decide) :=
  (show runFirst.sl.H14_5 (F := Ideal) c i M1 M4 M5 M13 M14 M16 f1 f4 f5 f13 = fcons c i M1 f1 M4 f4 M5 f5 M13 f13 M14 M16 3 (by decide) (runFirst.sl.H14_4 (F := Ideal) c i M1 M4 M5 M13 M14 M16 f1 f4 f5 f13) from rfl).trans (fL_succ c i M1 f1 M4 f4 M5 f5 M13 f13 M14 M16 3 (by decide) _ (first14_3 c i M1 f1 M4 f4 M5 f5 M13 f13 M14 M16))
theorem first14_5 : runFirst.sl.H14_6 (F := Ideal) c i M1 M4 M5 M13 M14 M16 f1 f4 f5 f13 = fL c i M1 f1 M4 f4 M5 f5 M13 f13 M14 M16 5 (by decide) :=
  (show runFirst.sl.H14_6 (F := Ideal) c i M1 M4 M5 M13 M14 M16 f1 f4 f5 f13 = fcons c i M1 f1 M4 f4 M5 f5 M13 f13 M14 M16 4 (by decide) (runFirst.sl.H14_5 (F := Ideal) c i M1 M4 M5 M13 M14 M16 f1 f4 f5 f13) from rfl).trans (fL_succ c i M1 f1 M4 f4 M5 f5 M13 f13 M14 M16 4 (by decide) _ (first14_4 c i M1 f1 M4 f4 M5 f5 M13 f13 M14 M16))
theorem first14_6 : runFirst.sl.H14_7 (F := Ideal) c i M1 M4 M5 M13 M14 M16 f1 f4 f5 f13 = fL c i M1 f1 M4 f4 M5 f5 M13 f13 M14 M16 6 (by decide) :=
  (show runFirst.sl.H14_7 (F := Ideal) c i M1 M4 M5 M13 M14 M16 f1 f4 f5 f13 = fcons c i M1 f1 M4 f4 M5 f5 M13 f13 M14 M16 5 (by decide) (runFirst.sl.H14_6 (F := Ideal) c i M1 M4 M5 M13 M14 M16 f1 f4 f5 f13) from rfl).trans (fL_succ c i M1 f1 M4 f4 M5 f5 M13 f13 M14 M16 5 (by decide) _ (first14_5 c i M1 f1 M4 f4 M5 f5 M13 f13 M14 M16))
theorem first14_7 : runFirst.sl.H14_8 (F := Ideal) c i M1 M4 M5 M13 M14 M16 f1 f4 f5 f13 = fL c i M1 f1 M4 f4 M5 f5 M13 f13 M14 M16 7 (by decide) :=
  (show runFirst.sl.H14_8 (F := Ideal) c i M1 M4 M5 M13 M14 M16 f1 f4 f5 f13 = fcons c i M1 f1 M4 f4 M5 f5 M13 f13 M14 M16 6 (by decide) (runFirst.sl.H14_7 (F := Ideal) c i M1 M4 M5 M13 M14 M16 f1 f4 f5 f13) from rfl).trans (fL_succ c i M1 f1 M4 f4 M5 f5 M13 f13 M14 M16 6 (by decide) _ (first14_6 c i M1 f1 M4 f4 M5 f5 M13 f13 M14 M16))
theorem first14_8 : runFirst.sl.H14_9 (F := Ideal) c i M1 M4 M5 M13 M14 M16 f1 f4 f5 f13 = fL c i M1 f1 M4 f4 M5 f5 M13 f13 M14 M16 8 (by decide) :=
  (show runFirst.sl.H14_9 (F := Ideal) c i M1 M4 M5 M13 M14 M16 f1 f4 f5 f13 = fcons c i M1 f1 M4 f4 M5 f5 M13 f13 M14 M16 7 (by decide) (runFirst.sl.H14_8 (F := Ideal) c i M1 M4 M5 M13 M14 M16 f1 f4 f5 f13) from rfl).trans (fL_succ c i M1 f1 M4 f4 M5 f5 M13 f13 M14 M16 7 (by decide) _ (first14_7 c i M1 f1 M4 f4 M5 f5 M13 f13 M14 M16))
theorem first14_9 : runFirst.sl.H14_10 (F := Ideal) c i M1 M4 M5 M13 M14 M16 f1 f4 f5 f13 = fL c i M1 f1 M4 f4 M5 f5 M13 f13 M14 M16 9 (by decide) :=
  (show runFirst.sl.H14_10 (F := Ideal) c i M1 M4 M5 M13 M14 M16 f1 f4 f5 f13 = fcons c i M1 f1 M4 f4 M5 f5 M13 f13 M14 M16 8 (by decide) (runFirst.sl.H14_9 (F := Ideal) c i M1 M4 M5 M13 M14 M16 f1 f4 f5 f13) from rfl).trans (fL_succ c i M1 f1 M4 f4 M5 f5 M13 f13 M14 M16 8 (by decide) _ (first14_8 c i M1 f1 M4 f4 M5 f5 M13 f13 M14 M16))
theorem first14_10 : runFirst.sl.H14_11 (F := Ideal) c i M1 M4 M5 M13 M14 M16 f1 f4 f5 f13 = fL c i M1 f1 M4 f4 M5 f5 M13 f13 M14 M16 10 (by decide) :=
  (show runFirst.sl.H14_11 (F := Ideal) c i M1 M4 M5 M13 M14 M16 f1 f4 f5 f13 = fcons c i M1 f1 M4 f4 M5 f5 M13 f13 M14 M16 9 (by decide) (runFirst.sl.H14_10 (F := Ideal) c i M1 M4 M5 M13 M14 M16 f1 f4 f5 f13) from rfl).trans (fL_succ c i M1 f1 M4 f4 M5 f5 M13 f13 M14 M16 9 (by decide) _ (first14_9 c i M1 f1 M4 f4 M5 f5 M13 f13 M14 M16))
theorem first14_11 : runFirst.sl.H14_12 (F := Ideal) c i M1 M4 M5 M13 M14 M16 f1 f4 f5 f13 = fL c i M1 f1 M4 f4 M5 f5 M13 f13 M14 M16 11 (by decide) :=
  (show runFirst.sl.H14_12 (F := Ideal) c i M1 M4 M5 M13 M14 M16 f1 f4 f5 f13 = fcons c i M1 f1 M4 f4 M5 f5 M13 f13 M14 M16 10 (by decide) (runFirst.sl.H14_11 (F := Ideal) c i M1 M4 M5 M13 M14 M16 f1 f4 f5 f13) from rfl).trans (fL_succ c i M1 f1 M4 f4 M5 f5 M13 f13 M14 M16 10 (by decide) _ (first14_10 c i M1 f1 M4 f4 M5 f5 M13 f13 M14 M16))
theorem first14_12 : runFirst.sl.H14_13 (F := Ideal) c i M1 M4 M5 M13 M14 M16 f1 f4 f5 f13 = fL c i M1 f1 M4 f4 M5 f5 M13 f13 M14 M16 12 (by decide) :=
  (show runFirst.sl.H14_13 (F := Ideal) c i M1 M4 M5 M13 M14 M16 f1 f4 f5 f13 = fcons c i M1 f1 M4 f4 M5 f5 M13 f13 M14 M16 11 (by decide) (runFirst.sl.H14_12 (F := Ideal) c i M1 M4 M5 M13 M14 M16 f1 f4 f5 f13) from rfl).trans (fL_succ c i M1 f1 M4 f4 M5 f5 M13 f13 M14 M16 11 (by decide) _ (first14_11 c i M1 f1 M4 f4 M5 f5 M13 f13 M14 M16))
theorem first14_13 : runFirst.sl.H14_14 (F := Ideal) c i M1 M4 M5 M13 M14 M16 f1 f4 f5 f13 = fL c i M1 f1 M4 f4 M5 f5 M13 f13 M14 M16 13 (by decide) :=
  (show runFirst.sl.H14_14 (F := Ideal) c i M1 M4 M5 M13 M14 M16 f1 f4 f5 f13 = fcons c i M1 f1 M4 f4 M5 f5 M13 f13 M14 M16 12 (by decide) (runFirst.sl.H14_13 (F := Ideal) c i M1 M4 M5 M13 M14 M16 f1 f4 f5 f13) from rfl).trans (fL_succ c i M1 f1 M4 f4 M5 f5 M13 f13 M14 M16 12 (by decide) _ (first14_12 c i M1 f1 M4 f4 M5 f5 M13 f13 M14 M16))
theorem first14_14 : runFirst.sl.H14_15 (F := Ideal) c i M1 M4 M5 M13 M14 M16 f1 f4 f5 f13 = fL c i M1 f1 M4 f4 M5 f5 M13 f13 M14 M16 14 (by decide) :=
  (show runFirst.sl.H14_15 (F := Ideal) c i M1 M4 M5 M13 M14 M16 f1 f4 f5 f13 = fcons c i M1 f1 M4 f4 M5 f5 M13 f13 M14 M16 13 (by decide) (runFirst.sl.H14_14 (F := Ideal) c i M1 M4 M5 M13 M14 M16 f1 f4 f5 f13) from rfl).trans (fL_succ c i M1 f1 M4 f4 M5 f5 M13 f13 M14 M16 13 (by decide) _ (first14_13 c i M1 f1 M4 f4 M5 f5 M13 f13 M14 M16))
theorem first14_15 : runFirst.sl.H14_16 (F := Ideal) c i M1 M4 M5 M13 M14 M16 f1 f4 f5 f13 = fL c i M1 f1 M4 f4 M5 f5 M13 f13 M14 M16 15 (by decide) :=
  (show runFirst.sl.H14_16 (F := Ideal) c i M1 M4 M5 M13 M14 M16 f1 f4 f5 f13 = fcons c i M1 f1 M4 f4 M5 f5 M13 f13 M14 M16 14 (by decide) (runFirst.sl.H14_15 (F := Ideal) c i M1 M4 M5 M13 M14 M16 f1 f4 f5 f13) from rfl).trans (fL_succ c i M1 f1 M4 f4 M5 f5 M13 f13 M14 M16 14 (by decide) _ (first14_14 c i M1 f1 M4 f4 M5 f5 M13 f13 M14 M16))
theorem first14_16 : runFirst.sl.H14_17 (F := Ideal) c i M1 M4 M5 M13 M14 M16 f1 f4 f5 f13 = fL c i M1 f1 M4 f4 M5 f5 M13 f13 M14 M16 16 (by decide) :=
  (show runFirst.sl.H14_17 (F := Ideal) c i M1 M4 M5 M13 M14 M16 f1 f4 f5 f13 = fcons c i M1 f1 M4 f4 M5 f5 M13 f13 M14 M16 15 (by decide) (runFirst.sl.H14_16 (F := Ideal) c i M1 M4 M5 M13 M14 M16 f1 f4 f5 f13) from rfl).trans (fL_succ c i M1 f1 M4 f4 M5 f5 M13 f13 M14 M16 15 (by decide) _ (first14_15 c i M1 f1 M4 f4 M5 f5 M13 f13 M14 M16))

theorem first14_list : runFirst.sl.H14_17 (F := Ideal) c i M1 M4 M5 M13 M14 M16 f1 f4 f5 f13
    = firstList i M4 f4 M13 (M13.view.writes (Elt Ideal) f13 (runFirst.sl.H13_16 (F := Ideal) c M5 f5)) (G16 c M1 f1 M16) M14 16 le_rfl := first14_16 c i M1 f1 M4 f4 M5 f5 M13 f13 M14 M16

/-- The accumulator after step `j`, from the weights `W`, the scales `s` and the quantised gradient `G`: entry `y` gains the products of
the scaled weights of row `y 0` with row `y 1` of the gradient. -/
def stepD (W : S4096x512.Idx → EReal) (s : S4096x448.Idx → BitVec 8) (j : ℕ) (G : S128x512.Idx → EReal) (a : S4096x128.Idx → EReal) : S4096x128.Idx → EReal :=
  fun y => a y + ∑ n : Fin 512, W (ix2 (y 0) n) * dsc (s (ix2 (y 0) ⟨(16 * j + n.val / 32) % 448, Nat.mod_lt _ (by decide)⟩)) * G (ix2 (y 1) n)

theorem stepF_eq (W S : S4096x512.Idx → EReal) (s : S4096x448.Idx → BitVec 8) (hS : Scales S s) (j : ℕ) (hj : j < 28) (G : S128x512.Idx → EReal) (a : S4096x128.Idx → EReal) :
    stepF W S j G a = stepD W s j G a := by
  funext y
  unfold stepF stepD
  refine congrArg (fun z : EReal => a y + z) (Finset.sum_congr rfl fun n _ => congrArg (fun z => W (ix2 (y 0) n) * z * G (ix2 (y 1) n)) ?_)
  refine Eq.trans (congrArg (fun z => S (ix2 (y 0) z)) (Fin.ext ?_)) (hS (y 0) ⟨(16 * j + n.val / 32) % 448, Nat.mod_lt _ (by decide)⟩)
  show (16 * j + n.val / 32) % 512 = (16 * j + n.val / 32) % 448
  omega

theorem mid14_read (s : S4096x448.Idx → BitVec 8) (hS : Scales (M13.view.read (Elt Ideal) f13) s) (n : ℕ) (hi : (i 0).val = n) (v : View sig .tc .vmem S4096x128 .f32) (f : v.ty.Contents (Elt Ideal)) :
    v.read (Elt Ideal) (v.writes (Elt Ideal) f (runMid.sl.H14_16 (F := Ideal) c i M1 M4 M13 M14 M16 f1 f4 f13 f14))
      = stepD (M4.view.read (Elt Ideal) f4) s n (growF (M1.view.read (Elt Ideal) f1)) (M14.view.read (Elt Ideal) f14) := by
  have hj : (i 0).val < 28 := (jOf i).isLt
  rw [mid14_list, midList_read, G16_eq, stepF_eq _ _ s hS _ hj, hi]

theorem last14_read (s : S4096x448.Idx → BitVec 8) (hS : Scales (M13.view.read (Elt Ideal) f13) s) (n : ℕ) (hi : (i 0).val = n) (v : View sig .tc .vmem S4096x128 .f32) (f : v.ty.Contents (Elt Ideal)) :
    v.read (Elt Ideal) (v.writes (Elt Ideal) f (runLast.sl.H14_16 (F := Ideal) c i M1 M4 M13 M14 M16 f1 f4 f13 f14))
      = stepD (M4.view.read (Elt Ideal) f4) s n (growF (M1.view.read (Elt Ideal) f1)) (M14.view.read (Elt Ideal) f14) := by
  have hj : (i 0).val < 28 := (jOf i).isLt
  rw [last14_list, midList_read, G16_eq, stepF_eq _ _ s hS _ hj, hi]

theorem last6_read (s : S4096x448.Idx → BitVec 8) (hS : Scales (M13.view.read (Elt Ideal) f13) s) (n : ℕ) (hi : (i 0).val = n) (v : View sig .tc .vmem S128x4096 .bf16) (f : v.ty.Contents (Elt Ideal)) :
    v.read (Elt Ideal) (v.writes (Elt Ideal) f (runLast.sl.H6_16 (F := Ideal) c i M1 M4 M13 M14 M16 f1 f4 f13 f14))
      = dxT (stepD (M4.view.read (Elt Ideal) f4) s n (growF (M1.view.read (Elt Ideal) f1)) (M14.view.read (Elt Ideal) f14)) := by
  have hj : (i 0).val < 28 := (jOf i).isLt
  rw [last6_list, dxList_read, midList_read, G16_eq, stepF_eq _ _ s hS _ hj, hi]

theorem first14_read (n : ℕ) (hi : (i 0).val = n) :
    M14.view.read (Elt Ideal) (M14.view.writes (Elt Ideal) M14.view.junk (runFirst.sl.H14_17 (F := Ideal) c i M1 M4 M5 M13 M14 M16 f1 f4 f5 f13))
      = stepD (M4.view.read (Elt Ideal) f4) (M5.view.read (Elt Ideal) f5) n (growF (M1.view.read (Elt Ideal) f1)) (fun _ => 0) := by
  have hj : (i 0).val < 28 := (jOf i).isLt
  funext y
  have l0 : (y 0).val < 4096 := idx2_lt0 (n0 := 4096) (n1 := 128) y
  rw [first14_list, firstList_read, if_pos (by omega), G16_eq, stepF_eq _ _ _ (sc_read c M5 f5 M13.view f13) _ hj, hi]

end

end Cert.KernelIdeal.Val
-- ==== Proof.Code.lean ====
module

public import proofs.«01_k».proof.Proof.Quant

/-! The codes and scale bytes of one element: as the kernel packs them and as the reference states them. -/

@[expose] public section

set_option maxRecDepth 8000

noncomputable section

namespace Cert.Quant

open Idealize.ShloMosaic

/-- The low sixteen bits of the rounded quotient of `v` at the greatest magnitude `a`. -/
def k16 (v a : EReal) : BitVec 16 := (Ideal.fptosi 32 (kzi (ky v a))).setWidth 16

/-- The sign of `v` as the top bit of sixteen. -/
def s16 (v : EReal) : BitVec 16 :=
  (Scalar.select (Ideal.cmp .olt v (Ideal.ofBits .bf16 0x0000#16)) 4294934528#32 0#32).setWidth 16

/-- The word of two neighbours: the code of the first in the low half, that of the second in the high half. -/
def wd (z0 z1 g0 g1 : BitVec 16) : BitVec 32 :=
  IntOp.ori (IntOp.andi (z1 ++ z0) 458759#32) (IntOp.shrui .vector (g1 ++ g0) 12#32)

/-- The byte packed from the two codes of a word. -/
def rcb (w : BitVec 32) : BitVec 8 :=
  (IntOp.ori (IntOp.andi w 15#32) (IntOp.andi (IntOp.shrui .vector w 12#32) 240#32)).setWidth 8

/-- A half of a word of codes, read as a float through the bits of the float 128. -/
def cfl (q : ℕ) (w : BitVec 32) : EReal :=
  Ideal.ofBits .bf16 ((IntOp.ori w 1124090624#32).extractLsb' (16 * q) 16) - Ideal.ofBits .bf16 0x4300#16

/-- The byte packed from two codes held as floats. -/
def ccb (x y : EReal) : BitVec 8 := (Ideal.fptosi 32 (x + y * 16)).setWidth 8

/-- The scale's exponent as the kernel reads it, biased by 127. -/
def kexp (a : EReal) : BitVec 32 :=
  IntOp.addi (Ideal.fptosi 32 (Ideal.liftRound Ideal.roundHalfEven (Ideal.log (kscale a) * L2))) 127#32

theorem k16_and (z : ℕ) (h : z ≤ 199) :
    (Ideal.fptosi 32 ((z : ℝ) : EReal)).setWidth 16 &&& 7#16 = BitVec.ofNat 16 (z % 8) := by
  rw [fptosi_nat z (by omega)]
  exact (by decide +kernel : ∀ z : Fin 200, (BitVec.ofNat 32 z.val).setWidth 16 &&& 7#16 = BitVec.ofNat 16 (z.val % 8)) ⟨z, by omega⟩

theorem wd_and (z0 z1 g0 g1 : BitVec 16) : wd z0 z1 g0 g1 = wd (z0 &&& 7#16) (z1 &&& 7#16) g0 g1 := by
  have h : ∀ x y : BitVec 16, ((x ++ y : BitVec 32) &&& 458759#32) = ((x &&& 7#16) ++ (y &&& 7#16) : BitVec 32) := fun x y => by
    rw [show (458759#32) = (7#16 ++ 7#16 : BitVec 32) by decide]
    exact BitVec.and_append
  show (((z1 ++ z0 : BitVec 32) &&& 458759#32) ||| _) = ((((z1 &&& 7#16) ++ (z0 &&& 7#16) : BitVec 32) &&& 458759#32) ||| _)
  rw [h, h, BitVec.and_assoc, BitVec.and_assoc, BitVec.and_self]

theorem wd_table : ∀ (k0 k1 : Fin 8) (b0 b1 : Bool),
    wd (BitVec.ofNat 16 k0.val) (BitVec.ofNat 16 k1.val) (if b0 then 0x8000#16 else 0#16) (if b1 then 0x8000#16 else 0#16)
      = BitVec.ofNat 32 ((if b0 then k0.val + 8 else k0.val) + 65536 * (if b1 then k1.val + 8 else k1.val)) := by
  decide +kernel

theorem s16_real (v : ℝ) : s16 (v : EReal) = if decide (v < 0) then 0x8000#16 else 0#16 := by
  unfold s16
  simp only [Ideal.cmp, select_ofBool, c_zero', EReal.coe_lt_coe_iff]
  by_cases h : v < 0
  · simp [h]
  · simp [h]

/-- Two real neighbours at greatest magnitudes the quantiser takes: the kernel's word of them holds the codes the reference states. -/
theorem word (v0 a0 v1 a1 : ℝ) (h0 : Ok a0) (h1 : Ok a1) : ∃ n0 n1 : Fin 16,
    rnib (v0 : EReal) (a0 : EReal) = BitVec.ofNat 32 n0.val ∧ rnib (v1 : EReal) (a1 : EReal) = BitVec.ofNat 32 n1.val ∧
    wd (k16 v0 a0) (k16 v1 a1) (s16 v0) (s16 v1) = BitVec.ofNat 32 (n0.val + 65536 * n1.val) := by
  obtain ⟨e0, k0, z0, _, _, b0, c0, d0, _, _, _, f0, g0, _⟩ := quant v0 a0 h0
  obtain ⟨e1, k1, z1, _, _, b1, c1, d1, _, _, _, f1, g1, _⟩ := quant v1 a1 h1
  refine ⟨⟨if v0 < 0 then k0 + 8 else k0, by split_ifs <;> omega⟩, ⟨if v1 < 0 then k1 + 8 else k1, by split_ifs <;> omega⟩, g0, g1, ?_⟩
  rw [wd_and, k16, k16, f0, f1, k16_and z0 c0, k16_and z1 c1, d0, d1, s16_real, s16_real]
  rw [wd_table ⟨k0, by omega⟩ ⟨k1, by omega⟩]
  simp only [decide_eq_true_eq]

theorem rcb_table : ∀ n0 n1 : Fin 16, rcb (BitVec.ofNat 32 (n0.val + 65536 * n1.val))
    = (IntOp.addi (BitVec.ofNat 32 n0.val) (IntOp.muli 16#32 (BitVec.ofNat 32 n1.val))).setWidth 8 := by decide +kernel

theorem half_table : ∀ n0 n1 : Fin 16,
    (IntOp.ori (BitVec.ofNat 32 (n0.val + 65536 * n1.val)) 1124090624#32).extractLsb' (16 * 0) 16 = BitVec.ofNat 16 (0x4300 + n0.val)
    ∧ (IntOp.ori (BitVec.ofNat 32 (n0.val + 65536 * n1.val)) 1124090624#32).extractLsb' (16 * 1) 16 = BitVec.ofNat 16 (0x4300 + n1.val) := by
  decide +kernel

theorem c_4300 (n : Fin 16) : Ideal.ofBits .bf16 (BitVec.ofNat 16 (0x4300 + n.val)) = ((128 + n.val : ℝ) : EReal) := by
  fin_cases n <;> exact bf16_eq (by decide) (by decide) (by simp <;> norm_num)

theorem cfl_eq (n0 n1 : Fin 16) : cfl 0 (BitVec.ofNat 32 (n0.val + 65536 * n1.val)) = ((n0.val : ℝ) : EReal) ∧
    cfl 1 (BitVec.ofNat 32 (n0.val + 65536 * n1.val)) = ((n1.val : ℝ) : EReal) := by
  have h := c_4300 0
  rw [show BitVec.ofNat 16 (0x4300 + (0 : Fin 16).val) = 0x4300#16 by decide] at h
  unfold cfl
  rw [(half_table n0 n1).1, (half_table n0 n1).2, c_4300, c_4300, h, ← EReal.coe_sub, ← EReal.coe_sub]
  constructor <;> (congr 1; simp)

theorem ccb_eq (n0 n1 : Fin 16) : ccb ((n0.val : ℝ) : EReal) ((n1.val : ℝ) : EReal)
    = (IntOp.addi (BitVec.ofNat 32 n0.val) (IntOp.muli 16#32 (BitVec.ofNat 32 n1.val))).setWidth 8 := by
  unfold ccb
  rw [show ((n0.val : ℝ) : EReal) + ((n1.val : ℝ) : EReal) * 16 = ((((n0.val + n1.val * 16 : ℕ)) : ℝ) : EReal) by push_cast; rfl,
    fptosi_nat _ (by omega)]
  exact (by decide +kernel : ∀ n0 n1 : Fin 16, (BitVec.ofNat 32 (n0.val + n1.val * 16)).setWidth 8
    = (IntOp.addi (BitVec.ofNat 32 n0.val) (IntOp.muli 16#32 (BitVec.ofNat 32 n1.val))).setWidth 8) n0 n1

theorem rhe_intCast (e : ℤ) : Ideal.roundHalfEven (e : ℝ) = e :=
  have h := rhe_bounds (e : ℝ) e e le_rfl le_rfl
  le_antisymm h.2 h.1

/-- The exponent read back from the scale is the exponent the reference states. -/
theorem kexp_eq (a : ℝ) (h : Ok a) : kexp (a : EReal) = IntOp.addi (rexp (a : EReal)) 127#32 := by
  obtain ⟨e, _, _, e0, e1, _, _, _, _, s, r, _⟩ := quant 0 a h
  unfold kexp
  rw [s, r, Ideal.log_coe, if_neg (by rw [not_le]; positivity), L2, ← EReal.coe_mul, Real.log_zpow,
    mul_assoc, mul_inv_cancel₀ (Real.log_pos (by norm_num)).ne', mul_one, Ideal.liftRound_coe, rhe_intCast, Ideal.fptosi, Ideal.toIntClamped_coe]
  congr 2
  rcases le_or_gt 0 e with h | h
  · rw [if_pos (by exact_mod_cast h), Int.floor_intCast]; omega
  · rw [if_neg (by rw [not_le]; exact_mod_cast h), Int.ceil_intCast]; omega

end Cert.Quant
-- ==== Proof.KICode.lean ====
module

public import proofs.«01_k».proof.Proof.KIRow
public import proofs.«01_k».proof.Proof.KIEq
public import proofs.«01_k».proof.Proof.Code
public import Idealize.ShloMosaic.Lib.BitcastPair

/-! The packed codes and the scale bytes that the kernel's body stores, read at an element, over the extended reals. -/

@[expose] public section

set_option backward.isDefEq.respectTransparency.types false
set_option maxRecDepth 8000

noncomputable section

namespace Cert.KernelIdeal.Val

open Idealize.ShloMosaic Idealize.ShloMosaic.ValueIdx Cert.KernelIdeal Cert.KernelIdeal.Gen Cert.KernelIdeal.Body Cert.Quant

/-! ### Sixteen-bit pairs -/

/-- Rows `2p` and `2p + 1` of sixteen-bit numbers, read as one row of words. -/
theorem pair_apply {M m n : ℕ} (x : (⟨2, ![M, n]⟩ : Shape).Idx → BitVec 16) (h : (⟨2, ![M, n]⟩ : Shape).Bitcasts 16 ⟨2, ![m, n]⟩ 32)
    (p : Fin m) (l : Fin n) (h1 : 2 * p.val + 1 < M) :
    bitcast (⟨2, ![m, n]⟩ : Shape) 32 x h (ix2 p l) = (x (ix2 ⟨2 * p.val + 1, h1⟩ l) ++ x (ix2 ⟨2 * p.val, by omega⟩ l) : BitVec 32) := by
  refine (bitcast_16_32 x h (ix2 p l)).trans (congrArg₂ (fun a b : BitVec 16 => (a ++ b : BitVec 32)) (congrArg x ?_) (congrArg x ?_))
  · funext a
    match a with
    | 0 => exact Fin.ext (Shape.Bitcasts.srcIdx_row h _ _ _ 0 rfl)
    | 1 => exact Fin.ext (Shape.Bitcasts.srcIdx_other h _ _ _ 1 (by show ¬ (1 + 2 = 2); decide))
  · funext a
    match a with
    | 0 => exact Fin.ext (Shape.Bitcasts.srcIdx_row h _ _ _ 0 rfl)
    | 1 => exact Fin.ext (Shape.Bitcasts.srcIdx_other h _ _ _ 1 (by show ¬ (1 + 2 = 2); decide))

/-- A row of words read as two rows of sixteen-bit numbers: the low half first. -/
theorem unpair_apply {M m n : ℕ} (x : (⟨2, ![m, n]⟩ : Shape).Idx → BitVec 32) (h : (⟨2, ![m, n]⟩ : Shape).Bitcasts 32 ⟨2, ![M, n]⟩ 16)
    (r : Fin M) (l : Fin n) (h1 : r.val / 2 < m) :
    bitcast (⟨2, ![M, n]⟩ : Shape) 16 x h (ix2 r l) = (x (ix2 ⟨r.val / 2, h1⟩ l)).extractLsb' (16 * (r.val % 2)) 16 := by
  refine (bitcast_32_16 x h (ix2 r l)).trans (congrArg (fun a : BitVec 32 => a.extractLsb' (16 * (r.val % 2)) 16) (congrArg x ?_))
  funext a
  match a with
  | 0 => exact Fin.ext (Shape.Bitcasts.srcIdx_row h _ _ _ 0 rfl)
  | 1 => exact Fin.ext (Shape.Bitcasts.srcIdx_other h _ _ _ 1 (by show ¬ (1 + 2 = 2); decide))

/-! ### The column scales -/

/-- The exponent byte of each column of a block of 32 rows, as a word. -/
def csPart (v : FVec Ideal S32x512 .bf16) : IVec S1x512 32 := k0_pay276 (F := Ideal) (k0_pay266 (F := Ideal) v)

theorem pay276_apply (s : FVec Ideal S32x512 .bf16) (n : Fin 512) : k0_pay276 (F := Ideal) s (ix2 0 n)
    = IntOp.addi (Ideal.fptosi 32 (Ideal.liftRound Ideal.roundHalfEven (Ideal.log (s (ix2 0 n)) * L2))) 127#32 := by
  unfold k0_pay276
  rw [named_log2e]
  refine congrArg (fun z => IntOp.addi (Ideal.fptosi 32 (Ideal.liftRound Ideal.roundHalfEven (Ideal.log (s z) * L2))) 127#32) ?_
  funext a
  match a with
  | 0 => rfl
  | 1 => exact Fin.ext (Nat.zero_add _)

theorem csPart_apply (v : FVec Ideal S32x512 .bf16) (n : Fin 512) : csPart v (ix2 0 n) = kexp (cmax v n) := by
  unfold csPart
  rw [pay266_eq, pay276_apply, vscale_apply, colR_apply]
  exact congrArg kexp (colM_apply v n)

/-- The bytes of the four blocks. -/
def csP (v0 v1 v2 v3 : FVec Ideal S32x512 .bf16) : IVec S4x512 8 :=
  trunci 8 (concatenate S4x512 0 [⟨S1x512, csPart v0⟩, ⟨S1x512, csPart v1⟩, ⟨S1x512, csPart v2⟩, ⟨S1x512, csPart v3⟩]
    concatenates_S1x512_S1x512_S1x512_S1x512_S4x512_d0) natLt_8_32

theorem csP_apply (v : Fin 4 → FVec Ideal S32x512 .bf16) (b : Fin 4) (n : Fin 512) :
    csP (v 0) (v 1) (v 2) (v 3) (ix2 b n) = (kexp (cmax (v b) n)).setWidth 8 := by
  have key := concatenate_ofFn_apply (t := S4x512) (s₁ := S1x512) 0 (fun b : Fin 4 => csPart (v b))
    concatenates_S1x512_S1x512_S1x512_S1x512_S4x512_d0 rfl 1 rfl (ix2 b n) b
    (Nat.div_one _) (ix2 0 n) (Nat.mod_one _).symm
    (by intro a ha; match a with | 0 => exact absurd rfl ha | 1 => rfl)
  exact congrArg (fun z : BitVec 32 => z.setWidth 8) (key.trans (csPart_apply (v b) n))

/-- A grid step's scale bytes, one for each block of 32 rows and column. -/
def csF (X : S128x512.Idx → EReal) : S4x512.Idx → BitVec 8 := fun j => (kexp (cmax (blk X (j 0)) (j 1))).setWidth 8

section
variable (c : Dev nD) (M1 : Memref sig .tc .vmem S128x512 .bf16) (f1 : M1.view.ty.Contents (Elt Ideal))

/-- The `b`-th block of 32 rows, as the body reads it. -/
abbrev rdb (o : ℕ) (inb : ∀ a, (![o, 0] : Fin 2 → ℕ) a + S32x512.size a ≤ S128x512.size a) : FVec Ideal S32x512 .bf16 :=
  M1.view.readAt (Elt Ideal) (Rect.unit (s := S128x512) ![o, 0] S32x512.size inb).toLoadRect f1

theorem cs_list : runMid.sl.H11_1 (F := Ideal) c M1 f1 =
    [⟨Rect.unit (s := S4x512) ![0, 0] S4x512.size inb_S4x512_S4x512_0_0, csP (rdb M1 f1 0 inb_S128x512_S32x512_0_0) (rdb M1 f1 32 inb_S128x512_S32x512_32_0)
      (rdb M1 f1 64 inb_S128x512_S32x512_64_0) (rdb M1 f1 96 inb_S128x512_S32x512_96_0)⟩] := rfl

theorem cs_read (v : View sig .tc .vmem S4x512 .i8) (f : v.ty.Contents (Elt Ideal)) :
    v.read (Elt Ideal) (v.writes (Elt Ideal) f (runMid.sl.H11_1 (F := Ideal) c M1 f1)) = csF (X1 M1 f1) := by
  funext y
  rw [cs_list]
  refine View.read_writes_apply_of_pieces (Val := Elt Ideal) (s := S4x512) (e := .i8) _ _ (csF (X1 M1 f1)) _ ?_ y ?_
  · refine List.forall_mem_cons.mpr ⟨fun x => ?_, fun p hp => absurd hp List.not_mem_nil⟩
    have l0 : (x 0).val < 4 := idx2_lt0 (n0 := 4) (n1 := 512) x
    have l1 : (x 1).val < 512 := idx2_lt1 (n0 := 4) (n1 := 512) x
    have e : (Rect.unit (s := S4x512) ![0, 0] S4x512.size inb_S4x512_S4x512_0_0).emb x = ix2 (x 0) (x 1) :=
      (emb_unit2 (M := 4) (N := 512) (m := 4) (n := 512) 0 0 inb_S4x512_S4x512_0_0 x (by omega) (by omega)).trans (congrArg₂ ix2 (Fin.ext (Nat.zero_add _)) (Fin.ext (Nat.zero_add _)))
    refine Eq.trans ?_ (congrArg _ e.symm)
    unfold rdb
    rw [readAt_blk M1.view f1 0 0 rfl inb_S128x512_S32x512_0_0, readAt_blk M1.view f1 1 32 rfl inb_S128x512_S32x512_32_0,
      readAt_blk M1.view f1 2 64 rfl inb_S128x512_S32x512_64_0, readAt_blk M1.view f1 3 96 rfl inb_S128x512_S32x512_96_0]
    exact (congrArg _ (eq_ix2 (n0 := 4) (n1 := 512) x)).trans (csP_apply (fun b => blk (X1 M1 f1) b) (x 0) (x 1))
  · have l0 := idx2_lt0 y
    have l1 := idx2_lt1 y
    simp only [List.mem_cons, List.not_mem_nil, or_false, exists_eq_left]
    exact mem_unit2 0 0 _ y ⟨by omega, by omega⟩ ⟨by omega, by omega⟩

end

/-! ### The row codes -/

/-- The words of the codes of 128 lanes: a word for each pair of rows. -/
def rcW (v : FVec Ideal S128x128 .bf16) : IVec S64x128 32 :=
  ori (andi (bitcast S64x128 32 (trunci 16 (fptosi 32 (rowZ (rowY (shapeCast S128x128 v shapeCasts_S128x128_S128x128) (rscale (rowM v))))) natLt_16_32) bitcasts_S128x128_w16_S64x128_w32) (broadcast S64x128 458759#32))
    (shrui (bitcast S64x128 32 (trunci 16 (select (cmpf .olt (shapeCast S128x128 v shapeCasts_S128x128_S128x128) (broadcast S128x128 (Scalar.ofBits .bf16 0x0000#16)))
      (broadcast S128x128 4294934528#32) (broadcast S128x128 0#32)) natLt_16_32) bitcasts_S128x128_w16_S64x128_w32) (broadcast S64x128 12#32))

/-- The bytes of the codes of 128 lanes. -/
def rcP (v : FVec Ideal S128x128 .bf16) : IVec S64x128 8 :=
  trunci 8 (ori (andi (rcW v) (broadcast S64x128 15#32)) (andi (shrui (rcW v) (broadcast S64x128 12#32)) (broadcast S64x128 240#32))) natLt_8_32

/-- The sixteen bits of the rounded quotient in a row of lanes. -/
def rk16 (v : S128x128.Idx → EReal) (r l : Fin 128) : BitVec 16 :=
  k16 (v (ix2 r l)) (lmax (fun l => max (v (ix2 r l)) (-(v (ix2 r l)))) l)

theorem rcW_apply (v : FVec Ideal S128x128 .bf16) (p : Fin 64) (l : Fin 128) :
    rcW v (ix2 p l) = wd (rk16 v ⟨2 * p.val, by omega⟩ l) (rk16 v ⟨2 * p.val + 1, by omega⟩ l) (s16 (v (ix2 ⟨2 * p.val, by omega⟩ l))) (s16 (v (ix2 ⟨2 * p.val + 1, by omega⟩ l))) := by
  unfold rcW
  rw [shapeCast_self]
  have hz : ∀ r : Fin 128, trunci 16 (fptosi 32 (rowZ (rowY v (rscale (rowM v))))) natLt_16_32 (ix2 r l) = rk16 v r l := fun r => by
    show (Ideal.fptosi 32 (rowZ _ (ix2 r l))).setWidth 16 = _
    rw [rowZ_apply, rowY_apply, rscale_apply, rowM_apply]
    rfl
  show IntOp.ori (IntOp.andi (bitcast S64x128 32 _ _ (ix2 p l)) 458759#32) (IntOp.shrui .vector (bitcast S64x128 32 _ _ (ix2 p l)) 12#32) = _
  refine congrArg₂ (fun a b => IntOp.ori (IntOp.andi a 458759#32) (IntOp.shrui .vector b 12#32)) ?_ ?_
  · refine (pair_apply (M := 128) (m := 64) (n := 128) _ _ p l (by omega)).trans ?_
    rw [hz, hz]
  · exact pair_apply (M := 128) (m := 64) (n := 128) _ _ p l (by omega)

theorem rcP_apply (v : FVec Ideal S128x128 .bf16) (p : Fin 64) (l : Fin 128) :
    rcP v (ix2 p l) = rcb (wd (rk16 v ⟨2 * p.val, by omega⟩ l) (rk16 v ⟨2 * p.val + 1, by omega⟩ l) (s16 (v (ix2 ⟨2 * p.val, by omega⟩ l))) (s16 (v (ix2 ⟨2 * p.val + 1, by omega⟩ l)))) := by
  rw [← rcW_apply]
  rfl

/-- The sixteen bits of the rounded quotient in a row of a grid step's block. -/
def gk16 (X : S128x512.Idx → EReal) (r : Fin 128) (n : Fin 512) : BitVec 16 :=
  k16 (X (ix2 r n)) ((Finset.univ : Finset (Fin 32)).fold max ⊥ (fun k =>
    max (X (ix2 r ⟨32 * (n.val / 32) + k.val, by omega⟩)) (-(X (ix2 r ⟨32 * (n.val / 32) + k.val, by omega⟩)))))

/-- A grid step's packed row codes. -/
def rcF (X : S128x512.Idx → EReal) : S64x512.Idx → BitVec 8 := fun j =>
  rcb (wd (gk16 X ⟨2 * (j 0).val, by have := idx2_lt0 j; omega⟩ (j 1)) (gk16 X ⟨2 * (j 0).val + 1, by have := idx2_lt0 j; omega⟩ (j 1))
    (s16 (X (ix2 ⟨2 * (j 0).val, by have := idx2_lt0 j; omega⟩ (j 1)))) (s16 (X (ix2 ⟨2 * (j 0).val + 1, by have := idx2_lt0 j; omega⟩ (j 1)))))

section
variable (c : Dev nD) (M1 : Memref sig .tc .vmem S128x512 .bf16) (f1 : M1.view.ty.Contents (Elt Ideal))

/-- The packed row codes: four tiles of 128 lanes. -/
theorem rc_list : runMid.sl.H8_4 (F := Ideal) c M1 f1 =
    [⟨Rect.unit (s := S64x512) ![0, 384] S64x128.size inb_S64x512_S64x128_0_384, rcP (M1.view.readAt (Elt Ideal) (Rect.unit (s := S128x512) ![0, 384] S128x128.size inb_S128x512_S128x128_0_384).toLoadRect f1)⟩,
     ⟨Rect.unit (s := S64x512) ![0, 256] S64x128.size inb_S64x512_S64x128_0_256, rcP (M1.view.readAt (Elt Ideal) (Rect.unit (s := S128x512) ![0, 256] S128x128.size inb_S128x512_S128x128_0_256).toLoadRect f1)⟩,
     ⟨Rect.unit (s := S64x512) ![0, 128] S64x128.size inb_S64x512_S64x128_0_128, rcP (M1.view.readAt (Elt Ideal) (Rect.unit (s := S128x512) ![0, 128] S128x128.size inb_S128x512_S128x128_0_128).toLoadRect f1)⟩,
     ⟨Rect.unit (s := S64x512) ![0, 0] S64x128.size inb_S64x512_S64x128_0_0, rcP (M1.view.readAt (Elt Ideal) (Rect.unit (s := S128x512) ![0, 0] S128x128.size inb_S128x512_S128x128_0_0).toLoadRect f1)⟩] := rfl

theorem rc_piece (p : ℕ) (hp : p % 128 = 0) (hp' : p ≤ 384) (inb : ∀ a, (![0, p] : Fin 2 → ℕ) a + S128x128.size a ≤ S128x512.size a)
    (inb' : ∀ a, (![0, p] : Fin 2 → ℕ) a + S64x128.size a ≤ S64x512.size a) (x : S64x128.Idx) :
    rcP (M1.view.readAt (Elt Ideal) (Rect.unit (s := S128x512) ![0, p] S128x128.size inb).toLoadRect f1) x
      = rcF (X1 M1 f1) ((Rect.unit (s := S64x512) ![0, p] S64x128.size inb').emb x) := by
  have l0 := idx2_lt0 x
  have l1 := idx2_lt1 x
  have rd : ∀ r l : Fin 128, M1.view.readAt (Elt Ideal) (Rect.unit (s := S128x512) ![0, p] S128x128.size inb).toLoadRect f1 (ix2 r l) = X1 M1 f1 (ix2 r ⟨p + l.val, by omega⟩) := fun r l => by
    refine congrArg (M1.view.read (Elt Ideal) f1) ((emb_unit2 (M := 128) (N := 512) (m := 128) (n := 128) 0 p inb (ix2 r l) (by show 0 + r.val < 128; omega) (by show p + l.val < 512; omega)).trans ?_)
    exact congrArg (fun z => ix2 z _) (Fin.ext (Nat.zero_add _))
  have e : (Rect.unit (s := S64x512) ![0, p] S64x128.size inb').emb x = ix2 (x 0) ⟨p + (x 1).val, by omega⟩ :=
    (emb_unit2 (M := 64) (N := 512) (m := 64) (n := 128) 0 p inb' x (by omega) (by omega)).trans (congrArg (fun z => ix2 z _) (Fin.ext (Nat.zero_add _)))
  refine Eq.trans ?_ (congrArg _ e.symm)
  refine (congrArg _ (eq_ix2 (n0 := 64) (n1 := 128) x)).trans ((rcP_apply _ (x 0) (x 1)).trans ?_)
  have hk : ∀ r : Fin 128, rk16 (M1.view.readAt (Elt Ideal) (Rect.unit (s := S128x512) ![0, p] S128x128.size inb).toLoadRect f1) r (x 1) = gk16 (X1 M1 f1) r ⟨p + (x 1).val, by omega⟩ := fun r => by
    unfold rk16 gk16 lmax
    refine congrArg₂ k16 (rd r _) (Finset.fold_congr fun k _ => ?_)
    refine congrArg (fun z : EReal => max z (-z)) ((rd _ _).trans ?_)
    refine congrArg (fun z => X1 M1 f1 (ix2 r z)) (Fin.ext ?_)
    show p + (32 * ((x 1).val / 32) + k.val) = 32 * ((p + (x 1).val) / 32) + k.val
    omega
  unfold rcF
  rw [hk, hk, rd, rd]

theorem rc_read (v : View sig .tc .vmem S64x512 .i8) (f : v.ty.Contents (Elt Ideal)) :
    v.read (Elt Ideal) (v.writes (Elt Ideal) f (runMid.sl.H8_4 (F := Ideal) c M1 f1)) = rcF (X1 M1 f1) := by
  funext y
  rw [rc_list]
  refine View.read_writes_apply_of_pieces (Val := Elt Ideal) (s := S64x512) (e := .i8) _ _ (rcF (X1 M1 f1)) _ ?_ y ?_
  · refine List.forall_mem_cons.mpr ⟨fun x => rc_piece M1 f1 384 rfl (by omega) inb_S128x512_S128x128_0_384 inb_S64x512_S64x128_0_384 x, ?_⟩
    refine List.forall_mem_cons.mpr ⟨fun x => rc_piece M1 f1 256 rfl (by omega) inb_S128x512_S128x128_0_256 inb_S64x512_S64x128_0_256 x, ?_⟩
    refine List.forall_mem_cons.mpr ⟨fun x => rc_piece M1 f1 128 rfl (by omega) inb_S128x512_S128x128_0_128 inb_S64x512_S64x128_0_128 x, ?_⟩
    refine List.forall_mem_cons.mpr ⟨fun x => rc_piece M1 f1 0 rfl (by omega) inb_S128x512_S128x128_0_0 inb_S64x512_S64x128_0_0 x, ?_⟩
    exact fun p hp => absurd hp List.not_mem_nil
  · have l0 := idx2_lt0 y
    have l1 := idx2_lt1 y
    simp only [List.mem_cons, List.not_mem_nil, or_false, exists_eq_or_imp, exists_eq_left]
    by_cases h3 : 384 ≤ (y 1).val
    · exact Or.inl (mem_unit2 0 384 _ y ⟨by omega, by omega⟩ ⟨h3, by omega⟩)
    by_cases h2 : 256 ≤ (y 1).val
    · exact Or.inr (Or.inl (mem_unit2 0 256 _ y ⟨by omega, by omega⟩ ⟨h2, by omega⟩))
    by_cases h1 : 128 ≤ (y 1).val
    · exact Or.inr (Or.inr (Or.inl (mem_unit2 0 128 _ y ⟨by omega, by omega⟩ ⟨h1, by omega⟩)))
    · exact Or.inr (Or.inr (Or.inr (mem_unit2 0 0 _ y ⟨by omega, by omega⟩ ⟨by omega, by omega⟩)))

end

/-! ### The column codes -/

/-- The codes of a block of 32 rows as floats. -/
def ccPart (v : FVec Ideal S32x512 .bf16) : FVec Ideal S32x512 .bf16 :=
  k0_pay275 (F := Ideal) (k0_pay272 (F := Ideal) (k0_pay264 (F := Ideal) v)) (k0_pay273 (F := Ideal) (k0_pay265 (F := Ideal) v) (k0_pay266 (F := Ideal) v)) 458759#32

/-- The sixteen bits of the rounded quotient in a column of 32 rows. -/
def ck16 (v : S32x512.Idx → EReal) (r : Fin 32) (n : Fin 512) : BitVec 16 := k16 (v (ix2 r n)) (cmax v n)

theorem pay275_apply (A B : IVec S16x512 32) (r : Fin 32) (n : Fin 512) : k0_pay275 (F := Ideal) A B 458759#32 (ix2 r n)
    = cfl (r.val % 2) (IntOp.ori (IntOp.andi (B (ix2 ⟨r.val / 2, by omega⟩ n)) 458759#32) (IntOp.shrui .vector (A (ix2 ⟨r.val / 2, by omega⟩ n)) 12#32)) := by
  unfold k0_pay275
  refine congrArg (fun a => Ideal.ofBits .bf16 a - Ideal.ofBits .bf16 0x4300#16) ?_
  exact unpair_apply (M := 32) (m := 16) (n := 512) _ bitcasts_S16x512_w32_S32x512_w16 r n (by omega)

theorem pay273_apply (a s : FVec Ideal S32x512 .bf16) (p : Fin 16) (n : Fin 512) : k0_pay273 (F := Ideal) a s (ix2 p n)
    = ((Ideal.fptosi 32 (k0_pay270 (F := Ideal) a s (ix2 ⟨2 * p.val + 1, by omega⟩ n))).setWidth 16 ++ (Ideal.fptosi 32 (k0_pay270 (F := Ideal) a s (ix2 ⟨2 * p.val, by omega⟩ n))).setWidth 16 : BitVec 32) := by
  unfold k0_pay273
  exact pair_apply (M := 32) (m := 16) (n := 512) _ bitcasts_S32x512_w16_S16x512_w32 p n (by omega)

theorem pay272_apply (v : FVec Ideal S32x512 .bf16) (p : Fin 16) (n : Fin 512) : k0_pay272 (F := Ideal) v (ix2 p n)
    = (s16 (v (ix2 ⟨2 * p.val + 1, by omega⟩ n)) ++ s16 (v (ix2 ⟨2 * p.val, by omega⟩ n)) : BitVec 32) := by
  unfold k0_pay272
  exact pair_apply (M := 32) (m := 16) (n := 512) _ bitcasts_S32x512_w16_S16x512_w32 p n (by omega)

theorem ck16_eq (v : FVec Ideal S32x512 .bf16) (r : Fin 32) (n : Fin 512) :
    (Ideal.fptosi 32 (k0_pay270 (F := Ideal) (k0_pay265 (F := Ideal) v) (vscale (colR (colM v))) (ix2 r n))).setWidth 16 = ck16 v r n := by
  rw [pay270_apply, pay267_apply, pay265_apply, vscale_apply, colR_apply]
  refine (congrArg (k16 (v (ix2 r n))) (colM_apply v n))

theorem ccPart_apply (v : FVec Ideal S32x512 .bf16) (r : Fin 32) (n : Fin 512) :
    ccPart v (ix2 r n) = cfl (r.val % 2) (wd (ck16 v ⟨2 * (r.val / 2), by omega⟩ n) (ck16 v ⟨2 * (r.val / 2) + 1, by omega⟩ n)
      (s16 (v (ix2 ⟨2 * (r.val / 2), by omega⟩ n))) (s16 (v (ix2 ⟨2 * (r.val / 2) + 1, by omega⟩ n)))) := by
  unfold ccPart
  rw [pay264_eq, pay266_eq, pay275_apply, pay273_apply, pay272_apply, ck16_eq, ck16_eq]
  rfl

/-- The codes of the four blocks. -/
def ccCat (v0 v1 v2 v3 : FVec Ideal S32x512 .bf16) : FVec Ideal S128x512 .bf16 :=
  concatenate S128x512 0 [⟨S32x512, ccPart v0⟩, ⟨S32x512, ccPart v1⟩, ⟨S32x512, ccPart v2⟩, ⟨S32x512, ccPart v3⟩]
    concatenates_S32x512_S32x512_S32x512_S32x512_S128x512_d0

theorem ccCat_apply (v : Fin 4 → FVec Ideal S32x512 .bf16) (b : Fin 4) (r : Fin 32) (n : Fin 512) (h : 32 * b.val + r.val < 128) :
    ccCat (v 0) (v 1) (v 2) (v 3) (ix2 ⟨32 * b.val + r.val, h⟩ n) = ccPart (v b) (ix2 r n) :=
  concatenate_ofFn_apply (t := S128x512) (s₁ := S32x512) 0 (fun b : Fin 4 => ccPart (v b))
    concatenates_S32x512_S32x512_S32x512_S32x512_S128x512_d0 rfl 32 rfl (ix2 ⟨32 * b.val + r.val, h⟩ n) b
    (by show (32 * b.val + r.val) / 32 = b.val; omega) (ix2 r n) (by show r.val = (32 * b.val + r.val) % 32; omega)
    (by intro a ha; match a with | 0 => exact absurd rfl ha | 1 => rfl)

/-- The matrix that packs neighbours: 1 where the row is twice the column, 16 where it is one more. -/
def pairM : FVec Ideal S256x128 .bf16 :=
  k0_pay263 (F := Ideal) (iota .tc S256x128 32 [0] iota_S256x128_d0_w32) (iota .tc S256x128 32 [1] iota_S256x128_d1_w32) (broadcast S256x128 2#32)

theorem pairM_bits : ∀ (s : Fin 256) (d : Fin 128),
    IntOp.cmpi .eq (BitVec.ofNat 32 (0 * 256 + s.val)) (IntOp.muli 2#32 (BitVec.ofNat 32 (0 * 128 + d.val))) = BitVec.ofBool (decide (s.val = 2 * d.val))
    ∧ IntOp.cmpi .eq (BitVec.ofNat 32 (0 * 256 + s.val)) (IntOp.addi (IntOp.muli 2#32 (BitVec.ofNat 32 (0 * 128 + d.val))) 1#32) = BitVec.ofBool (decide (s.val = 2 * d.val + 1)) := by
  decide +kernel

theorem c_sixteen : Ideal.ofBits .f32 0x41800000#32 = ((16 : ℝ) : EReal) := f32_eq (by decide) (by decide) (by simp <;> norm_num)
theorem c_one' : Ideal.ofBits .f32 0x3F800000#32 = ((1 : ℝ) : EReal) := f32_eq (by decide) (by decide) (by simp <;> norm_num)
theorem c_zero32 : Ideal.ofBits .f32 0x00000000#32 = ((0 : ℝ) : EReal) := by simp

theorem pairM_apply (s : Fin 256) (d : Fin 128) : pairM (ix2 s d) = if s.val = 2 * d.val then 1 else if s.val = 2 * d.val + 1 then 16 else 0 := by
  unfold pairM k0_pay263
  show Scalar.select (IntOp.cmpi .eq (BitVec.ofNat 32 (0 * 256 + s.val)) (IntOp.muli 2#32 (BitVec.ofNat 32 (0 * 128 + d.val)))) (Ideal.ofBits .f32 0x3F800000#32)
    (Scalar.select (IntOp.cmpi .eq (BitVec.ofNat 32 (0 * 256 + s.val)) (IntOp.addi (IntOp.muli 2#32 (BitVec.ofNat 32 (0 * 128 + d.val))) 1#32)) (Ideal.ofBits .f32 0x41800000#32) (Ideal.ofBits .f32 0x00000000#32)) = _
  rw [(pairM_bits s d).1, (pairM_bits s d).2, select_ofBool, select_ofBool, c_one', c_sixteen, c_zero32]
  rfl

/-- A sum against a column of the packing matrix has two terms. -/
theorem pair_sum (f : Fin 256 → EReal) (d : Fin 128) :
    ∑ s : Fin 256, f s * pairM (ix2 s d) = f ⟨2 * d.val, by omega⟩ + f ⟨2 * d.val + 1, by omega⟩ * 16 := by
  refine (Fintype.sum_eq_add (⟨2 * d.val, by omega⟩ : Fin 256) ⟨2 * d.val + 1, by omega⟩ (by intro h; have := congrArg Fin.val h; simp at this) ?_).trans ?_
  · rintro s ⟨h1, h2⟩
    rw [pairM_apply, if_neg (fun h => h1 (Fin.ext h)), if_neg (fun h => h2 (Fin.ext h)), mul_zero]
  · rw [pairM_apply, pairM_apply, if_pos rfl, if_neg (by show ¬ (2 * d.val + 1 = 2 * d.val); omega), if_pos rfl, mul_one]

theorem mm_cc (A : FVec Ideal S128x256 .bf16) (B : FVec Ideal S256x128 .bf16) (r d : Fin 128) :
    matmul (F := Ideal) dot_S128x256_S256x128_S128x128_1_0_0_1_n_n none A B (constant (F := Ideal) S128x128 .f32 0x00000000#32) (ix2 r d)
      = ∑ s : Fin 256, A (ix2 r s) * B (ix2 s d) := by
  refine (Ideal.matmul_constant_zero_apply dot_S128x256_S256x128_S128x128_1_0_0_1_n_n none A B (ix2 r d)).trans ?_
  refine (Equiv.sum_comp (contrEquiv1 dot_S128x256_S256x128_S128x128_1_0_0_1_n_n 256 rfl rfl).symm (fun k' => A (dot_S128x256_S256x128_S128x128_1_0_0_1_n_n.lhsIdx (ix2 r d) k') * B (dot_S128x256_S256x128_S128x128_1_0_0_1_n_n.rhsIdx (ix2 r d) k'))).symm.trans ?_
  refine Finset.sum_congr rfl fun n _ => ?_
  congr 2
  · funext a; match a with | 0 => rfl | 1 => rfl
  · funext a; match a with | 0 => rfl | 1 => rfl

/-- The packed bytes of 256 columns from column `o` on. -/
def ccP (o : ℕ) (h : S128x512.Slices ![0, o] S128x256) (C : FVec Ideal S128x512 .bf16) : IVec S128x128 8 :=
  trunci 8 (fptosi 32 (matmul (F := Ideal) dot_S128x256_S256x128_S128x128_1_0_0_1_n_n none (extractStridedSlice S128x256 ![0, o] C h) pairM
    (constant (F := Ideal) S128x128 .f32 0x00000000#32))) natLt_8_32

theorem ccP_apply (o : ℕ) (ho : o ≤ 256) (h : S128x512.Slices ![0, o] S128x256) (C : FVec Ideal S128x512 .bf16) (r d : Fin 128) :
    ccP o h C (ix2 r d) = ccb (C (ix2 r ⟨o + 2 * d.val, by omega⟩)) (C (ix2 r ⟨o + (2 * d.val + 1), by omega⟩)) := by
  have hs : ∀ s : Fin 256, extractStridedSlice S128x256 ![0, o] C h (ix2 r s) = C (ix2 r ⟨o + s.val, by omega⟩) := fun s => by
    refine congrArg C ?_
    funext a
    match a with
    | 0 => exact Fin.ext (Nat.zero_add _)
    | 1 => rfl
  unfold ccb
  refine congrArg (fun z => (Ideal.fptosi 32 z).setWidth 8) ((mm_cc _ _ r d).trans ((pair_sum (fun s => extractStridedSlice S128x256 ![0, o] C h (ix2 r s)) d).trans ?_))
  rw [hs, hs]

/-- A grid step's column codes as floats. -/
def cF (X : S128x512.Idx → EReal) (r : Fin 128) (n : Fin 512) : EReal :=
  ccPart (blk X ⟨r.val / 32, by omega⟩) (ix2 ⟨r.val % 32, by omega⟩ n)

/-- A grid step's packed column codes. -/
def ccF (X : S128x512.Idx → EReal) : S128x256.Idx → BitVec 8 := fun j =>
  ccb (cF X (j 0) ⟨2 * (j 1).val, by have := idx2_lt1 j; omega⟩) (cF X (j 0) ⟨2 * (j 1).val + 1, by have := idx2_lt1 j; omega⟩)

section
variable (c : Dev nD) (M1 : Memref sig .tc .vmem S128x512 .bf16) (f1 : M1.view.ty.Contents (Elt Ideal))

/-- The codes the body computes from the block it reads. -/
def ccR : FVec Ideal S128x512 .bf16 :=
  ccCat (rdb M1 f1 0 inb_S128x512_S32x512_0_0) (rdb M1 f1 32 inb_S128x512_S32x512_32_0) (rdb M1 f1 64 inb_S128x512_S32x512_64_0) (rdb M1 f1 96 inb_S128x512_S32x512_96_0)

theorem ccR_apply (r : Fin 128) (n : Fin 512) : ccR M1 f1 (ix2 r n) = cF (X1 M1 f1) r n := by
  unfold ccR rdb
  rw [readAt_blk M1.view f1 0 0 rfl inb_S128x512_S32x512_0_0, readAt_blk M1.view f1 1 32 rfl inb_S128x512_S32x512_32_0,
    readAt_blk M1.view f1 2 64 rfl inb_S128x512_S32x512_64_0, readAt_blk M1.view f1 3 96 rfl inb_S128x512_S32x512_96_0]
  have hr : r = ⟨32 * (r.val / 32) + r.val % 32, by omega⟩ := Fin.ext (by show r.val = 32 * (r.val / 32) + r.val % 32; omega)
  refine (congrArg (fun z => ccCat _ _ _ _ (ix2 z n)) hr).trans ?_
  exact ccCat_apply (fun b => blk (X1 M1 f1) b) ⟨r.val / 32, by omega⟩ ⟨r.val % 32, by omega⟩ n (by show 32 * (r.val / 32) + r.val % 32 < 128; omega)

theorem cc_list : runMid.sl.H10_2 (F := Ideal) c M1 f1 =
    [⟨Rect.unit (s := S128x256) ![0, 128] S128x128.size inb_S128x256_S128x128_0_128, ccP 256 slices_S128x512_o0_256_S128x256 (ccR M1 f1)⟩,
     ⟨Rect.unit (s := S128x256) ![0, 0] S128x128.size inb_S128x256_S128x128_0_0, ccP 0 slices_S128x512_o0_0_S128x256 (ccR M1 f1)⟩] := rfl

theorem cc_piece (p : ℕ) (hp : p ≤ 128) (h : S128x512.Slices ![0, 2 * p] S128x256)
    (inb : ∀ a, (![0, p] : Fin 2 → ℕ) a + S128x128.size a ≤ S128x256.size a) (x : S128x128.Idx) :
    ccP (2 * p) h (ccR M1 f1) x = ccF (X1 M1 f1) ((Rect.unit (s := S128x256) ![0, p] S128x128.size inb).emb x) := by
  have l0 := idx2_lt0 x
  have l1 := idx2_lt1 x
  have e : (Rect.unit (s := S128x256) ![0, p] S128x128.size inb).emb x = ix2 (x 0) ⟨p + (x 1).val, by omega⟩ :=
    (emb_unit2 (M := 128) (N := 256) (m := 128) (n := 128) 0 p inb x (by omega) (by omega)).trans (congrArg (fun z => ix2 z _) (Fin.ext (Nat.zero_add _)))
  refine Eq.trans ?_ (congrArg _ e.symm)
  refine (congrArg _ (eq_ix2 (n0 := 128) (n1 := 128) x)).trans ((ccP_apply (2 * p) (by omega) h _ (x 0) (x 1)).trans ?_)
  rw [ccR_apply, ccR_apply]
  unfold ccF
  exact congrArg₂ (fun a b => ccb (cF (X1 M1 f1) (x 0) a) (cF (X1 M1 f1) (x 0) b)) (Fin.ext (by show 2 * p + 2 * (x 1).val = 2 * (p + (x 1).val); omega)) (Fin.ext (by show 2 * p + (2 * (x 1).val + 1) = 2 * (p + (x 1).val) + 1; omega))

theorem cc_read (v : View sig .tc .vmem S128x256 .i8) (f : v.ty.Contents (Elt Ideal)) :
    v.read (Elt Ideal) (v.writes (Elt Ideal) f (runMid.sl.H10_2 (F := Ideal) c M1 f1)) = ccF (X1 M1 f1) := by
  funext y
  rw [cc_list]
  refine View.read_writes_apply_of_pieces (Val := Elt Ideal) (s := S128x256) (e := .i8) _ _ (ccF (X1 M1 f1)) _ ?_ y ?_
  · refine List.forall_mem_cons.mpr ⟨fun x => cc_piece M1 f1 128 (by omega) slices_S128x512_o0_256_S128x256 inb_S128x256_S128x128_0_128 x, ?_⟩
    refine List.forall_mem_cons.mpr ⟨fun x => cc_piece M1 f1 0 (by omega) slices_S128x512_o0_0_S128x256 inb_S128x256_S128x128_0_0 x, ?_⟩
    exact fun p hp => absurd hp List.not_mem_nil
  · have l0 := idx2_lt0 y
    have l1 := idx2_lt1 y
    simp only [List.mem_cons, List.not_mem_nil, or_false, exists_eq_or_imp, exists_eq_left]
    by_cases h1 : 128 ≤ (y 1).val
    · exact Or.inl (mem_unit2 0 128 _ y ⟨by omega, by omega⟩ ⟨h1, by omega⟩)
    · exact Or.inr (mem_unit2 0 0 _ y ⟨by omega, by omega⟩ ⟨by omega, by omega⟩)

end

end Cert.KernelIdeal.Val
-- ==== Proof.KIScale.lean ====
module

public import proofs.«01_k».proof.Proof.KIAcc
public import proofs.«01_k».proof.Proof.KICode

/-! The row scales: each grid step puts the scales of its 16 blocks of 32 lanes into their lanes of a scratch array, by
products with matrices that select one lane of 32, and the last step takes the exponents. -/

@[expose] public section

set_option backward.isDefEq.respectTransparency.types false
set_option maxRecDepth 8000

noncomputable section

namespace Cert.KernelIdeal.Val

open Idealize.ShloMosaic Idealize.ShloMosaic.ValueIdx Cert.KernelIdeal Cert.KernelIdeal.Gen Cert.KernelIdeal.Body Cert.Quant

/-- The matrix that takes lanes 0, 32, 64, 96 of a tile to four lanes of the step's, `t` lanes on. -/
def rselM (i : grid0.Coords) (t : BitVec 32) : FVec Ideal S128x128 .bf16 :=
  truncf .bf16 (select (cmpi .eq (iota .tc S128x128 32 [0] iota_S128x128_d0_w32)
    (muli (subi (iota .tc S128x128 32 [1] iota_S128x128_d1_w32) (broadcast S128x128 (Scalar.addi (runMid.sl.v172 i) t))) (broadcast S128x128 32#32)))
    (broadcast S128x128 (Scalar.ofBits .f32 0x3F800000#32)) (broadcast S128x128 (Scalar.ofBits .f32 0x00000000#32))) bitsLt_bf16_f32

theorem rsel_bit : ∀ (j : Fin 8) (t : Fin 4) (k d : Fin 128),
    IntOp.cmpi .eq (BitVec.ofNat 32 k.val) ((BitVec.ofNat 32 d.val - (BitVec.ofNat 32 (16 * j.val) + BitVec.ofNat 32 (4 * t.val))) * 32#32)
      = if 16 * j.val + 4 * t.val ≤ d.val ∧ k.val = 32 * (d.val - (16 * j.val + 4 * t.val)) then 1#1 else 0#1 := by
  intro j t k d
  have hj := j.isLt
  have ht := t.isLt
  have hk := k.isLt
  have hd := d.isLt
  have e : (BitVec.ofNat 32 k.val = (BitVec.ofNat 32 d.val - (BitVec.ofNat 32 (16 * j.val) + BitVec.ofNat 32 (4 * t.val))) * 32#32)
      ↔ (16 * j.val + 4 * t.val ≤ d.val ∧ k.val = 32 * (d.val - (16 * j.val + 4 * t.val))) := by
    rw [← BitVec.toNat_inj, BitVec.toNat_mul, BitVec.toNat_sub, BitVec.toNat_add]
    simp only [BitVec.toNat_ofNat]
    omega
  by_cases h : 16 * j.val + 4 * t.val ≤ d.val ∧ k.val = 32 * (d.val - (16 * j.val + 4 * t.val))
  · rw [if_pos h, ← e.mpr h]
    simp [IntOp.cmpi]
  · rw [if_neg h]
    have := mt e.mp h
    show BitVec.ofBool (_ == _) = 0#1
    rw [beq_eq_false_iff_ne.mpr this]
    rfl

theorem rselM_apply (i : grid0.Coords) (t : Fin 4) (k d : Fin 128) :
    rselM i (BitVec.ofNat 32 (4 * t.val)) (ix2 k d)
      = if 16 * ((i 0).val % 8) + 4 * t.val ≤ d.val ∧ k.val = 32 * (d.val - (16 * ((i 0).val % 8) + 4 * t.val)) then 1 else 0 := by
  unfold rselM
  rw [v172_eq]
  show Scalar.select (IntOp.cmpi .eq (BitVec.ofNat 32 (0 * 128 + k.val)) ((BitVec.ofNat 32 (0 * 128 + d.val) - (BitVec.ofNat 32 (16 * ((i 0).val % 8)) + BitVec.ofNat 32 (4 * t.val))) * 32#32))
    (Ideal.ofBits .f32 0x3F800000#32) (Ideal.ofBits .f32 0x00000000#32) = _
  rw [Nat.zero_mul, Nat.zero_add, Nat.zero_add, rsel_bit ⟨(i 0).val % 8, Nat.mod_lt _ (by decide)⟩ t k d]
  by_cases h : 16 * ((i 0).val % 8) + 4 * t.val ≤ d.val ∧ k.val = 32 * (d.val - (16 * ((i 0).val % 8) + 4 * t.val))
  · rw [if_pos h, if_pos h]; exact c_one'.trans EReal.coe_one
  · rw [if_neg h, if_neg h]; exact c_zero

theorem mm_rs (A B : FVec Ideal S128x128 .bf16) (r d : Fin 128) :
    matmul (F := Ideal) dot_S128x128_S128x128_S128x128_1_0_0_1_n_n none A B (constant (F := Ideal) S128x128 .f32 0x00000000#32) (ix2 r d)
      = ∑ k : Fin 128, A (ix2 r k) * B (ix2 k d) := by
  refine (Ideal.matmul_constant_zero_apply dot_S128x128_S128x128_S128x128_1_0_0_1_n_n none A B (ix2 r d)).trans ?_
  refine (Equiv.sum_comp (contrEquiv1 dot_S128x128_S128x128_S128x128_1_0_0_1_n_n 128 rfl rfl).symm (fun k' => A (dot_S128x128_S128x128_S128x128_1_0_0_1_n_n.lhsIdx (ix2 r d) k') * B (dot_S128x128_S128x128_S128x128_1_0_0_1_n_n.rhsIdx (ix2 r d) k'))).symm.trans ?_
  refine Finset.sum_congr rfl fun n _ => ?_
  congr 2
  · funext a; match a with | 0 => rfl | 1 => rfl
  · funext a; match a with | 0 => rfl | 1 => rfl

/-- What one tile's store leaves over the step's tile of scales, which held `a`. -/
def rsPay (i : grid0.Coords) (t : BitVec 32) (v : FVec Ideal S128x128 .bf16) (a : FVec Ideal S128x128 .f32) : FVec Ideal S128x128 .f32 :=
  shapeCast S128x128 (addf a (matmul (F := Ideal) dot_S128x128_S128x128_S128x128_1_0_0_1_n_n none (rscale (rowM v)) (rselM i t) (constant (F := Ideal) S128x128 .f32 0x00000000#32))) shapeCasts_S128x128_S128x128

theorem rsPay_apply (i : grid0.Coords) (t : Fin 4) (v : FVec Ideal S128x128 .bf16) (a : FVec Ideal S128x128 .f32) (r d : Fin 128) :
    rsPay i (BitVec.ofNat 32 (4 * t.val)) v a (ix2 r d)
      = a (ix2 r d) + if h : 16 * ((i 0).val % 8) + 4 * t.val ≤ d.val ∧ d.val < 16 * ((i 0).val % 8) + 4 * t.val + 4
          then kscale (lmax (fun l => max (v (ix2 r l)) (-(v (ix2 r l)))) ⟨32 * (d.val - (16 * ((i 0).val % 8) + 4 * t.val)), by omega⟩) else 0 := by
  unfold rsPay
  rw [shapeCast_self]
  refine congrArg (fun z => a (ix2 r d) + z) ((mm_rs _ _ r d).trans ?_)
  by_cases h : 16 * ((i 0).val % 8) + 4 * t.val ≤ d.val ∧ d.val < 16 * ((i 0).val % 8) + 4 * t.val + 4
  · rw [dif_pos h]
    refine (Finset.sum_eq_single (⟨32 * (d.val - (16 * ((i 0).val % 8) + 4 * t.val)), by omega⟩ : Fin 128) (fun k _ hk => ?_) (fun hk => absurd (Finset.mem_univ _) hk)).trans ?_
    · rw [rselM_apply, if_neg (fun e => hk (Fin.ext e.2)), mul_zero]
    · rw [rselM_apply, if_pos ⟨h.1, rfl⟩, mul_one, rscale_apply, rowM_apply]
  · rw [dif_neg h]
    refine Finset.sum_eq_zero fun k _ => ?_
    rw [rselM_apply, if_neg (fun e => h ⟨e.1, by omega⟩), mul_zero]

/-- The scale of the `q`-th block of 32 lanes of a grid step's block. -/
def rsB (X : S128x512.Idx → EReal) (r : Fin 128) (q : ℕ) : EReal :=
  kscale ((Finset.univ : Finset (Fin 32)).fold max ⊥ (fun k =>
    max (X (ix2 r ⟨(32 * q + k.val) % 512, Nat.mod_lt _ (by decide)⟩)) (-(X (ix2 r ⟨(32 * q + k.val) % 512, Nat.mod_lt _ (by decide)⟩)))))

/-- The scratch array of scales after step `n`, which found `R`. -/
def stepS (X : S128x512.Idx → EReal) (n : ℕ) (R : S128x512.Idx → EReal) : S128x512.Idx → EReal := fun y =>
  R y + if 16 * n ≤ (y 1).val ∧ (y 1).val < 16 * n + 16 then rsB X (y 0) ((y 1).val - 16 * n) else 0

section
variable (c : Dev nD) (i : grid0.Coords) (M1 : Memref sig .tc .vmem S128x512 .bf16) (f1 : M1.view.ty.Contents (Elt Ideal))
variable (M15 : Memref sig .tc .vmem S128x512 .f32) (f15 : M15.view.ty.Contents (Elt Ideal))

theorem tin (t : ℕ) (h : t < 4) : ∀ a, (![0, 128 * t] : Fin 2 → ℕ) a + S128x128.size a ≤ S128x512.size a := fun a => by
  match a with
  | 0 => show 0 + 128 ≤ 128; omega
  | 1 => show 128 * t + 128 ≤ 512; omega

/-- A tile of 128 lanes, as it is read. -/
def rd1 (t : ℕ) (h : t < 4) : FVec Ideal S128x128 .bf16 :=
  M1.view.readAt (Elt Ideal) (Rect.unit (s := S128x512) ![0, 128 * t] S128x128.size (tin t h)).toLoadRect f1

theorem rd1_apply (t : ℕ) (h : t < 4) (r l : Fin 128) :
    rd1 M1 f1 t h (ix2 r l) = M1.view.read (Elt Ideal) f1 (ix2 r ⟨128 * t + l.val, by omega⟩) := by
  refine congrArg (M1.view.read (Elt Ideal) f1) ((emb_unit2 (M := 128) (N := 512) (m := 128) (n := 128) 0 (128 * t) (tin t h) (ix2 r l) (by show 0 + r.val < 128; omega) (by show 128 * t + l.val < 512; omega)).trans ?_)
  exact congrArg (fun z => ix2 z _) (Fin.ext (Nat.zero_add _))

/-- The step's tile of scales. -/
abbrev rsR : Rect S128x512 := Rect.unit (s := S128x512) (k0_off1 i) S128x128.size (k0_off1_inb i)
/-- One tile's store over the step's tile of scales, on top of the stores `L`, the tile holding `a` before. -/
def rsCons (t : ℕ) (h : t < 4) (a : FVec Ideal S128x128 .f32) (L : List (Idealize.ShloMosaic.View.Piece (Elt Ideal) S128x512 .f32)) : List (Idealize.ShloMosaic.View.Piece (Elt Ideal) S128x512 .f32) :=
  ⟨rsR i, rsPay i (BitVec.ofNat 32 (4 * t)) (rd1 M1 f1 t h) a⟩ :: L
/-- The same, with what the stores `L` left there as `a`. -/
def rsNext (t : ℕ) (h : t < 4) (L : List (Idealize.ShloMosaic.View.Piece (Elt Ideal) S128x512 .f32)) : List (Idealize.ShloMosaic.View.Piece (Elt Ideal) S128x512 .f32) :=
  rsCons i M1 f1 t h (M15.view.readCov (Val := Elt Ideal) L (rsR i).toLoadRect) L

theorem mid15_1 : runMid.sl.H15_1 (F := Ideal) c i M1 M15 f1 f15 = rsCons i M1 f1 0 (by decide) (M15.view.readAt (Elt Ideal) (rsR i).toLoadRect f15) [] := rfl
theorem mid15_2 : runMid.sl.H15_2 (F := Ideal) c i M1 M15 f1 f15 = rsNext i M1 f1 M15 1 (by decide) (runMid.sl.H15_1 (F := Ideal) c i M1 M15 f1 f15) := rfl
theorem mid15_3 : runMid.sl.H15_3 (F := Ideal) c i M1 M15 f1 f15 = rsNext i M1 f1 M15 2 (by decide) (runMid.sl.H15_2 (F := Ideal) c i M1 M15 f1 f15) := rfl
theorem mid15_4 : runMid.sl.H15_4 (F := Ideal) c i M1 M15 f1 f15 = rsNext i M1 f1 M15 3 (by decide) (runMid.sl.H15_3 (F := Ideal) c i M1 M15 f1 f15) := rfl
theorem last15 : runLast.sl.H15_4 (F := Ideal) c i M1 M15 f1 f15 = runMid.sl.H15_4 (F := Ideal) c i M1 M15 f1 f15 := rfl
/-- The zeros that the first step begins with. -/
def rsZ : List (Idealize.ShloMosaic.View.Piece (Elt Ideal) S128x512 .f32) :=
  [⟨Rect.unit (s := S128x512) ![0, 0] S128x512.size inb_S128x512_S128x512_0_0, shapeCast S128x512 (broadcast S128x512 (Scalar.ofBits (F := Ideal) .f32 0x00000000#32)) shapeCasts_S128x512_S128x512⟩]
theorem first15_1 : runFirst.sl.H15_1 (F := Ideal) = rsZ := rfl
theorem first15_2 : runFirst.sl.H15_2 (F := Ideal) c i M1 M15 f1 = rsNext i M1 f1 M15 0 (by decide) (runFirst.sl.H15_1 (F := Ideal)) := rfl
theorem first15_3 : runFirst.sl.H15_3 (F := Ideal) c i M1 M15 f1 = rsNext i M1 f1 M15 1 (by decide) (runFirst.sl.H15_2 (F := Ideal) c i M1 M15 f1) := rfl
theorem first15_4 : runFirst.sl.H15_4 (F := Ideal) c i M1 M15 f1 = rsNext i M1 f1 M15 2 (by decide) (runFirst.sl.H15_3 (F := Ideal) c i M1 M15 f1) := rfl
theorem first15_5 : runFirst.sl.H15_5 (F := Ideal) c i M1 M15 f1 = rsNext i M1 f1 M15 3 (by decide) (runFirst.sl.H15_4 (F := Ideal) c i M1 M15 f1) := rfl

/-- One tile's contribution, in the block's own terms. -/
theorem rsT_apply (t : Fin 4) (a : FVec Ideal S128x128 .f32) (r d : Fin 128) :
    rsPay i (BitVec.ofNat 32 (4 * t.val)) (rd1 M1 f1 t.val t.isLt) a (ix2 r d)
      = a (ix2 r d) + if 16 * ((i 0).val % 8) + 4 * t.val ≤ d.val ∧ d.val < 16 * ((i 0).val % 8) + 4 * t.val + 4
          then rsB (M1.view.read (Elt Ideal) f1) r (d.val - 16 * ((i 0).val % 8)) else 0 := by
  rw [rsPay_apply]
  by_cases h : 16 * ((i 0).val % 8) + 4 * t.val ≤ d.val ∧ d.val < 16 * ((i 0).val % 8) + 4 * t.val + 4
  · rw [dif_pos h, if_pos h]
    refine congrArg (fun z => a (ix2 r d) + kscale z) (Finset.fold_congr fun k _ => ?_)
    refine congrArg (fun z : EReal => max z (-z)) ((rd1_apply M1 f1 t.val t.isLt r _).trans ?_)
    refine congrArg (fun z => M1.view.read (Elt Ideal) f1 (ix2 r z)) (Fin.ext ?_)
    show 128 * t.val + (32 * (32 * (d.val - (16 * ((i 0).val % 8) + 4 * t.val)) / 32) + k.val) = (32 * (d.val - 16 * ((i 0).val % 8)) + k.val) % 512
    have hk := k.isLt
    have ht := t.isLt
    omega
  · rw [dif_neg h, if_neg h]

/-- The four tiles' contributions. -/
theorem rs4_apply (a : FVec Ideal S128x128 .f32) (r d : Fin 128) :
    rsPay i (BitVec.ofNat 32 (4 * 3)) (rd1 M1 f1 3 (by decide)) (rsPay i (BitVec.ofNat 32 (4 * 2)) (rd1 M1 f1 2 (by decide))
      (rsPay i (BitVec.ofNat 32 (4 * 1)) (rd1 M1 f1 1 (by decide)) (rsPay i (BitVec.ofNat 32 (4 * 0)) (rd1 M1 f1 0 (by decide)) a))) (ix2 r d)
      = a (ix2 r d) + if 16 * ((i 0).val % 8) ≤ d.val ∧ d.val < 16 * ((i 0).val % 8) + 16
          then rsB (M1.view.read (Elt Ideal) f1) r (d.val - 16 * ((i 0).val % 8)) else 0 := by
  refine (rsT_apply i M1 f1 3 _ r d).trans ?_
  rw [show rsPay i (BitVec.ofNat 32 (4 * 2)) (rd1 M1 f1 2 (by decide)) _ (ix2 r d) = _ from rsT_apply i M1 f1 2 _ r d,
    show rsPay i (BitVec.ofNat 32 (4 * 1)) (rd1 M1 f1 1 (by decide)) _ (ix2 r d) = _ from rsT_apply i M1 f1 1 _ r d,
    show rsPay i (BitVec.ofNat 32 (4 * 0)) (rd1 M1 f1 0 (by decide)) _ (ix2 r d) = _ from rsT_apply i M1 f1 0 _ r d]
  show a (ix2 r d) + (if 16 * ((i 0).val % 8) + 4 * 0 ≤ d.val ∧ d.val < 16 * ((i 0).val % 8) + 4 * 0 + 4 then _ else 0)
      + (if 16 * ((i 0).val % 8) + 4 * 1 ≤ d.val ∧ d.val < 16 * ((i 0).val % 8) + 4 * 1 + 4 then _ else 0)
      + (if 16 * ((i 0).val % 8) + 4 * 2 ≤ d.val ∧ d.val < 16 * ((i 0).val % 8) + 4 * 2 + 4 then _ else 0)
      + (if 16 * ((i 0).val % 8) + 4 * 3 ≤ d.val ∧ d.val < 16 * ((i 0).val % 8) + 4 * 3 + 4 then _ else 0) = _
  generalize rsB (M1.view.read (Elt Ideal) f1) r (d.val - 16 * ((i 0).val % 8)) = s
  generalize 16 * ((i 0).val % 8) = b
  generalize a (ix2 r d) = x
  by_cases h : b ≤ d.val ∧ d.val < b + 16
  · rw [if_pos h]
    by_cases h0 : d.val < b + 4
    · rw [if_pos (by omega), if_neg (by omega), if_neg (by omega), if_neg (by omega), add_zero, add_zero, add_zero]
    by_cases h1 : d.val < b + 8
    · rw [if_neg (by omega), if_pos (by omega), if_neg (by omega), if_neg (by omega), add_zero, add_zero, add_zero]
    by_cases h2 : d.val < b + 12
    · rw [if_neg (by omega), if_neg (by omega), if_pos (by omega), if_neg (by omega), add_zero, add_zero, add_zero]
    · rw [if_neg (by omega), if_neg (by omega), if_neg (by omega), if_pos (by omega), add_zero, add_zero, add_zero]
  · rw [if_neg h, if_neg (by omega), if_neg (by omega), if_neg (by omega), if_neg (by omega), add_zero, add_zero, add_zero]

/-- Four stores over the step's tile of scales, read back. -/
theorem rs_read (n : ℕ) (hi : (i 0).val = n) (f : M15.view.ty.Contents (Elt Ideal)) (a : FVec Ideal S128x128 .f32) (L : List (Idealize.ShloMosaic.View.Piece (Elt Ideal) S128x512 .f32))
    (R : S128x512.Idx → EReal) (hL : ∀ y, M15.view.read (Elt Ideal) (M15.view.writes (Elt Ideal) f L) y = R y)
    (ha : ∀ r l : Fin 128, a (ix2 r l) = R (ix2 r ⟨128 * ((i 0).val / 8) + l.val, by have : (i 0).val < 28 := (jOf i).isLt; omega⟩)) :
    M15.view.read (Elt Ideal) (M15.view.writes (Elt Ideal) f (rsNext i M1 f1 M15 3 (by decide) (rsNext i M1 f1 M15 2 (by decide)
      (rsNext i M1 f1 M15 1 (by decide) (rsCons i M1 f1 0 (by decide) a L))))) = stepS (M1.view.read (Elt Ideal) f1) n R := by
  subst hi
  have hj : (i 0).val < 28 := (jOf i).isLt
  funext y
  have l0 := idx2_lt0 y
  have l1 := idx2_lt1 y
  unfold rsNext rsCons
  rw [View.readCov_cons_toLoadRect, View.readCov_cons_toLoadRect, View.readCov_cons_toLoadRect]
  unfold stepS
  by_cases hy : 128 * ((i 0).val / 8) ≤ (y 1).val ∧ (y 1).val < 128 * ((i 0).val / 8) + 128
  · refine (View.read_writes_cons_unit_of_mem M15.view f (off' := ![0, 128 * ((i 0).val / 8)]) (k0_off1_inb i) _ _ y (ix2 (n0 := 128) (n1 := 128) (y 0) ⟨(y 1).val - 128 * ((i 0).val / 8), by omega⟩) (k0_off1_eq i) (by intro a; match a with | 0 => exact (Nat.zero_add _).symm | 1 => show (y 1).val = 128 * ((i 0).val / 8) + ((y 1).val - 128 * ((i 0).val / 8)); omega)).trans ?_
    refine (rs4_apply i M1 f1 _ _ _).trans ?_
    refine congrArg₂ (fun a b : EReal => a + b) ((ha _ _).trans (congrArg R ?_)) (if_congr ?_ (congrArg (rsB _ _) ?_) rfl)
    · exact (congrArg (fun z => ix2 (y 0) z) (Fin.ext (by show 128 * ((i 0).val / 8) + ((y 1).val - 128 * ((i 0).val / 8)) = (y 1).val; omega))).trans (eq_ix2 y).symm
    · show (16 * ((i 0).val % 8) ≤ (y 1).val - 128 * ((i 0).val / 8) ∧ (y 1).val - 128 * ((i 0).val / 8) < 16 * ((i 0).val % 8) + 16) ↔ _
      omega
    · show (y 1).val - 128 * ((i 0).val / 8) - 16 * ((i 0).val % 8) = (y 1).val - 16 * (i 0).val
      omega
  · rw [if_neg (by omega), add_zero]
    have skip : ∀ p L, M15.view.read (Elt Ideal) (M15.view.writes (Elt Ideal) f (⟨rsR i, p⟩ :: L)) y = M15.view.read (Elt Ideal) (M15.view.writes (Elt Ideal) f L) y := fun p L =>
      View.read_writes_cons_unit_of_not_mem M15.view f (off' := ![0, 128 * ((i 0).val / 8)]) (k0_off1_inb i) p L y (k0_off1_eq i) 1 (by show (y 1).val < 128 * ((i 0).val / 8) ∨ 128 * ((i 0).val / 8) + 128 ≤ (y 1).val; omega)
    rw [skip, skip, skip, skip]
    exact hL y

theorem rsR_emb (r l : Fin 128) : (rsR i).emb (ix2 (n0 := 128) (n1 := 128) r l) = ix2 (n0 := 128) (n1 := 512) r ⟨128 * ((i 0).val / 8) + l.val, by have : (i 0).val < 28 := (jOf i).isLt; omega⟩ := by
  have hj : (i 0).val < 28 := (jOf i).isLt
  have e := k0_off1_eq i
  funext b
  match b with
  | 0 => exact Fin.ext (by show k0_off1 i 0 + 1 * r.val = r.val; rw [e]; show 0 + 1 * r.val = r.val; omega)
  | 1 => exact Fin.ext (by show k0_off1 i 1 + 1 * l.val = 128 * ((i 0).val / 8) + l.val; rw [e]; show 128 * ((i 0).val / 8) + 1 * l.val = 128 * ((i 0).val / 8) + l.val; omega)

/-- A middle step's scales. -/
theorem mid15_read (n : ℕ) (hi : (i 0).val = n) :
    M15.view.read (Elt Ideal) (M15.view.writes (Elt Ideal) f15 (runMid.sl.H15_4 (F := Ideal) c i M1 M15 f1 f15)) = stepS (M1.view.read (Elt Ideal) f1) n (M15.view.read (Elt Ideal) f15) := by
  rw [mid15_4, mid15_3, mid15_2, mid15_1]
  exact rs_read i M1 f1 M15 n hi f15 _ [] (M15.view.read (Elt Ideal) f15) (fun y => rfl) (fun r l => congrArg (M15.view.read (Elt Ideal) f15) (rsR_emb i r l))

/-- The last step's. -/
theorem last15_read (n : ℕ) (hi : (i 0).val = n) :
    M15.view.read (Elt Ideal) (M15.view.writes (Elt Ideal) f15 (runLast.sl.H15_4 (F := Ideal) c i M1 M15 f1 f15)) = stepS (M1.view.read (Elt Ideal) f1) n (M15.view.read (Elt Ideal) f15) := by
  rw [last15]; exact mid15_read c i M1 f1 M15 f15 n hi

theorem rsZ_read (y : S128x512.Idx) : M15.view.read (Elt Ideal) (M15.view.writes (Elt Ideal) M15.view.junk rsZ) y = 0 := by
  refine (View.read_writes_cons_unit_of_mem M15.view M15.view.junk (off' := ![0, 0]) inb_S128x512_S128x512_0_0 _ _ y y rfl (by intro a; match a with | 0 => exact (Nat.zero_add _).symm | 1 => exact (Nat.zero_add _).symm)).trans ?_
  rw [shapeCast_self]
  exact c_zero

/-- The first step's scales. -/
theorem first15_read (n : ℕ) (hi : (i 0).val = n) :
    M15.view.read (Elt Ideal) (M15.view.writes (Elt Ideal) M15.view.junk (runFirst.sl.H15_5 (F := Ideal) c i M1 M15 f1)) = stepS (M1.view.read (Elt Ideal) f1) n (fun _ => 0) := by
  rw [first15_5, first15_4, first15_3, first15_2, first15_1]
  exact rs_read i M1 f1 M15 n hi M15.view.junk _ rsZ (fun _ => 0) (rsZ_read M15) (fun r l => rsZ_read M15 _)

/-- The bytes of the scales, which the last step stores. -/
def rsE (R : S128x512.Idx → EReal) : S128x448.Idx → BitVec 8 := fun y =>
  (IntOp.addi (Ideal.fptosi 32 (Ideal.liftRound Ideal.roundHalfEven (Ideal.log (R (ix2 (y 0) ⟨(y 1).val, by have := idx2_lt1 y; omega⟩)) * L2))) 127#32).setWidth 8

theorem last9_read (n : ℕ) (hi : (i 0).val = n) (v : View sig .tc .vmem S128x448 .i8) (f : v.ty.Contents (Elt Ideal)) :
    v.read (Elt Ideal) (v.writes (Elt Ideal) f (runLast.sl.H9_1 (F := Ideal) c i M1 M15 f1 f15))
      = rsE (stepS (M1.view.read (Elt Ideal) f1) n (M15.view.read (Elt Ideal) f15)) := by
  funext y
  have l0 := idx2_lt0 y
  have l1 := idx2_lt1 y
  refine (View.read_writes_cons_unit_of_mem v f (off' := ![0, 0]) inb_S128x448_S128x448_0_0 _ _ y y rfl (by intro a; match a with | 0 => exact (Nat.zero_add _).symm | 1 => exact (Nat.zero_add _).symm)).trans ?_
  rw [← last15_read c i M1 f1 M15 f15 n hi]
  generalize M15.view.writes (Elt Ideal) f15 (runLast.sl.H15_4 (F := Ideal) c i M1 M15 f1 f15) = g
  unfold k0_pay6
  rw [named_log2e]
  have e : (Rect.unit (s := S128x512) ![0, 0] S128x448.size inb_S128x512_S128x448_0_0).emb y = ix2 (y 0) ⟨(y 1).val, by omega⟩ :=
    (emb_unit2 (M := 128) (N := 512) (m := 128) (n := 448) 0 0 inb_S128x512_S128x448_0_0 y (by omega) (by omega)).trans (congrArg₂ ix2 (Fin.ext (Nat.zero_add _)) (Fin.ext (Nat.zero_add _)))
  refine Eq.trans ?_ (congrArg (fun z => (IntOp.addi (Ideal.fptosi 32 (Ideal.liftRound Ideal.roundHalfEven (Ideal.log (M15.view.read (Elt Ideal) g z) * L2))) 127#32).setWidth 8) e)
  rfl
end

end Cert.KernelIdeal.Val
-- ==== Proof.KIRun.lean ====
module

public import proofs.«01_k».proof.Proof.KIFrame
public import proofs.«01_k».proof.Proof.KIAcc
public import proofs.«01_k».proof.Proof.KIScale

/-! The run of `KernelIdeal` over the extended reals: what every grid point leaves, and what the output arrays then hold. -/

@[expose] public section

set_option backward.isDefEq.respectTransparency.types false
set_option maxRecDepth 8000

noncomputable section

namespace Cert.KernelIdeal.Val

open Cert.KernelIdeal Cert.KernelIdeal.Gen Cert.KernelIdeal.Body Cert.Quant
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

theorem first_iff (i : grid0.Coords) : cond1 i ↔ (i 0).val = 0 := by
  have key : ∀ j : Fin 28, cond1 (fun a => match a with | ⟨0, _⟩ => j) ↔ j.val = 0 := by decide
  exact key (jOf i)

theorem last_iff (i : grid0.Coords) : k0_cond2 i = 1#1 ↔ (i 0).val = 27 := by
  have key : ∀ j : Fin 28, k0_cond2 (fun a => match a with | ⟨0, _⟩ => j) = 1#1 ↔ j.val = 27 := by decide
  exact key (jOf i)

/-- What the scratch holds before step `n`: from step 1 on, the scaled activations, transposed, the
weights' scales as floats, the accumulator's value, and the row scales so far. -/
def Inv (X2 : S128x4096.Idx → EReal) (X3 : S4x4096.Idx → BitVec 8) (X5 : S4096x448.Idx → BitVec 8) (Acc : ℕ → S4096x128.Idx → EReal) (Rs : ℕ → S128x512.Idx → EReal) (n : ℕ)
    (R12 : S4096x128.Idx → EReal) (R13 : S4096x512.Idx → EReal) (R14 : S4096x128.Idx → EReal) (R15 : S128x512.Idx → EReal) : Prop :=
  1 ≤ n → R12 = xtF X2 X3 ∧ Scales R13 X5 ∧ R14 = Acc n ∧ R15 = Rs n

/-- What step `n` leaves in the output blocks and in the scratch. -/
def Post (X1 : S128x512.Idx → EReal) (X2 : S128x4096.Idx → EReal) (X3 : S4x4096.Idx → BitVec 8) (X4 : S4096x512.Idx → EReal) (X5 : S4096x448.Idx → BitVec 8) (Acc : ℕ → S4096x128.Idx → EReal) (Rs : ℕ → S128x512.Idx → EReal) (n : ℕ)
    (R6 : S128x4096.Idx → EReal) (R7 : S4096x512.Idx → EReal) (R8 : S64x512.Idx → BitVec 8) (R9 : S128x448.Idx → BitVec 8) (R10 : S128x256.Idx → BitVec 8) (R11 : S4x512.Idx → BitVec 8)
    (R12 : S4096x128.Idx → EReal) (R13 : S4096x512.Idx → EReal) (R14 : S4096x128.Idx → EReal) (R15 : S128x512.Idx → EReal) : Prop :=
  ((n = 27 → R6 = dxT (Acc 28)) ∧ R7 = dwF (xtF X2 X3) (gcolF X1) ∧ R8 = rcF X1 ∧ (n = 27 → R9 = rsE (Rs 28)) ∧ R10 = ccF X1 ∧ R11 = csF X1) ∧ Inv X2 X3 X5 Acc Rs (n + 1) R12 R13 R14 R15

theorem first_post (c : Dev nD) (i : grid0.Coords) (n : ℕ) (hn : n = 0) (hi : (i 0).val = n)
    (M1 : Memref sig .tc .vmem S128x512 .bf16) (M2 : Memref sig .tc .vmem S128x4096 .fp8e4m3) (M3 : Memref sig .tc .vmem S4x4096 .i8) (M4 : Memref sig .tc .vmem S4096x512 .fp8e4m3) (M5 : Memref sig .tc .vmem S4096x448 .i8) (M6 : Memref sig .tc .vmem S128x4096 .bf16) (M7 : Memref sig .tc .vmem S4096x512 .f32) (M8 : Memref sig .tc .vmem S64x512 .i8) (M9 : Memref sig .tc .vmem S128x448 .i8) (M10 : Memref sig .tc .vmem S128x256 .i8) (M11 : Memref sig .tc .vmem S4x512 .i8) (M12 : Memref sig .tc .vmem S4096x128 .bf16) (M13 : Memref sig .tc .vmem S4096x512 .bf16) (M14 : Memref sig .tc .vmem S4096x128 .f32) (M15 : Memref sig .tc .vmem S128x512 .f32) (M16 : Memref sig .tc .vmem S128x512 .bf16) (M17 : Memref sig .tc .vmem S128x512 .bf16)
    (f1 : M1.view.ty.Contents (Elt Ideal)) (f2 : M2.view.ty.Contents (Elt Ideal)) (f3 : M3.view.ty.Contents (Elt Ideal)) (f4 : M4.view.ty.Contents (Elt Ideal)) (f5 : M5.view.ty.Contents (Elt Ideal)) (f6 : M6.view.ty.Contents (Elt Ideal)) (f7 : M7.view.ty.Contents (Elt Ideal)) (f8 : M8.view.ty.Contents (Elt Ideal)) (f9 : M9.view.ty.Contents (Elt Ideal)) (f10 : M10.view.ty.Contents (Elt Ideal)) (f11 : M11.view.ty.Contents (Elt Ideal)) (f12 : M12.view.ty.Contents (Elt Ideal)) (f13 : M13.view.ty.Contents (Elt Ideal)) (f14 : M14.view.ty.Contents (Elt Ideal)) (f15 : M15.view.ty.Contents (Elt Ideal)) (f16 : M16.view.ty.Contents (Elt Ideal)) (f17 : M17.view.ty.Contents (Elt Ideal))
     (Acc : ℕ → S4096x128.Idx → EReal) (Rs : ℕ → S128x512.Idx → EReal) (hA0 : Acc 0 = fun _ => 0) (hA1 : Acc (n + 1) = stepD (M4.view.read (Elt Ideal) f4) (M5.view.read (Elt Ideal) f5) n (growF (M1.view.read (Elt Ideal) f1)) (Acc n)) (hR0 : Rs 0 = fun _ => 0) (hR1 : Rs (n + 1) = stepS (M1.view.read (Elt Ideal) f1) n (Rs n))
    (hinv : Inv (M2.view.read (Elt Ideal) f2) (M3.view.read (Elt Ideal) f3) (M5.view.read (Elt Ideal) f5) Acc Rs n (M12.view.read (Elt Ideal) f12) (M13.view.read (Elt Ideal) f13) (M14.view.read (Elt Ideal) f14) (M15.view.read (Elt Ideal) f15)) :
    Post (M1.view.read (Elt Ideal) f1) (M2.view.read (Elt Ideal) f2) (M3.view.read (Elt Ideal) f3) (M4.view.read (Elt Ideal) f4) (M5.view.read (Elt Ideal) f5) Acc Rs n (M6.view.read (Elt Ideal) f6) (M7.view.read (Elt Ideal) (M7.view.writes (Elt Ideal) M7.view.junk (runFirst.sl.H7_16 c M1 M2 M3 M12 M17 f1 f2 f3))) (M8.view.read (Elt Ideal) (M8.view.writes (Elt Ideal) M8.view.junk (runFirst.sl.H8_4 c M1 f1))) (M9.view.read (Elt Ideal) f9) (M10.view.read (Elt Ideal) (M10.view.writes (Elt Ideal) M10.view.junk (runFirst.sl.H10_2 c M1 f1))) (M11.view.read (Elt Ideal) (M11.view.writes (Elt Ideal) M11.view.junk (runFirst.sl.H11_1 c M1 f1))) (M12.view.read (Elt Ideal) (M12.view.writes (Elt Ideal) M12.view.junk (runFirst.sl.H12_128 c M2 M3 f2 f3))) (M13.view.read (Elt Ideal) (M13.view.writes (Elt Ideal) f13 (runFirst.sl.H13_16 c M5 f5))) (M14.view.read (Elt Ideal) (M14.view.writes (Elt Ideal) M14.view.junk (runFirst.sl.H14_17 c i M1 M4 M5 M13 M14 M16 f1 f4 f5 f13))) (M15.view.read (Elt Ideal) (M15.view.writes (Elt Ideal) M15.view.junk (runFirst.sl.H15_5 c i M1 M15 f1))) :=
  by
  have h0 : Acc n = fun _ => 0 := by rw [hn, hA0]
  exact ⟨⟨fun h => absurd (hn.symm.trans h) (by decide), (dw_read c M1 f1 M12 (M12.view.writes (Elt Ideal) M12.view.junk (runFirst.sl.H12_128 c M2 M3 f2 f3)) M17 M7.view M7.view.junk).trans (by rw [xt_read]), rc_read c M1 f1 M8.view M8.view.junk, fun h => absurd (hn.symm.trans h) (by decide), cc_read c M1 f1 M10.view M10.view.junk, cs_read c M1 f1 M11.view M11.view.junk⟩,
    fun _ => ⟨xt_read c M2 f2 M3 f3 M12.view M12.view.junk, sc_read c M5 f5 M13.view f13, (first14_read c i M1 f1 M4 f4 M5 f5 M13 f13 M14 M16 n hi).trans (by rw [hA1, h0]), (first15_read c i M1 f1 M15 n hi).trans (by rw [hR1, hn, hR0])⟩⟩

theorem mid_post (c : Dev nD) (i : grid0.Coords) (n : ℕ) (hn : n ≠ 0) (hl : n ≠ 27) (hi : (i 0).val = n)
    (M1 : Memref sig .tc .vmem S128x512 .bf16) (M2 : Memref sig .tc .vmem S128x4096 .fp8e4m3) (M3 : Memref sig .tc .vmem S4x4096 .i8) (M4 : Memref sig .tc .vmem S4096x512 .fp8e4m3) (M5 : Memref sig .tc .vmem S4096x448 .i8) (M6 : Memref sig .tc .vmem S128x4096 .bf16) (M7 : Memref sig .tc .vmem S4096x512 .f32) (M8 : Memref sig .tc .vmem S64x512 .i8) (M9 : Memref sig .tc .vmem S128x448 .i8) (M10 : Memref sig .tc .vmem S128x256 .i8) (M11 : Memref sig .tc .vmem S4x512 .i8) (M12 : Memref sig .tc .vmem S4096x128 .bf16) (M13 : Memref sig .tc .vmem S4096x512 .bf16) (M14 : Memref sig .tc .vmem S4096x128 .f32) (M15 : Memref sig .tc .vmem S128x512 .f32) (M16 : Memref sig .tc .vmem S128x512 .bf16) (M17 : Memref sig .tc .vmem S128x512 .bf16)
    (f1 : M1.view.ty.Contents (Elt Ideal)) (f2 : M2.view.ty.Contents (Elt Ideal)) (f3 : M3.view.ty.Contents (Elt Ideal)) (f4 : M4.view.ty.Contents (Elt Ideal)) (f5 : M5.view.ty.Contents (Elt Ideal)) (f6 : M6.view.ty.Contents (Elt Ideal)) (f7 : M7.view.ty.Contents (Elt Ideal)) (f8 : M8.view.ty.Contents (Elt Ideal)) (f9 : M9.view.ty.Contents (Elt Ideal)) (f10 : M10.view.ty.Contents (Elt Ideal)) (f11 : M11.view.ty.Contents (Elt Ideal)) (f12 : M12.view.ty.Contents (Elt Ideal)) (f13 : M13.view.ty.Contents (Elt Ideal)) (f14 : M14.view.ty.Contents (Elt Ideal)) (f15 : M15.view.ty.Contents (Elt Ideal)) (f16 : M16.view.ty.Contents (Elt Ideal)) (f17 : M17.view.ty.Contents (Elt Ideal))
     (Acc : ℕ → S4096x128.Idx → EReal) (Rs : ℕ → S128x512.Idx → EReal) (hA0 : Acc 0 = fun _ => 0) (hA1 : Acc (n + 1) = stepD (M4.view.read (Elt Ideal) f4) (M5.view.read (Elt Ideal) f5) n (growF (M1.view.read (Elt Ideal) f1)) (Acc n)) (hR0 : Rs 0 = fun _ => 0) (hR1 : Rs (n + 1) = stepS (M1.view.read (Elt Ideal) f1) n (Rs n))
    (hinv : Inv (M2.view.read (Elt Ideal) f2) (M3.view.read (Elt Ideal) f3) (M5.view.read (Elt Ideal) f5) Acc Rs n (M12.view.read (Elt Ideal) f12) (M13.view.read (Elt Ideal) f13) (M14.view.read (Elt Ideal) f14) (M15.view.read (Elt Ideal) f15)) :
    Post (M1.view.read (Elt Ideal) f1) (M2.view.read (Elt Ideal) f2) (M3.view.read (Elt Ideal) f3) (M4.view.read (Elt Ideal) f4) (M5.view.read (Elt Ideal) f5) Acc Rs n (M6.view.read (Elt Ideal) f6) (M7.view.read (Elt Ideal) (M7.view.writes (Elt Ideal) M7.view.junk (runMid.sl.H7_16 c M1 M12 M17 f1 f12))) (M8.view.read (Elt Ideal) (M8.view.writes (Elt Ideal) M8.view.junk (runMid.sl.H8_4 c M1 f1))) (M9.view.read (Elt Ideal) f9) (M10.view.read (Elt Ideal) (M10.view.writes (Elt Ideal) M10.view.junk (runMid.sl.H10_2 c M1 f1))) (M11.view.read (Elt Ideal) (M11.view.writes (Elt Ideal) M11.view.junk (runMid.sl.H11_1 c M1 f1))) (M12.view.read (Elt Ideal) f12) (M13.view.read (Elt Ideal) f13) (M14.view.read (Elt Ideal) (M14.view.writes (Elt Ideal) M14.view.junk (runMid.sl.H14_16 c i M1 M4 M13 M14 M16 f1 f4 f13 f14))) (M15.view.read (Elt Ideal) (M15.view.writes (Elt Ideal) f15 (runMid.sl.H15_4 c i M1 M15 f1 f15))) :=
  by
  obtain ⟨h12, h13, h14, h15⟩ := hinv (by omega)
  exact ⟨⟨fun h => absurd h hl, (dw_read c M1 f1 M12 f12 M17 M7.view M7.view.junk).trans (by rw [h12]), rc_read c M1 f1 M8.view M8.view.junk, fun h => absurd h hl, cc_read c M1 f1 M10.view M10.view.junk, cs_read c M1 f1 M11.view M11.view.junk⟩,
    fun _ => ⟨h12, h13, (mid14_read c i M1 f1 M4 f4 M13 f13 M14 f14 M16 _ h13 n hi M14.view M14.view.junk).trans (by rw [h14, hA1]), (mid15_read c i M1 f1 M15 f15 n hi).trans (by rw [h15, hR1])⟩⟩

theorem last_post (c : Dev nD) (i : grid0.Coords) (n : ℕ) (hn : n = 27) (hi : (i 0).val = n)
    (M1 : Memref sig .tc .vmem S128x512 .bf16) (M2 : Memref sig .tc .vmem S128x4096 .fp8e4m3) (M3 : Memref sig .tc .vmem S4x4096 .i8) (M4 : Memref sig .tc .vmem S4096x512 .fp8e4m3) (M5 : Memref sig .tc .vmem S4096x448 .i8) (M6 : Memref sig .tc .vmem S128x4096 .bf16) (M7 : Memref sig .tc .vmem S4096x512 .f32) (M8 : Memref sig .tc .vmem S64x512 .i8) (M9 : Memref sig .tc .vmem S128x448 .i8) (M10 : Memref sig .tc .vmem S128x256 .i8) (M11 : Memref sig .tc .vmem S4x512 .i8) (M12 : Memref sig .tc .vmem S4096x128 .bf16) (M13 : Memref sig .tc .vmem S4096x512 .bf16) (M14 : Memref sig .tc .vmem S4096x128 .f32) (M15 : Memref sig .tc .vmem S128x512 .f32) (M16 : Memref sig .tc .vmem S128x512 .bf16) (M17 : Memref sig .tc .vmem S128x512 .bf16)
    (f1 : M1.view.ty.Contents (Elt Ideal)) (f2 : M2.view.ty.Contents (Elt Ideal)) (f3 : M3.view.ty.Contents (Elt Ideal)) (f4 : M4.view.ty.Contents (Elt Ideal)) (f5 : M5.view.ty.Contents (Elt Ideal)) (f6 : M6.view.ty.Contents (Elt Ideal)) (f7 : M7.view.ty.Contents (Elt Ideal)) (f8 : M8.view.ty.Contents (Elt Ideal)) (f9 : M9.view.ty.Contents (Elt Ideal)) (f10 : M10.view.ty.Contents (Elt Ideal)) (f11 : M11.view.ty.Contents (Elt Ideal)) (f12 : M12.view.ty.Contents (Elt Ideal)) (f13 : M13.view.ty.Contents (Elt Ideal)) (f14 : M14.view.ty.Contents (Elt Ideal)) (f15 : M15.view.ty.Contents (Elt Ideal)) (f16 : M16.view.ty.Contents (Elt Ideal)) (f17 : M17.view.ty.Contents (Elt Ideal))
     (Acc : ℕ → S4096x128.Idx → EReal) (Rs : ℕ → S128x512.Idx → EReal) (hA0 : Acc 0 = fun _ => 0) (hA1 : Acc (n + 1) = stepD (M4.view.read (Elt Ideal) f4) (M5.view.read (Elt Ideal) f5) n (growF (M1.view.read (Elt Ideal) f1)) (Acc n)) (hR0 : Rs 0 = fun _ => 0) (hR1 : Rs (n + 1) = stepS (M1.view.read (Elt Ideal) f1) n (Rs n))
    (hinv : Inv (M2.view.read (Elt Ideal) f2) (M3.view.read (Elt Ideal) f3) (M5.view.read (Elt Ideal) f5) Acc Rs n (M12.view.read (Elt Ideal) f12) (M13.view.read (Elt Ideal) f13) (M14.view.read (Elt Ideal) f14) (M15.view.read (Elt Ideal) f15)) :
    Post (M1.view.read (Elt Ideal) f1) (M2.view.read (Elt Ideal) f2) (M3.view.read (Elt Ideal) f3) (M4.view.read (Elt Ideal) f4) (M5.view.read (Elt Ideal) f5) Acc Rs n (M6.view.read (Elt Ideal) (M6.view.writes (Elt Ideal) M6.view.junk (runLast.sl.H6_16 c i M1 M4 M13 M14 M16 f1 f4 f13 f14))) (M7.view.read (Elt Ideal) (M7.view.writes (Elt Ideal) M7.view.junk (runLast.sl.H7_16 c M1 M12 M17 f1 f12))) (M8.view.read (Elt Ideal) (M8.view.writes (Elt Ideal) M8.view.junk (runLast.sl.H8_4 c M1 f1))) (M9.view.read (Elt Ideal) (M9.view.writes (Elt Ideal) M9.view.junk (runLast.sl.H9_1 c i M1 M15 f1 f15))) (M10.view.read (Elt Ideal) (M10.view.writes (Elt Ideal) M10.view.junk (runLast.sl.H10_2 c M1 f1))) (M11.view.read (Elt Ideal) (M11.view.writes (Elt Ideal) M11.view.junk (runLast.sl.H11_1 c M1 f1))) (M12.view.read (Elt Ideal) f12) (M13.view.read (Elt Ideal) f13) (M14.view.read (Elt Ideal) (M14.view.writes (Elt Ideal) M14.view.junk (runLast.sl.H14_16 c i M1 M4 M13 M14 M16 f1 f4 f13 f14))) (M15.view.read (Elt Ideal) (M15.view.writes (Elt Ideal) f15 (runLast.sl.H15_4 c i M1 M15 f1 f15))) :=
  by
  obtain ⟨h12, h13, h14, h15⟩ := hinv (by omega)
  have hA2 : Acc 28 = Acc (n + 1) := by rw [hn]
  have hR2 : Rs 28 = Rs (n + 1) := by rw [hn]
  exact ⟨⟨fun _ => (last6_read c i M1 f1 M4 f4 M13 f13 M14 f14 M16 _ h13 n hi M6.view M6.view.junk).trans (by rw [h14, hA2, hA1]), (dw_read c M1 f1 M12 f12 M17 M7.view M7.view.junk).trans (by rw [h12]), rc_read c M1 f1 M8.view M8.view.junk, fun _ => (last9_read c i M1 f1 M15 f15 n hi M9.view M9.view.junk).trans (by rw [h15, hR2, hR1]), cc_read c M1 f1 M10.view M10.view.junk, cs_read c M1 f1 M11.view M11.view.junk⟩,
    fun _ => ⟨h12, h13, (last14_read c i M1 f1 M4 f4 M13 f13 M14 f14 M16 _ h13 n hi M14.view M14.view.junk).trans (by rw [h14, hA1]), (last15_read c i M1 f1 M15 f15 n hi).trans (by rw [h15, hR1])⟩⟩

set_option maxHeartbeats 0 in
/-- The contents named by the run of the first step. -/
theorem first_W (c : Dev nD) (i : grid0.Coords) (hc1 : cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := Ideal) c M1) (f2 : Bf (F := Ideal) c M2) (f3 : Bf (F := Ideal) c M3) (f4 : Bf (F := Ideal) c M4) (f5 : Bf (F := Ideal) c M5) (f13 : Bf (F := Ideal) c M13) :
    (runFirst (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f13).1
      = ((M7.view.writes (Elt Ideal) M7.view.junk (runFirst.sl.H7_16 c M1 M2 M3 M12 M17 f1 f2 f3)), (M8.view.writes (Elt Ideal) M8.view.junk (runFirst.sl.H8_4 c M1 f1)), (M10.view.writes (Elt Ideal) M10.view.junk (runFirst.sl.H10_2 c M1 f1)), (M11.view.writes (Elt Ideal) M11.view.junk (runFirst.sl.H11_1 c M1 f1)), (M12.view.writes (Elt Ideal) M12.view.junk (runFirst.sl.H12_128 c M2 M3 f2 f3)), (M13.view.writes (Elt Ideal) f13 (runFirst.sl.H13_16 c M5 f5)), (M14.view.writes (Elt Ideal) M14.view.junk (runFirst.sl.H14_17 c i M1 M4 M5 M13 M14 M16 f1 f4 f5 f13)), (M15.view.writes (Elt Ideal) M15.view.junk (runFirst.sl.H15_5 c i M1 M15 f1)), (M16.view.writes (Elt Ideal) M16.view.junk (runFirst.sl.H16_4 c M1 f1)), (M17.view.writes (Elt Ideal) M17.view.junk (runFirst.sl.H17_4 c M1 f1))) := by
  delta runFirst
  rfl

set_option maxHeartbeats 0 in
/-- The contents named by the run of the mid step. -/
theorem mid_W (c : Dev nD) (i : grid0.Coords) (hc1 : ¬ cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := Ideal) c M1) (f2 : Bf (F := Ideal) c M2) (f3 : Bf (F := Ideal) c M3) (f4 : Bf (F := Ideal) c M4) (f5 : Bf (F := Ideal) c M5) (f12 : Bf (F := Ideal) c M12) (f13 : Bf (F := Ideal) c M13) (f14 : Bf (F := Ideal) c M14) (f15 : Bf (F := Ideal) c M15) :
    (runMid (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f12 f13 f14 f15).1
      = ((M7.view.writes (Elt Ideal) M7.view.junk (runMid.sl.H7_16 c M1 M12 M17 f1 f12)), (M8.view.writes (Elt Ideal) M8.view.junk (runMid.sl.H8_4 c M1 f1)), (M10.view.writes (Elt Ideal) M10.view.junk (runMid.sl.H10_2 c M1 f1)), (M11.view.writes (Elt Ideal) M11.view.junk (runMid.sl.H11_1 c M1 f1)), (M14.view.writes (Elt Ideal) M14.view.junk (runMid.sl.H14_16 c i M1 M4 M13 M14 M16 f1 f4 f13 f14)), (M15.view.writes (Elt Ideal) f15 (runMid.sl.H15_4 c i M1 M15 f1 f15)), (M16.view.writes (Elt Ideal) M16.view.junk (runMid.sl.H16_4 c M1 f1)), (M17.view.writes (Elt Ideal) M17.view.junk (runMid.sl.H17_4 c M1 f1))) := by
  delta runMid
  rfl

set_option maxHeartbeats 0 in
/-- The contents named by the run of the last step. -/
theorem last_W (c : Dev nD) (i : grid0.Coords) (hc1 : ¬ cond1 i) (hc2 : k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (f1 : Bf (F := Ideal) c M1) (f2 : Bf (F := Ideal) c M2) (f3 : Bf (F := Ideal) c M3) (f4 : Bf (F := Ideal) c M4) (f5 : Bf (F := Ideal) c M5) (f12 : Bf (F := Ideal) c M12) (f13 : Bf (F := Ideal) c M13) (f14 : Bf (F := Ideal) c M14) (f15 : Bf (F := Ideal) c M15) :
    (runLast (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f12 f13 f14 f15).1
      = ((M6.view.writes (Elt Ideal) M6.view.junk (runLast.sl.H6_16 c i M1 M4 M13 M14 M16 f1 f4 f13 f14)), (M7.view.writes (Elt Ideal) M7.view.junk (runLast.sl.H7_16 c M1 M12 M17 f1 f12)), (M8.view.writes (Elt Ideal) M8.view.junk (runLast.sl.H8_4 c M1 f1)), (M9.view.writes (Elt Ideal) M9.view.junk (runLast.sl.H9_1 c i M1 M15 f1 f15)), (M10.view.writes (Elt Ideal) M10.view.junk (runLast.sl.H10_2 c M1 f1)), (M11.view.writes (Elt Ideal) M11.view.junk (runLast.sl.H11_1 c M1 f1)), (M14.view.writes (Elt Ideal) M14.view.junk (runLast.sl.H14_16 c i M1 M4 M13 M14 M16 f1 f4 f13 f14)), (M15.view.writes (Elt Ideal) f15 (runLast.sl.H15_4 c i M1 M15 f1 f15)), (M16.view.writes (Elt Ideal) M16.view.junk (runLast.sl.H16_4 c M1 f1)), (M17.view.writes (Elt Ideal) M17.view.junk (runLast.sl.H17_4 c M1 f1))) := by
  delta runLast
  rfl

theorem first_glue (c : Dev nD) (i : grid0.Coords) (n : ℕ)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (X1 : S128x512.Idx → EReal) (X2 : S128x4096.Idx → EReal) (X3 : S4x4096.Idx → BitVec 8) (X4 : S4096x512.Idx → EReal) (X5 : S4096x448.Idx → BitVec 8) (Acc : ℕ → S4096x128.Idx → EReal) (Rs : ℕ → S128x512.Idx → EReal)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17)
    (W : Bf (F := Ideal) c M7 × Bf (F := Ideal) c M8 × Bf (F := Ideal) c M10 × Bf (F := Ideal) c M11 × Bf (F := Ideal) c M12 × Bf (F := Ideal) c M13 × Bf (F := Ideal) c M14 × Bf (F := Ideal) c M15 × Bf (F := Ideal) c M16 × Bf (F := Ideal) c M17)
    (hW : ∀ (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f14 : Bf (F := Ideal) c M14) (f15 : Bf (F := Ideal) c M15) (f16 : Bf (F := Ideal) c M16) (f17 : Bf (F := Ideal) c M17) (E : Set ℕ) (Q : PUnit → sProp 𝕄), iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ (iprop(pt c M1 f1 ∗ pt c M2 f2 ∗ pt c M3 f3 ∗ pt c M4 f4 ∗ pt c M5 f5 ∗ pt c M6 f6 ∗ pt c M7 W.1 ∗ pt c M8 W.2.1 ∗ pt c M9 f9 ∗ pt c M10 W.2.2.1 ∗ pt c M11 W.2.2.2.1 ∗ pt c M12 W.2.2.2.2.1 ∗ pt c M13 W.2.2.2.2.2.1 ∗ pt c M14 W.2.2.2.2.2.2.1 ∗ pt c M15 W.2.2.2.2.2.2.2.1 ∗ pt c M16 W.2.2.2.2.2.2.2.2.1 ∗ pt c M17 W.2.2.2.2.2.2.2.2.2) -∗ Q ⟨⟩)) ⊢ wp frame (wpE (defs₀ (F := Ideal)) Variants.none c none) E (cc0_mx_linear_bwd i M1 h1 M2 h2 M3 h3 M4 h4 M5 h5 M6 h6 M7 h7 M8 h8 M9 h9 M10 h10 M11 h11 M12 h12 M13 h13 M14 h14 M15 h15 M16 h16 M17 h17) Q)
    (hp : Post X1 X2 X3 X4 X5 Acc Rs n (M6.view.read (Elt Ideal) f6) (M7.view.read (Elt Ideal) W.1) (M8.view.read (Elt Ideal) W.2.1) (M9.view.read (Elt Ideal) f9) (M10.view.read (Elt Ideal) W.2.2.1) (M11.view.read (Elt Ideal) W.2.2.2.1) (M12.view.read (Elt Ideal) W.2.2.2.2.1) (M13.view.read (Elt Ideal) W.2.2.2.2.2.1) (M14.view.read (Elt Ideal) W.2.2.2.2.2.2.1) (M15.view.read (Elt Ideal) W.2.2.2.2.2.2.2.1)) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(∃ g6 g7 g8 g9 g10 g11 g12 g13 g14 g15 g16 g17, pt c M1 f1 ∗ pt c M2 f2 ∗ pt c M3 f3 ∗ pt c M4 f4 ∗ pt c M5 f5 ∗ pt c M6 g6 ∗ pt c M7 g7 ∗ pt c M8 g8 ∗ pt c M9 g9 ∗ pt c M10 g10 ∗ pt c M11 g11 ∗ pt c M12 g12 ∗ pt c M13 g13 ∗ pt c M14 g14 ∗ pt c M15 g15 ∗ pt c M16 g16 ∗ pt c M17 g17 ∗ ⌜Post X1 X2 X3 X4 X5 Acc Rs n (M6.view.read (Elt Ideal) g6) (M7.view.read (Elt Ideal) g7) (M8.view.read (Elt Ideal) g8) (M9.view.read (Elt Ideal) g9) (M10.view.read (Elt Ideal) g10) (M11.view.read (Elt Ideal) g11) (M12.view.read (Elt Ideal) g12) (M13.view.read (Elt Ideal) g13) (M14.view.read (Elt Ideal) g14) (M15.view.read (Elt Ideal) g15)⌝) -∗ Q ⟨⟩))
    ⊢ wp frame (wpE (defs₀ (F := Ideal)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  iapply (hW f6 f7 f8 f9 f10 f11 f12 f14 f15 f16 f17 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, H16, H17⟩
  iapply Hk
  iexists f6
  iexists W.1
  iexists W.2.1
  iexists f9
  iexists W.2.2.1
  iexists W.2.2.2.1
  iexists W.2.2.2.2.1
  iexists W.2.2.2.2.2.1
  iexists W.2.2.2.2.2.2.1
  iexists W.2.2.2.2.2.2.2.1
  iexists W.2.2.2.2.2.2.2.2.1
  iexists W.2.2.2.2.2.2.2.2.2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  ipureintro
  exact hp

set_option maxHeartbeats 0 in
theorem first_val (c : Dev nD) (i : grid0.Coords) (n : ℕ) (hn : n = 0) (hi : (i 0).val = n) (hc1 : cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (X1 : S128x512.Idx → EReal) (X2 : S128x4096.Idx → EReal) (X3 : S4x4096.Idx → BitVec 8) (X4 : S4096x512.Idx → EReal) (X5 : S4096x448.Idx → BitVec 8) (Acc : ℕ → S4096x128.Idx → EReal) (Rs : ℕ → S128x512.Idx → EReal)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17)
    (hX1 : M1.view.read (Elt Ideal) f1 = X1) (hX2 : M2.view.read (Elt Ideal) f2 = X2) (hX3 : M3.view.read (Elt Ideal) f3 = X3) (hX4 : M4.view.read (Elt Ideal) f4 = X4) (hX5 : M5.view.read (Elt Ideal) f5 = X5) (hA0 : Acc 0 = fun _ => 0) (hA1 : Acc (n + 1) = stepD X4 X5 n (growF X1) (Acc n)) (hR0 : Rs 0 = fun _ => 0) (hR1 : Rs (n + 1) = stepS X1 n (Rs n)) (hinv : Inv X2 X3 X5 Acc Rs n (M12.view.read (Elt Ideal) f12) (M13.view.read (Elt Ideal) f13) (M14.view.read (Elt Ideal) f14) (M15.view.read (Elt Ideal) f15)) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(∃ g6 g7 g8 g9 g10 g11 g12 g13 g14 g15 g16 g17, pt c M1 f1 ∗ pt c M2 f2 ∗ pt c M3 f3 ∗ pt c M4 f4 ∗ pt c M5 f5 ∗ pt c M6 g6 ∗ pt c M7 g7 ∗ pt c M8 g8 ∗ pt c M9 g9 ∗ pt c M10 g10 ∗ pt c M11 g11 ∗ pt c M12 g12 ∗ pt c M13 g13 ∗ pt c M14 g14 ∗ pt c M15 g15 ∗ pt c M16 g16 ∗ pt c M17 g17 ∗ ⌜Post X1 X2 X3 X4 X5 Acc Rs n (M6.view.read (Elt Ideal) g6) (M7.view.read (Elt Ideal) g7) (M8.view.read (Elt Ideal) g8) (M9.view.read (Elt Ideal) g9) (M10.view.read (Elt Ideal) g10) (M11.view.read (Elt Ideal) g11) (M12.view.read (Elt Ideal) g12) (M13.view.read (Elt Ideal) g13) (M14.view.read (Elt Ideal) g14) (M15.view.read (Elt Ideal) g15)⌝) -∗ Q ⟨⟩))
    ⊢ wp frame (wpE (defs₀ (F := Ideal)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  subst hX1; subst hX2; subst hX3; subst hX4; subst hX5
  have e := first_W c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f13
  have hW := (runFirst (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f13).2
  revert hW e
  generalize (runFirst (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f13).1 = W
  intro e hW
  subst e
  have hp := first_post c i n hn hi M1 M2 M3 M4 M5 M6 M7 M8 M9 M10 M11 M12 M13 M14 M15 M16 M17 f1 f2 f3 f4 f5 f6 f7 f8 f9 f10 f11 f12 f13 f14 f15 f16 f17  Acc Rs hA0 hA1 hR0 hR1 hinv
  exact first_glue c i n M1 h1 M2 h2 M3 h3 M4 h4 M5 h5 M6 h6 M7 h7 M8 h8 M9 h9 M10 h10 M11 h11 M12 h12 M13 h13 M14 h14 M15 h15 M16 h16 M17 h17 _ _ _ _ _ Acc Rs f1 f2 f3 f4 f5 f6 f7 f8 f9 f10 f11 f12 f13 f14 f15 f16 f17 _ hW hp E Q

theorem mid_glue (c : Dev nD) (i : grid0.Coords) (n : ℕ)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (X1 : S128x512.Idx → EReal) (X2 : S128x4096.Idx → EReal) (X3 : S4x4096.Idx → BitVec 8) (X4 : S4096x512.Idx → EReal) (X5 : S4096x448.Idx → BitVec 8) (Acc : ℕ → S4096x128.Idx → EReal) (Rs : ℕ → S128x512.Idx → EReal)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17)
    (W : Bf (F := Ideal) c M7 × Bf (F := Ideal) c M8 × Bf (F := Ideal) c M10 × Bf (F := Ideal) c M11 × Bf (F := Ideal) c M14 × Bf (F := Ideal) c M15 × Bf (F := Ideal) c M16 × Bf (F := Ideal) c M17)
    (hW : ∀ (f6 : Bf (F := Ideal) c M6) (f7 : Bf (F := Ideal) c M7) (f8 : Bf (F := Ideal) c M8) (f9 : Bf (F := Ideal) c M9) (f10 : Bf (F := Ideal) c M10) (f11 : Bf (F := Ideal) c M11) (f16 : Bf (F := Ideal) c M16) (f17 : Bf (F := Ideal) c M17) (E : Set ℕ) (Q : PUnit → sProp 𝕄), iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ (iprop(pt c M1 f1 ∗ pt c M2 f2 ∗ pt c M3 f3 ∗ pt c M4 f4 ∗ pt c M5 f5 ∗ pt c M6 f6 ∗ pt c M7 W.1 ∗ pt c M8 W.2.1 ∗ pt c M9 f9 ∗ pt c M10 W.2.2.1 ∗ pt c M11 W.2.2.2.1 ∗ pt c M12 f12 ∗ pt c M13 f13 ∗ pt c M14 W.2.2.2.2.1 ∗ pt c M15 W.2.2.2.2.2.1 ∗ pt c M16 W.2.2.2.2.2.2.1 ∗ pt c M17 W.2.2.2.2.2.2.2) -∗ Q ⟨⟩)) ⊢ wp frame (wpE (defs₀ (F := Ideal)) Variants.none c none) E (cc0_mx_linear_bwd i M1 h1 M2 h2 M3 h3 M4 h4 M5 h5 M6 h6 M7 h7 M8 h8 M9 h9 M10 h10 M11 h11 M12 h12 M13 h13 M14 h14 M15 h15 M16 h16 M17 h17) Q)
    (hp : Post X1 X2 X3 X4 X5 Acc Rs n (M6.view.read (Elt Ideal) f6) (M7.view.read (Elt Ideal) W.1) (M8.view.read (Elt Ideal) W.2.1) (M9.view.read (Elt Ideal) f9) (M10.view.read (Elt Ideal) W.2.2.1) (M11.view.read (Elt Ideal) W.2.2.2.1) (M12.view.read (Elt Ideal) f12) (M13.view.read (Elt Ideal) f13) (M14.view.read (Elt Ideal) W.2.2.2.2.1) (M15.view.read (Elt Ideal) W.2.2.2.2.2.1)) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(∃ g6 g7 g8 g9 g10 g11 g12 g13 g14 g15 g16 g17, pt c M1 f1 ∗ pt c M2 f2 ∗ pt c M3 f3 ∗ pt c M4 f4 ∗ pt c M5 f5 ∗ pt c M6 g6 ∗ pt c M7 g7 ∗ pt c M8 g8 ∗ pt c M9 g9 ∗ pt c M10 g10 ∗ pt c M11 g11 ∗ pt c M12 g12 ∗ pt c M13 g13 ∗ pt c M14 g14 ∗ pt c M15 g15 ∗ pt c M16 g16 ∗ pt c M17 g17 ∗ ⌜Post X1 X2 X3 X4 X5 Acc Rs n (M6.view.read (Elt Ideal) g6) (M7.view.read (Elt Ideal) g7) (M8.view.read (Elt Ideal) g8) (M9.view.read (Elt Ideal) g9) (M10.view.read (Elt Ideal) g10) (M11.view.read (Elt Ideal) g11) (M12.view.read (Elt Ideal) g12) (M13.view.read (Elt Ideal) g13) (M14.view.read (Elt Ideal) g14) (M15.view.read (Elt Ideal) g15)⌝) -∗ Q ⟨⟩))
    ⊢ wp frame (wpE (defs₀ (F := Ideal)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  iapply (hW f6 f7 f8 f9 f10 f11 f16 f17 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, H16, H17⟩
  iapply Hk
  iexists f6
  iexists W.1
  iexists W.2.1
  iexists f9
  iexists W.2.2.1
  iexists W.2.2.2.1
  iexists f12
  iexists f13
  iexists W.2.2.2.2.1
  iexists W.2.2.2.2.2.1
  iexists W.2.2.2.2.2.2.1
  iexists W.2.2.2.2.2.2.2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  ipureintro
  exact hp

set_option maxHeartbeats 0 in
theorem mid_val (c : Dev nD) (i : grid0.Coords) (n : ℕ) (hn : n ≠ 0) (hl : n ≠ 27) (hi : (i 0).val = n) (hc1 : ¬ cond1 i) (hc2 : ¬ k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (X1 : S128x512.Idx → EReal) (X2 : S128x4096.Idx → EReal) (X3 : S4x4096.Idx → BitVec 8) (X4 : S4096x512.Idx → EReal) (X5 : S4096x448.Idx → BitVec 8) (Acc : ℕ → S4096x128.Idx → EReal) (Rs : ℕ → S128x512.Idx → EReal)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17)
    (hX1 : M1.view.read (Elt Ideal) f1 = X1) (hX2 : M2.view.read (Elt Ideal) f2 = X2) (hX3 : M3.view.read (Elt Ideal) f3 = X3) (hX4 : M4.view.read (Elt Ideal) f4 = X4) (hX5 : M5.view.read (Elt Ideal) f5 = X5) (hA0 : Acc 0 = fun _ => 0) (hA1 : Acc (n + 1) = stepD X4 X5 n (growF X1) (Acc n)) (hR0 : Rs 0 = fun _ => 0) (hR1 : Rs (n + 1) = stepS X1 n (Rs n)) (hinv : Inv X2 X3 X5 Acc Rs n (M12.view.read (Elt Ideal) f12) (M13.view.read (Elt Ideal) f13) (M14.view.read (Elt Ideal) f14) (M15.view.read (Elt Ideal) f15)) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(∃ g6 g7 g8 g9 g10 g11 g12 g13 g14 g15 g16 g17, pt c M1 f1 ∗ pt c M2 f2 ∗ pt c M3 f3 ∗ pt c M4 f4 ∗ pt c M5 f5 ∗ pt c M6 g6 ∗ pt c M7 g7 ∗ pt c M8 g8 ∗ pt c M9 g9 ∗ pt c M10 g10 ∗ pt c M11 g11 ∗ pt c M12 g12 ∗ pt c M13 g13 ∗ pt c M14 g14 ∗ pt c M15 g15 ∗ pt c M16 g16 ∗ pt c M17 g17 ∗ ⌜Post X1 X2 X3 X4 X5 Acc Rs n (M6.view.read (Elt Ideal) g6) (M7.view.read (Elt Ideal) g7) (M8.view.read (Elt Ideal) g8) (M9.view.read (Elt Ideal) g9) (M10.view.read (Elt Ideal) g10) (M11.view.read (Elt Ideal) g11) (M12.view.read (Elt Ideal) g12) (M13.view.read (Elt Ideal) g13) (M14.view.read (Elt Ideal) g14) (M15.view.read (Elt Ideal) g15)⌝) -∗ Q ⟨⟩))
    ⊢ wp frame (wpE (defs₀ (F := Ideal)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  subst hX1; subst hX2; subst hX3; subst hX4; subst hX5
  have e := mid_W c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f12 f13 f14 f15
  have hW := (runMid (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f12 f13 f14 f15).2
  revert hW e
  generalize (runMid (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f12 f13 f14 f15).1 = W
  intro e hW
  subst e
  have hp := mid_post c i n hn hl hi M1 M2 M3 M4 M5 M6 M7 M8 M9 M10 M11 M12 M13 M14 M15 M16 M17 f1 f2 f3 f4 f5 f6 f7 f8 f9 f10 f11 f12 f13 f14 f15 f16 f17  Acc Rs hA0 hA1 hR0 hR1 hinv
  exact mid_glue c i n M1 h1 M2 h2 M3 h3 M4 h4 M5 h5 M6 h6 M7 h7 M8 h8 M9 h9 M10 h10 M11 h11 M12 h12 M13 h13 M14 h14 M15 h15 M16 h16 M17 h17 _ _ _ _ _ Acc Rs f1 f2 f3 f4 f5 f6 f7 f8 f9 f10 f11 f12 f13 f14 f15 f16 f17 _ hW hp E Q

theorem last_glue (c : Dev nD) (i : grid0.Coords) (n : ℕ)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (X1 : S128x512.Idx → EReal) (X2 : S128x4096.Idx → EReal) (X3 : S4x4096.Idx → BitVec 8) (X4 : S4096x512.Idx → EReal) (X5 : S4096x448.Idx → BitVec 8) (Acc : ℕ → S4096x128.Idx → EReal) (Rs : ℕ → S128x512.Idx → EReal)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17)
    (W : Bf (F := Ideal) c M6 × Bf (F := Ideal) c M7 × Bf (F := Ideal) c M8 × Bf (F := Ideal) c M9 × Bf (F := Ideal) c M10 × Bf (F := Ideal) c M11 × Bf (F := Ideal) c M14 × Bf (F := Ideal) c M15 × Bf (F := Ideal) c M16 × Bf (F := Ideal) c M17)
    (hW : ∀ (f6 : Bf (F := Ideal) c M6) (f7 : Bf (F := Ideal) c M7) (f8 : Bf (F := Ideal) c M8) (f9 : Bf (F := Ideal) c M9) (f10 : Bf (F := Ideal) c M10) (f11 : Bf (F := Ideal) c M11) (f16 : Bf (F := Ideal) c M16) (f17 : Bf (F := Ideal) c M17) (E : Set ℕ) (Q : PUnit → sProp 𝕄), iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ (iprop(pt c M1 f1 ∗ pt c M2 f2 ∗ pt c M3 f3 ∗ pt c M4 f4 ∗ pt c M5 f5 ∗ pt c M6 W.1 ∗ pt c M7 W.2.1 ∗ pt c M8 W.2.2.1 ∗ pt c M9 W.2.2.2.1 ∗ pt c M10 W.2.2.2.2.1 ∗ pt c M11 W.2.2.2.2.2.1 ∗ pt c M12 f12 ∗ pt c M13 f13 ∗ pt c M14 W.2.2.2.2.2.2.1 ∗ pt c M15 W.2.2.2.2.2.2.2.1 ∗ pt c M16 W.2.2.2.2.2.2.2.2.1 ∗ pt c M17 W.2.2.2.2.2.2.2.2.2) -∗ Q ⟨⟩)) ⊢ wp frame (wpE (defs₀ (F := Ideal)) Variants.none c none) E (cc0_mx_linear_bwd i M1 h1 M2 h2 M3 h3 M4 h4 M5 h5 M6 h6 M7 h7 M8 h8 M9 h9 M10 h10 M11 h11 M12 h12 M13 h13 M14 h14 M15 h15 M16 h16 M17 h17) Q)
    (hp : Post X1 X2 X3 X4 X5 Acc Rs n (M6.view.read (Elt Ideal) W.1) (M7.view.read (Elt Ideal) W.2.1) (M8.view.read (Elt Ideal) W.2.2.1) (M9.view.read (Elt Ideal) W.2.2.2.1) (M10.view.read (Elt Ideal) W.2.2.2.2.1) (M11.view.read (Elt Ideal) W.2.2.2.2.2.1) (M12.view.read (Elt Ideal) f12) (M13.view.read (Elt Ideal) f13) (M14.view.read (Elt Ideal) W.2.2.2.2.2.2.1) (M15.view.read (Elt Ideal) W.2.2.2.2.2.2.2.1)) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(∃ g6 g7 g8 g9 g10 g11 g12 g13 g14 g15 g16 g17, pt c M1 f1 ∗ pt c M2 f2 ∗ pt c M3 f3 ∗ pt c M4 f4 ∗ pt c M5 f5 ∗ pt c M6 g6 ∗ pt c M7 g7 ∗ pt c M8 g8 ∗ pt c M9 g9 ∗ pt c M10 g10 ∗ pt c M11 g11 ∗ pt c M12 g12 ∗ pt c M13 g13 ∗ pt c M14 g14 ∗ pt c M15 g15 ∗ pt c M16 g16 ∗ pt c M17 g17 ∗ ⌜Post X1 X2 X3 X4 X5 Acc Rs n (M6.view.read (Elt Ideal) g6) (M7.view.read (Elt Ideal) g7) (M8.view.read (Elt Ideal) g8) (M9.view.read (Elt Ideal) g9) (M10.view.read (Elt Ideal) g10) (M11.view.read (Elt Ideal) g11) (M12.view.read (Elt Ideal) g12) (M13.view.read (Elt Ideal) g13) (M14.view.read (Elt Ideal) g14) (M15.view.read (Elt Ideal) g15)⌝) -∗ Q ⟨⟩))
    ⊢ wp frame (wpE (defs₀ (F := Ideal)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  iintro ⟨H1, H2, H3, H4, H5, H6, H7, H8, H9, H10, H11, H12, H13, H14, H15, H16, H17, Hk⟩
  iapply (hW f6 f7 f8 f9 f10 f11 f16 f17 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, H16, H17⟩
  iapply Hk
  iexists W.1
  iexists W.2.1
  iexists W.2.2.1
  iexists W.2.2.2.1
  iexists W.2.2.2.2.1
  iexists W.2.2.2.2.2.1
  iexists f12
  iexists f13
  iexists W.2.2.2.2.2.2.1
  iexists W.2.2.2.2.2.2.2.1
  iexists W.2.2.2.2.2.2.2.2.1
  iexists W.2.2.2.2.2.2.2.2.2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  ipureintro
  exact hp

set_option maxHeartbeats 0 in
theorem last_val (c : Dev nD) (i : grid0.Coords) (n : ℕ) (hn : n = 27) (hi : (i 0).val = n) (hc1 : ¬ cond1 i) (hc2 : k0_cond2 i = 1#1)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (X1 : S128x512.Idx → EReal) (X2 : S128x4096.Idx → EReal) (X3 : S4x4096.Idx → BitVec 8) (X4 : S4096x512.Idx → EReal) (X5 : S4096x448.Idx → BitVec 8) (Acc : ℕ → S4096x128.Idx → EReal) (Rs : ℕ → S128x512.Idx → EReal)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17)
    (hX1 : M1.view.read (Elt Ideal) f1 = X1) (hX2 : M2.view.read (Elt Ideal) f2 = X2) (hX3 : M3.view.read (Elt Ideal) f3 = X3) (hX4 : M4.view.read (Elt Ideal) f4 = X4) (hX5 : M5.view.read (Elt Ideal) f5 = X5) (hA0 : Acc 0 = fun _ => 0) (hA1 : Acc (n + 1) = stepD X4 X5 n (growF X1) (Acc n)) (hR0 : Rs 0 = fun _ => 0) (hR1 : Rs (n + 1) = stepS X1 n (Rs n)) (hinv : Inv X2 X3 X5 Acc Rs n (M12.view.read (Elt Ideal) f12) (M13.view.read (Elt Ideal) f13) (M14.view.read (Elt Ideal) f14) (M15.view.read (Elt Ideal) f15)) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(∃ g6 g7 g8 g9 g10 g11 g12 g13 g14 g15 g16 g17, pt c M1 f1 ∗ pt c M2 f2 ∗ pt c M3 f3 ∗ pt c M4 f4 ∗ pt c M5 f5 ∗ pt c M6 g6 ∗ pt c M7 g7 ∗ pt c M8 g8 ∗ pt c M9 g9 ∗ pt c M10 g10 ∗ pt c M11 g11 ∗ pt c M12 g12 ∗ pt c M13 g13 ∗ pt c M14 g14 ∗ pt c M15 g15 ∗ pt c M16 g16 ∗ pt c M17 g17 ∗ ⌜Post X1 X2 X3 X4 X5 Acc Rs n (M6.view.read (Elt Ideal) g6) (M7.view.read (Elt Ideal) g7) (M8.view.read (Elt Ideal) g8) (M9.view.read (Elt Ideal) g9) (M10.view.read (Elt Ideal) g10) (M11.view.read (Elt Ideal) g11) (M12.view.read (Elt Ideal) g12) (M13.view.read (Elt Ideal) g13) (M14.view.read (Elt Ideal) g14) (M15.view.read (Elt Ideal) g15)⌝) -∗ Q ⟨⟩))
    ⊢ wp frame (wpE (defs₀ (F := Ideal)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  subst hX1; subst hX2; subst hX3; subst hX4; subst hX5
  have e := last_W c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f12 f13 f14 f15
  have hW := (runLast (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f12 f13 f14 f15).2
  revert hW e
  generalize (runLast (F := Ideal) c i hc1 hc2 M1 h1 M2 h2 M3 h3 M4 h4 M5 h5 M6 h6 M7 h7 M8 h8 M9 h9 M10 h10 M11 h11 M12 h12 M13 h13 M14 h14 M15 h15 M16 h16 M17 h17 f1 f2 f3 f4 f5 f12 f13 f14 f15).1 = W
  intro e hW
  subst e
  have hp := last_post c i n hn hi M1 M2 M3 M4 M5 M6 M7 M8 M9 M10 M11 M12 M13 M14 M15 M16 M17 f1 f2 f3 f4 f5 f6 f7 f8 f9 f10 f11 f12 f13 f14 f15 f16 f17  Acc Rs hA0 hA1 hR0 hR1 hinv
  exact last_glue c i n M1 h1 M2 h2 M3 h3 M4 h4 M5 h5 M6 h6 M7 h7 M8 h8 M9 h9 M10 h10 M11 h11 M12 h12 M13 h13 M14 h14 M15 h15 M16 h16 M17 h17 _ _ _ _ _ Acc Rs f1 f2 f3 f4 f5 f6 f7 f8 f9 f10 f11 f12 f13 f14 f15 f16 f17 _ hW hp E Q

/-- The body at grid coordinate `n`, whatever the step. -/
theorem run_val (c : Dev nD) (i : grid0.Coords) (n : ℕ) (hi : (i 0).val = n)
    (M1 : Memref sig .tc .vmem S128x512 .bf16) (h1 : M1.IsWhole) (M2 : Memref sig .tc .vmem S128x4096 .fp8e4m3) (h2 : M2.IsWhole) (M3 : Memref sig .tc .vmem S4x4096 .i8) (h3 : M3.IsWhole) (M4 : Memref sig .tc .vmem S4096x512 .fp8e4m3) (h4 : M4.IsWhole) (M5 : Memref sig .tc .vmem S4096x448 .i8) (h5 : M5.IsWhole) (M6 : Memref sig .tc .vmem S128x4096 .bf16) (h6 : M6.IsWhole) (M7 : Memref sig .tc .vmem S4096x512 .f32) (h7 : M7.IsWhole) (M8 : Memref sig .tc .vmem S64x512 .i8) (h8 : M8.IsWhole) (M9 : Memref sig .tc .vmem S128x448 .i8) (h9 : M9.IsWhole) (M10 : Memref sig .tc .vmem S128x256 .i8) (h10 : M10.IsWhole) (M11 : Memref sig .tc .vmem S4x512 .i8) (h11 : M11.IsWhole) (M12 : Memref sig .tc .vmem S4096x128 .bf16) (h12 : M12.IsWhole) (M13 : Memref sig .tc .vmem S4096x512 .bf16) (h13 : M13.IsWhole) (M14 : Memref sig .tc .vmem S4096x128 .f32) (h14 : M14.IsWhole) (M15 : Memref sig .tc .vmem S128x512 .f32) (h15 : M15.IsWhole) (M16 : Memref sig .tc .vmem S128x512 .bf16) (h16 : M16.IsWhole) (M17 : Memref sig .tc .vmem S128x512 .bf16) (h17 : M17.IsWhole)
    (X1 : S128x512.Idx → EReal) (X2 : S128x4096.Idx → EReal) (X3 : S4x4096.Idx → BitVec 8) (X4 : S4096x512.Idx → EReal) (X5 : S4096x448.Idx → BitVec 8) (Acc : ℕ → S4096x128.Idx → EReal) (Rs : ℕ → S128x512.Idx → EReal)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17)
    (hX1 : M1.view.read (Elt Ideal) f1 = X1) (hX2 : M2.view.read (Elt Ideal) f2 = X2) (hX3 : M3.view.read (Elt Ideal) f3 = X3) (hX4 : M4.view.read (Elt Ideal) f4 = X4) (hX5 : M5.view.read (Elt Ideal) f5 = X5) (hA0 : Acc 0 = fun _ => 0) (hA1 : Acc (n + 1) = stepD X4 X5 n (growF X1) (Acc n)) (hR0 : Rs 0 = fun _ => 0) (hR1 : Rs (n + 1) = stepS X1 n (Rs n)) (hinv : Inv X2 X3 X5 Acc Rs n (M12.view.read (Elt Ideal) f12) (M13.view.read (Elt Ideal) f13) (M14.view.read (Elt Ideal) f14) (M15.view.read (Elt Ideal) f15)) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
      ∗ (iprop(∃ g6 g7 g8 g9 g10 g11 g12 g13 g14 g15 g16 g17, pt c M1 f1 ∗ pt c M2 f2 ∗ pt c M3 f3 ∗ pt c M4 f4 ∗ pt c M5 f5 ∗ pt c M6 g6 ∗ pt c M7 g7 ∗ pt c M8 g8 ∗ pt c M9 g9 ∗ pt c M10 g10 ∗ pt c M11 g11 ∗ pt c M12 g12 ∗ pt c M13 g13 ∗ pt c M14 g14 ∗ pt c M15 g15 ∗ pt c M16 g16 ∗ pt c M17 g17 ∗ ⌜Post X1 X2 X3 X4 X5 Acc Rs n (M6.view.read (Elt Ideal) g6) (M7.view.read (Elt Ideal) g7) (M8.view.read (Elt Ideal) g8) (M9.view.read (Elt Ideal) g9) (M10.view.read (Elt Ideal) g10) (M11.view.read (Elt Ideal) g11) (M12.view.read (Elt Ideal) g12) (M13.view.read (Elt Ideal) g13) (M14.view.read (Elt Ideal) g14) (M15.view.read (Elt Ideal) g15)⌝) -∗ Q ⟨⟩))
    ⊢ wp frame (wpE (defs₀ (F := Ideal)) Variants.none c none) E
        (cc0_mx_linear_bwd i M1 h1 M2 h2 M3 h3 M4 h4 M5 h5 M6 h6 M7 h7 M8 h8 M9 h9 M10 h10 M11 h11 M12 h12 M13 h13 M14 h14 M15 h15 M16 h16 M17 h17) Q := by
  by_cases hc1 : cond1 i
  · exact first_val c i n (hi ▸ (first_iff i).mp hc1) hi hc1 (not_both i hc1) M1 h1 M2 h2 M3 h3 M4 h4 M5 h5 M6 h6 M7 h7 M8 h8 M9 h9 M10 h10 M11 h11 M12 h12 M13 h13 M14 h14 M15 h15 M16 h16 M17 h17 X1 X2 X3 X4 X5 Acc Rs f1 f2 f3 f4 f5 f6 f7 f8 f9 f10 f11 f12 f13 f14 f15 f16 f17 hX1 hX2 hX3 hX4 hX5 hA0 hA1 hR0 hR1 hinv E Q
  · by_cases hc2 : k0_cond2 i = 1#1
    · exact last_val c i n (hi ▸ (last_iff i).mp hc2) hi hc1 hc2 M1 h1 M2 h2 M3 h3 M4 h4 M5 h5 M6 h6 M7 h7 M8 h8 M9 h9 M10 h10 M11 h11 M12 h12 M13 h13 M14 h14 M15 h15 M16 h16 M17 h17 X1 X2 X3 X4 X5 Acc Rs f1 f2 f3 f4 f5 f6 f7 f8 f9 f10 f11 f12 f13 f14 f15 f16 f17 hX1 hX2 hX3 hX4 hX5 hA0 hA1 hR0 hR1 hinv E Q
    · exact mid_val c i n (fun e => hc1 ((first_iff i).mpr (hi.trans e))) (fun e => hc2 ((last_iff i).mpr (hi.trans e))) hi hc1 hc2 M1 h1 M2 h2 M3 h3 M4 h4 M5 h5 M6 h6 M7 h7 M8 h8 M9 h9 M10 h10 M11 h11 M12 h12 M13 h13 M14 h14 M15 h15 M16 h16 M17 h17 X1 X2 X3 X4 X5 Acc Rs f1 f2 f3 f4 f5 f6 f7 f8 f9 f10 f11 f12 f13 f14 f15 f16 f17 hX1 hX2 hX3 hX4 hX5 hA0 hA1 hR0 hR1 hinv E Q

variable (m : (ℓ : Loc nD τ sig) → Buf (Elt Ideal) ℓ) (ρ : Dev nD → PrngReg)

/-- What the region's five input arrays hold at entry. -/
abbrev A0 (c : Dev nD) : S128x14336.Idx → EReal := V m c main_v0
abbrev A1 (c : Dev nD) : S128x4096.Idx → EReal := V m c main_v1
abbrev A2 (c : Dev nD) : S4x4096.Idx → BitVec 8 := V m c main_v2
abbrev A3 (c : Dev nD) : S4096x14336.Idx → EReal := V m c main_arg3
abbrev A4 (c : Dev nD) : S4096x448.Idx → BitVec 8 := V m c main_arg4

/-- The accumulator before step `n`. -/
def accA (c : Dev nD) : ℕ → S4096x128.Idx → EReal
  | 0 => fun _ => 0
  | n + 1 => if h : n < cfg0.N then stepD (iblk m c 3 ⟨n, h⟩) (A4 m c) n (growF (iblk m c 0 ⟨n, h⟩)) (accA c n) else accA c n

theorem accA_succ (c : Dev nD) (t : Fin cfg0.N) : accA m c (t.val + 1) = stepD (iblk m c 3 t) (A4 m c) t.val (growF (iblk m c 0 t)) (accA m c t.val) :=
  dif_pos t.isLt

/-- The row scales before step `n`. -/
def rsA (c : Dev nD) : ℕ → S128x512.Idx → EReal
  | 0 => fun _ => 0
  | n + 1 => if h : n < cfg0.N then stepS (iblk m c 0 ⟨n, h⟩) n (rsA c n) else rsA c n

theorem rsA_succ (c : Dev nD) (t : Fin cfg0.N) : rsA m c (t.val + 1) = stepS (iblk m c 0 t) t.val (rsA m c t.val) :=
  dif_pos t.isLt

/-- The scratch buffers before point `k`, their contents tied to the arrays at entry. -/
def ΦV (c : Dev nD) (k : Fin (cfg0.N + 1)) : sProp 𝕄 :=
  iprop((∃ s0 s1 s2 s3 s4 s5, ⌜Inv (A1 m c) (A2 m c) (A4 m c) (accA m c) (rsA m c) k.val ((Memref.whole cc0_scratch0).view.read (Elt Ideal) s0) ((Memref.whole cc0_scratch1).view.read (Elt Ideal) s1) ((Memref.whole cc0_scratch2).view.read (Elt Ideal) s2) ((Memref.whole cc0_scratch3).view.read (Elt Ideal) s3)⌝ ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5) ∗ ∃ r, prngReg c r)

/-- What the body leaves in each window's buffer at a point. -/
def afterV (c : Dev nD) : (w : Fin cfg0.W) → Fin cfg0.N → (Y X : (cfg0.win w).block.Idx → Elt Ideal (cfg0.win w).elt) → Prop
  | ⟨0, _⟩ => fun _ Y X => X = Y
  | ⟨1, _⟩ => fun _ Y X => X = Y
  | ⟨2, _⟩ => fun _ Y X => X = Y
  | ⟨3, _⟩ => fun _ Y X => X = Y
  | ⟨4, _⟩ => fun _ Y X => X = Y
  | ⟨5, _⟩ => fun t _ X => t.val = 27 → X = dxT (accA m c 28)
  | ⟨6, _⟩ => fun t _ X => X = dwF (xtF (A1 m c) (A2 m c)) (gcolF (iblk m c 0 t))
  | ⟨7, _⟩ => fun t _ X => X = rcF (iblk m c 0 t)
  | ⟨8, _⟩ => fun t _ X => t.val = 27 → X = rsE (rsA m c 28)
  | ⟨9, _⟩ => fun t _ X => X = ccF (iblk m c 0 t)
  | ⟨10, _⟩ => fun t _ X => X = csF (iblk m c 0 t)
  | _ => fun _ _ _ => True

/-- Proof data that say what the body leaves. -/
def rdatV (c : Dev nD) : RDat τ (Elt Ideal) Unit ℕ (UR sig nD τ) ℕ cfg0 c where
  A w := V m c (Pipeline.arrRef spec0 w)
  after := afterV m c
  Φ := ΦV m c
  q _ := fullShare
  owed _ := 0

theorem owns_ptV (c : Dev nD) {sp : Space} {sh : Shape} {e : EltTy} {M : Memref sig .tc sp sh e} (h : M.IsWhole) (X : sh.Idx → Elt Ideal e) :
    (owns (c : Thread nD τ) M fullShare X : sProp 𝕄) ⊢ iprop(∃ f, ⌜M.view.read (Elt Ideal) f = X⌝ ∗ pt c M f) := by
  unfold owns pt; rw [h.set_eq_univ]

theorem pt_ownsV (c : Dev nD) {sp : Space} {sh : Shape} {e : EltTy} {M : Memref sig .tc sp sh e} (h : M.IsWhole) (f : Bf (F := Ideal) c M) :
    pt c M f ⊢ (owns (c : Thread nD τ) M fullShare (M.view.read (Elt Ideal) f) : sProp 𝕄) := by
  unfold owns pt
  rw [h.set_eq_univ]
  iintro H; iexists f; isplitr
  · ipureintro; rfl
  iexact H

theorem coords_val (t : Fin cfg0.N) : (grid0.coords t 0).val = t.val := by
  have key : ∀ t : Fin grid0.N, (grid0.coords t 0).val = t.val := by decide
  exact key t

/-- What the body is handed at point `t`. -/
def bodyPreV (c : Dev nD) (t : Fin cfg0.N) (Y : (w : Fin cfg0.W) → (cfg0.win w).block.Idx → Elt Ideal (cfg0.win w).elt) : sProp 𝕄 :=
  iprop((rdatV m c).Φ t.castSucc ∗ (rdatV m c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10))
/-- What the body hands back at point `t`. -/
def bodyPostV (c : Dev nD) (t : Fin cfg0.N) (Y : (w : Fin cfg0.W) → (cfg0.win w).block.Idx → Elt Ideal (cfg0.win w).elt) : sProp 𝕄 :=
  iprop((rdatV m c).Φ t.succ ∗ (rdatV m c).owesAt () t.succ ∗ (∃ X, ⌜(rdatV m c).after 0 t (Y 0) X⌝ ∗ owns (c : Thread nD τ) (ms0_0 t) fullShare X) ∗ (∃ X, ⌜(rdatV m c).after 1 t (Y 1) X⌝ ∗ owns (c : Thread nD τ) (ms0_1 t) fullShare X) ∗ (∃ X, ⌜(rdatV m c).after 2 t (Y 2) X⌝ ∗ owns (c : Thread nD τ) (ms0_2 t) fullShare X) ∗ (∃ X, ⌜(rdatV m c).after 3 t (Y 3) X⌝ ∗ owns (c : Thread nD τ) (ms0_3 t) fullShare X) ∗ (∃ X, ⌜(rdatV m c).after 4 t (Y 4) X⌝ ∗ owns (c : Thread nD τ) (ms0_4 t) fullShare X) ∗ (∃ X, ⌜(rdatV m c).after 5 t (Y 5) X⌝ ∗ owns (c : Thread nD τ) (ms0_5 t) fullShare X) ∗ (∃ X, ⌜(rdatV m c).after 6 t (Y 6) X⌝ ∗ owns (c : Thread nD τ) (ms0_6 t) fullShare X) ∗ (∃ X, ⌜(rdatV m c).after 7 t (Y 7) X⌝ ∗ owns (c : Thread nD τ) (ms0_7 t) fullShare X) ∗ (∃ X, ⌜(rdatV m c).after 8 t (Y 8) X⌝ ∗ owns (c : Thread nD τ) (ms0_8 t) fullShare X) ∗ (∃ X, ⌜(rdatV m c).after 9 t (Y 9) X⌝ ∗ owns (c : Thread nD τ) (ms0_9 t) fullShare X) ∗ (∃ X, ⌜(rdatV m c).after 10 t (Y 10) X⌝ ∗ owns (c : Thread nD τ) (ms0_10 t) fullShare X))

theorem sound_bodyV (c : Dev nD) (t : Fin cfg0.N) (Y : (w : Fin cfg0.W) → (cfg0.win w).block.Idx → Elt Ideal (cfg0.win w).elt)
    (hY0 : Y 0 = iblk m c 0 t) (hY1 : Y 1 = A1 m c) (hY2 : Y 2 = A2 m c) (hY3 : Y 3 = iblk m c 3 t) (hY4 : Y 4 = A4 m c) :
    bodyPreV m c t Y ⊢ wp frame (wpE (defs₀ (F := Ideal)) Variants.none c none) Set.univ (bodyAt0 t) (fun _ => bodyPostV m c t Y) := by
  unfold bodyPreV bodyPostV bodyAt0
  rw [show (rdatV m c).Φ t.succ = ΦV m c t.succ from rfl, show (rdatV m c).Φ t.castSucc = ΦV m c t.castSucc from rfl,
    show (rdatV m c).owesAt () t.succ = (rdatV m c).owesAt () t.castSucc from rfl]
  unfold ΦV
  iintro ⟨⟨⟨%s0, %s1, %s2, %s3, %s4, %s5, %hinv, S0, S1, S2, S3, S4, S5⟩, Hg⟩, Ho, H0, H1, H2, H3, H4, H5, H6, H7, H8, H9, H10⟩
  ihave G0 := (owns_ptV c (M := ms0_0 t) (hstage0_0 ((cfg0.slots t 0).cast nbuf0_0)) (Y 0)) $$ H0
  icases G0 with ⟨%f0, %e0, H0⟩
  ihave G1 := (owns_ptV c (M := ms0_1 t) (hstage0_1 ((cfg0.slots t 1).cast nbuf0_1)) (Y 1)) $$ H1
  icases G1 with ⟨%f1, %e1, H1⟩
  ihave G2 := (owns_ptV c (M := ms0_2 t) (hstage0_2 ((cfg0.slots t 2).cast nbuf0_2)) (Y 2)) $$ H2
  icases G2 with ⟨%f2, %e2, H2⟩
  ihave G3 := (owns_ptV c (M := ms0_3 t) (hstage0_3 ((cfg0.slots t 3).cast nbuf0_3)) (Y 3)) $$ H3
  icases G3 with ⟨%f3, %e3, H3⟩
  ihave G4 := (owns_ptV c (M := ms0_4 t) (hstage0_4 ((cfg0.slots t 4).cast nbuf0_4)) (Y 4)) $$ H4
  icases G4 with ⟨%f4, %e4, H4⟩
  ihave G5 := (owns_ptV c (M := ms0_5 t) (hstage0_5 ((cfg0.slots t 5).cast nbuf0_5)) (Y 5)) $$ H5
  icases G5 with ⟨%f5, %e5, H5⟩
  ihave G6 := (owns_ptV c (M := ms0_6 t) (hstage0_6 ((cfg0.slots t 6).cast nbuf0_6)) (Y 6)) $$ H6
  icases G6 with ⟨%f6, %e6, H6⟩
  ihave G7 := (owns_ptV c (M := ms0_7 t) (hstage0_7 ((cfg0.slots t 7).cast nbuf0_7)) (Y 7)) $$ H7
  icases G7 with ⟨%f7, %e7, H7⟩
  ihave G8 := (owns_ptV c (M := ms0_8 t) (hstage0_8 ((cfg0.slots t 8).cast nbuf0_8)) (Y 8)) $$ H8
  icases G8 with ⟨%f8, %e8, H8⟩
  ihave G9 := (owns_ptV c (M := ms0_9 t) (hstage0_9 ((cfg0.slots t 9).cast nbuf0_9)) (Y 9)) $$ H9
  icases G9 with ⟨%f9, %e9, H9⟩
  ihave G10 := (owns_ptV c (M := ms0_10 t) (hstage0_10 ((cfg0.slots t 10).cast nbuf0_10)) (Y 10)) $$ H10
  icases G10 with ⟨%f10, %e10, H10⟩
  iapply (run_val c (grid0.coords t) t.val (coords_val t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (A1 m c) (A2 m c) (iblk m c 3 t) (A4 m c) (accA m c) (rsA m c) f0 f1 f2 f3 f4 f5 f6 f7 f8 f9 f10 s0 s1 s2 s3 s4 s5 (e0.trans hY0) (e1.trans hY1) (e2.trans hY2) (e3.trans hY3) (e4.trans hY4) rfl (accA_succ m c t) rfl (rsA_succ m c t) hinv Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨%g5, %g6, %g7, %g8, %g9, %g10, %r0, %r1, %r2, %r3, %r4, %r5, H0, H1, H2, H3, H4, H5, H6, H7, H8, H9, H10, S0, S1, S2, S3, S4, S5, %hp⟩
  isplitl [S0 S1 S2 S3 S4 S5 Hg]
  · isplitr [Hg]
    · iexists r0; iexists r1; iexists r2; iexists r3; iexists r4; iexists r5
      isplitr
      · ipureintro; exact hp.2
      isplitl [S0]; · iexact S0
      isplitl [S1]; · iexact S1
      isplitl [S2]; · iexact S2
      isplitl [S3]; · iexact S3
      isplitl [S4]; · iexact S4
      iexact S5
    · iexact Hg
  isplitl [Ho]; · iexact Ho
  isplitl [H0]
  · iexists (ms0_0 t).view.read _ f0
    isplitr
    · ipureintro; exact e0
    · iapply (pt_ownsV c (M := ms0_0 t) (hstage0_0 ((cfg0.slots t 0).cast nbuf0_0)) _); iexact H0
  isplitl [H1]
  · iexists (ms0_1 t).view.read _ f1
    isplitr
    · ipureintro; exact e1
    · iapply (pt_ownsV c (M := ms0_1 t) (hstage0_1 ((cfg0.slots t 1).cast nbuf0_1)) _); iexact H1
  isplitl [H2]
  · iexists (ms0_2 t).view.read _ f2
    isplitr
    · ipureintro; exact e2
    · iapply (pt_ownsV c (M := ms0_2 t) (hstage0_2 ((cfg0.slots t 2).cast nbuf0_2)) _); iexact H2
  isplitl [H3]
  · iexists (ms0_3 t).view.read _ f3
    isplitr
    · ipureintro; exact e3
    · iapply (pt_ownsV c (M := ms0_3 t) (hstage0_3 ((cfg0.slots t 3).cast nbuf0_3)) _); iexact H3
  isplitl [H4]
  · iexists (ms0_4 t).view.read _ f4
    isplitr
    · ipureintro; exact e4
    · iapply (pt_ownsV c (M := ms0_4 t) (hstage0_4 ((cfg0.slots t 4).cast nbuf0_4)) _); iexact H4
  isplitl [H5]
  · iexists (ms0_5 t).view.read _ g5
    isplitr
    · ipureintro; exact hp.1.1
    · iapply (pt_ownsV c (M := ms0_5 t) (hstage0_5 ((cfg0.slots t 5).cast nbuf0_5)) _); iexact H5
  isplitl [H6]
  · iexists (ms0_6 t).view.read _ g6
    isplitr
    · ipureintro; exact hp.1.2.1
    · iapply (pt_ownsV c (M := ms0_6 t) (hstage0_6 ((cfg0.slots t 6).cast nbuf0_6)) _); iexact H6
  isplitl [H7]
  · iexists (ms0_7 t).view.read _ g7
    isplitr
    · ipureintro; exact hp.1.2.2.1
    · iapply (pt_ownsV c (M := ms0_7 t) (hstage0_7 ((cfg0.slots t 7).cast nbuf0_7)) _); iexact H7
  isplitl [H8]
  · iexists (ms0_8 t).view.read _ g8
    isplitr
    · ipureintro; exact hp.1.2.2.2.1
    · iapply (pt_ownsV c (M := ms0_8 t) (hstage0_8 ((cfg0.slots t 8).cast nbuf0_8)) _); iexact H8
  isplitl [H9]
  · iexists (ms0_9 t).view.read _ g9
    isplitr
    · ipureintro; exact hp.1.2.2.2.2.1
    · iapply (pt_ownsV c (M := ms0_9 t) (hstage0_9 ((cfg0.slots t 9).cast nbuf0_9)) _); iexact H9
  iexists (ms0_10 t).view.read _ g10
  isplitr
  · ipureintro; exact hp.1.2.2.2.2.2
  · iapply (pt_ownsV c (M := ms0_10 t) (hstage0_10 ((cfg0.slots t 10).cast nbuf0_10)) _); iexact H10

end Cert.KernelIdeal.Val
-- ==== Proof.KITail.lean ====
module

public import proofs.«01_k».proof.Proof.KIRun
public import Idealize.ShloMosaic.Lib.Pipeline.ArrRel

/-! The result arrays of `KernelIdeal` over the extended reals, each element a function of the argument arrays. -/

@[expose] public section

set_option backward.isDefEq.respectTransparency.types false
set_option maxRecDepth 8000

noncomputable section

namespace Cert.KernelIdeal.Val

open Cert.KernelIdeal Cert.KernelIdeal.Gen Cert.KernelIdeal.Body Cert.Quant
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, 0] := (by decide +kernel : ∀ t : Fin grid0.N, _)
theorem index6 : ∀ t : Fin cfg0.N, win0_6.index t = ![0, t.val] := (by decide +kernel : ∀ t : Fin grid0.N, _)

theorem index5 : ∀ t : Fin cfg0.N, win0_5.index t = ![0, 0] := (by decide +kernel : ∀ t : Fin grid0.N, _)

theorem N28 (t : Fin cfg0.N) : t.val < 28 := t.isLt

/-- A grid step's block of the gradient. -/
theorem iblk0 (c : Dev nD) (t : Fin cfg0.N) (y : S128x512.Idx) :
    iblk m c 0 t y = A0 m c (ix2 (y 0) ⟨512 * t.val + (y 1).val, by have := N28 t; have := idx2_lt1 y; omega⟩) := by
  have l1 := idx2_lt1 y
  blk_simp [iblk]
  show V m c main_v0 _ = V m c main_v0 _
  congr 1
  refine (eq_ix2 _).trans ?_
  congr 1
  · refine Fin.ext ?_
    blk_simp [index0]
  · refine Fin.ext (Eq.trans ?_ (Nat.add_comm (t.val * 512) _ |>.trans (by rw [Nat.mul_comm, Nat.add_comm])))
    blk_simp [index0]

theorem iblk1 (c : Dev nD) (t : Fin cfg0.N) : iblk m c 1 t = A1 m c := by
  funext y
  blk_simp [iblk]
  show V m c main_v1 _ = V m c main_v1 _
  congr 1
  refine (eq_ix2 _).trans (Eq.trans ?_ (eq_ix2 y).symm)
  congr 1 <;> refine Fin.ext ?_ <;> blk_simp [index1]

theorem iblk2 (c : Dev nD) (t : Fin cfg0.N) : iblk m c 2 t = A2 m c := by
  funext y
  blk_simp [iblk]
  show V m c main_v2 _ = V m c main_v2 _
  congr 1
  refine (eq_ix2 _).trans (Eq.trans ?_ (eq_ix2 y).symm)
  congr 1 <;> refine Fin.ext ?_ <;> blk_simp [index2]

theorem iblk4 (c : Dev nD) (t : Fin cfg0.N) : iblk m c 4 t = A4 m c := by
  funext y
  blk_simp [iblk]
  show V m c main_arg4 _ = V m c main_arg4 _
  congr 1
  refine (eq_ix2 _).trans (Eq.trans ?_ (eq_ix2 y).symm)
  congr 1 <;> refine Fin.ext ?_ <;> blk_simp [index4]

theorem finds0 (c : Dev nD) (t : Fin cfg0.N) (Y) (h : (rdatV m c).Finds 0 t Y) : Y = iblk m c 0 t := by
  obtain ⟨d, e⟩ := (rdatV m c).finds_in_eq_fetched 0 rfl (fun _ _ _ => rfl) (fun _ _ _ h => h) t Y h
  exact e.trans (by unfold RDat.fetched RDat.blockOf iblk; rfl)

theorem finds1 (c : Dev nD) (t : Fin cfg0.N) (Y) (h : (rdatV m c).Finds 1 t Y) : Y = iblk m c 1 t := by
  obtain ⟨d, e⟩ := (rdatV m c).finds_in_eq_fetched 1 rfl (fun _ _ _ => rfl) (fun _ _ _ h => h) t Y h
  exact e.trans (by unfold RDat.fetched RDat.blockOf iblk; rfl)

theorem finds2 (c : Dev nD) (t : Fin cfg0.N) (Y) (h : (rdatV m c).Finds 2 t Y) : Y = iblk m c 2 t := by
  obtain ⟨d, e⟩ := (rdatV m c).finds_in_eq_fetched 2 rfl (fun _ _ _ => rfl) (fun _ _ _ h => h) t Y h
  exact e.trans (by unfold RDat.fetched RDat.blockOf iblk; rfl)

theorem finds3 (c : Dev nD) (t : Fin cfg0.N) (Y) (h : (rdatV m c).Finds 3 t Y) : Y = iblk m c 3 t := by
  obtain ⟨d, e⟩ := (rdatV m c).finds_in_eq_fetched 3 rfl (fun _ _ _ => rfl) (fun _ _ _ h => h) t Y h
  exact e.trans (by unfold RDat.fetched RDat.blockOf iblk; rfl)

theorem finds4 (c : Dev nD) (t : Fin cfg0.N) (Y) (h : (rdatV m c).Finds 4 t Y) : Y = iblk m c 4 t := by
  obtain ⟨d, e⟩ := (rdatV m c).finds_in_eq_fetched 4 rfl (fun _ _ _ => rfl) (fun _ _ _ h => h) t Y h
  exact e.trans (by unfold RDat.fetched RDat.blockOf iblk; rfl)

theorem body_obligationV (c : Dev nD) : (rdatV m c).BodyObligation (defs₀ (F := Ideal)) Variants.none () Set.univ := fun t Y hY => by
  rw [bigSep_W0, bigSep_W0, defs₀_row]
  exact triple_restated (sound_bodyV m c t Y
    (finds0 m c t _ (hY 0))
    ((finds1 m c t _ (hY 1)).trans (iblk1 m c t))
    ((finds2 m c t _ (hY 2)).trans (iblk2 m c t))
    (finds3 m c t _ (hY 3))
    ((finds4 m c t _ (hY 4)).trans (iblk4 m c t)))
    rfl .rfl fun _ => .rfl

/-- Before the first point the scratch holds anything. -/
theorem enter (c : Dev nD) : Pipeline.ΦA spec0 c ⊢ ΦV m c 0 := by
  unfold Pipeline.ΦA ΦV pt
  rw [scopedRest0_eq]
  iintro ⟨⟨⟨%s0, S0⟩, ⟨%s1, S1⟩, ⟨%s2, S2⟩, ⟨%s3, S3⟩, ⟨%s4, S4⟩, ⟨%s5, S5⟩⟩, Hg⟩
  isplitr [Hg]
  · iexists s0, s1, s2, s3, s4, s5
    isplitr
    · ipureintro; exact fun h => absurd h (by decide)
    isplitl [S0]; · iexact S0
    isplitl [S1]; · iexact S1
    isplitl [S2]; · iexact S2
    isplitl [S3]; · iexact S3
    isplitl [S4]; · iexact S4
    iexact S5
  · iexact Hg

/-- After the last point the scratch still holds something. -/
theorem leave (c : Dev nD) : ΦV m c (Fin.last cfg0.N) ⊢ Pipeline.ΦA spec0 c := by
  unfold Pipeline.ΦA ΦV pt
  rw [scopedRest0_eq]
  iintro ⟨⟨%s0, %s1, %s2, %s3, %s4, %s5, -, S0, S1, S2, S3, S4, S5⟩, Hg⟩
  isplitr [Hg]
  · isplitl [S0]; · iexists s0; iexact S0
    isplitl [S1]; · iexists s1; iexact S1
    isplitl [S2]; · iexists s2; iexact S2
    isplitl [S3]; · iexists s3; iexact S3
    isplitl [S4]; · iexists s4; iexact S4
    iexists s5; iexact S5
  · iexact Hg

set_option backward.isDefEq.respectTransparency.types false in
/-- The run: every final state has arrays that the body's leavings account for, and every semaphore counter at zero. -/
theorem run_value : θ_run defs (onTc (τ := τ) (main (F := Ideal))) (s₀ m ρ)
    (fun r => Pipeline.RDat.FramePost cfg0 (rdatV m) (V m) r ∧ r.2.sem = fun _ => 0) :=
  Pipeline.RDat.θ_run_frame_track (Q' := _) cfgs (0 : Fin 1) launch0 defs₀ Variants.none (rdatV m) m ρ main
    (hbody := body_obligationV m) (hshare := fun c w => by unfold RDat.share; split <;> rfl)
    (howed := fun _ _ => rfl) (V := V m) (hmain := hmain m Variants.none) (hA := fun _ _ => rfl)
    (hin := enter m) (hout := leave m) (hQ' := fun _ h => h)

/-- The largest magnitude of a column's block of 32 rows. -/
def cmaxA (X : S128x14336.Idx → EReal) (b : Fin 4) (n : Fin 14336) : EReal :=
  (Finset.univ : Finset (Fin 32)).fold max ⊥ (fun k => max (X (ix2 ⟨32 * b.val + k.val, by omega⟩ n)) (-(X (ix2 ⟨32 * b.val + k.val, by omega⟩ n))))

/-- The gradient, quantised along its columns. -/
def gcolA (X : S128x14336.Idx → EReal) : S128x14336.Idx → EReal := fun j =>
  kg (X j) (cmaxA X ⟨(j 0).val / 32, by have := idx2_lt0 j; omega⟩ (j 1))

/-- The product of the transposed, scaled activations with the quantised gradient. -/
def dwA (X : S128x14336.Idx → EReal) (X2 : S128x4096.Idx → EReal) (X3 : S4x4096.Idx → BitVec 8) : S4096x14336.Idx → EReal :=
  fun j => ∑ s : Fin 128, xtF X2 X3 (ix2 (j 0) s) * gcolA X (ix2 s (j 1))

theorem gcolF_iblk (c : Dev nD) (t : Fin cfg0.N) (s : Fin 128) (n : Fin 512) :
    gcolF (iblk m c 0 t) (ix2 s n) = gcolA (A0 m c) (ix2 s ⟨512 * t.val + n.val, by have := N28 t; omega⟩) := by
  have h32 : 32 * (s.val / 32) + s.val % 32 = s.val := by omega
  have e1 : ∀ (a b : Fin 128) (_ : a.val = b.val), iblk m c 0 t (ix2 a n) = A0 m c (ix2 b ⟨512 * t.val + n.val, by have := N28 t; omega⟩) := fun a b h => by
    obtain rfl := Fin.ext h
    exact iblk0 m c t (ix2 a n)
  refine congrArg₂ kg (e1 _ _ h32) (Finset.fold_congr fun k _ => ?_)
  exact congrArg (fun z => max z (-z)) (e1 _ _ rfl)

theorem after6 (c : Dev nD) (after : (w : Fin cfg0.W) → Fin cfg0.N → (cfg0.win w).block.Idx → Elt Ideal (cfg0.win w).elt)
    (hL : ∀ t, (cfg0.win 6).flush t = true → (rdatV m c).Leaves 6 t (after 6 t)) :
    ((rdatV m c).withAfter after).arrAt 6 cfg0.N = dwA (A0 m c) (A1 m c) (A2 m c) := by
  refine ((rdatV m c).withAfter after).arrAt_eq_of_covers 6 _ (by decide +kernel) fun t hf y => ?_
  obtain ⟨Y, -, hX⟩ := hL t hf
  have hX : after 6 t = dwF (xtF (A1 m c) (A2 m c)) (gcolF (iblk m c 0 t)) := hX
  have e : ((rdatV m c).withAfter after).after 6 t = dwF (xtF (A1 m c) (A2 m c)) (gcolF (iblk m c 0 t)) := hX
  have l1 : (y 1).val < 512 := (y 1).isLt
  have ht := N28 t
  rw [e]
  show dwF (xtF (A1 m c) (A2 m c)) (gcolF (iblk m c 0 t)) y = _
  have e0 : ((cfg0.win 6).blk t).view.emb y = (ix2 (y 0) ⟨512 * t.val + (y 1).val, by omega⟩ : S4096x14336.Idx) := by
    refine (eq_ix2 (n0 := 4096) (n1 := 14336) _).trans ?_
    congr 1
    · refine Fin.ext ?_
      blk_simp [index6]
    · refine Fin.ext (Eq.trans ?_ (Nat.add_comm (t.val * 512) _ |>.trans (by rw [Nat.mul_comm, Nat.add_comm])))
      blk_simp [index6]
  rw [e0]
  unfold dwF dwA
  refine Finset.sum_congr rfl fun s _ => ?_
  exact congrArg _ (gcolF_iblk m c t s (y 1))

/-! ### The input gradient -/

/-- A grid step's block of the weights. -/
theorem iblk3 (c : Dev nD) (t : Fin cfg0.N) (y : S4096x512.Idx) :
    iblk m c 3 t y = A3 m c (ix2 (y 0) ⟨512 * t.val + (y 1).val, by have := N28 t; have := idx2_lt1 y; omega⟩) := by
  have l1 := idx2_lt1 y
  blk_simp [iblk]
  show V m c main_arg3 _ = V m c main_arg3 _
  congr 1
  refine (eq_ix2 _).trans ?_
  congr 1
  · refine Fin.ext ?_
    blk_simp [index3]
  · refine Fin.ext (Eq.trans ?_ (Nat.add_comm (t.val * 512) _ |>.trans (by rw [Nat.mul_comm, Nat.add_comm])))
    blk_simp [index3]

/-- The largest magnitude of a row's block of 32 columns. -/
def rmaxA (X : S128x14336.Idx → EReal) (s : Fin 128) (b : Fin 448) : EReal :=
  (Finset.univ : Finset (Fin 32)).fold max ⊥ (fun k => max (X (ix2 s ⟨32 * b.val + k.val, by omega⟩)) (-(X (ix2 s ⟨32 * b.val + k.val, by omega⟩))))

/-- The gradient, quantised along its rows. -/
def growA (X : S128x14336.Idx → EReal) : S128x14336.Idx → EReal := fun j =>
  kg (X j) (rmaxA X (j 0) ⟨(j 1).val / 32, by have := idx2_lt1 j; omega⟩)

theorem growF_iblk (c : Dev nD) (t : Fin cfg0.N) (s : Fin 128) (n : Fin 512) :
    growF (iblk m c 0 t) (ix2 s n) = growA (A0 m c) (ix2 s ⟨512 * t.val + n.val, by have := N28 t; omega⟩) := by
  have ht := N28 t
  have e1 : ∀ (a : Fin 512) (b : Fin 14336) (_ : 512 * t.val + a.val = b.val), iblk m c 0 t (ix2 s a) = A0 m c (ix2 s b) := fun a b h => by
    exact (iblk0 m c t (ix2 s a)).trans (congrArg (fun z => A0 m c (ix2 s z)) (Fin.ext h))
  refine congrArg₂ kg (e1 _ _ rfl) (Finset.fold_congr fun k _ => ?_)
  exact congrArg (fun z => max z (-z)) (e1 _ _ (by show 512 * t.val + (32 * (n.val / 32) + k.val) = 32 * ((512 * t.val + n.val) / 32) + k.val; omega))

/-- One product of the input gradient: weight times scale times quantised gradient. -/
def dxTerm (X : S128x14336.Idx → EReal) (W : S4096x14336.Idx → EReal) (s : S4096x448.Idx → BitVec 8) (r : Fin 128) (k : Fin 4096) (n : Fin 14336) : EReal :=
  W (ix2 k n) * dsc (s (ix2 k ⟨n.val / 32, by omega⟩)) * growA X (ix2 r n)

/-- The product of the quantised gradient with the transposed, scaled weights. -/
def dxA (X : S128x14336.Idx → EReal) (W : S4096x14336.Idx → EReal) (s : S4096x448.Idx → BitVec 8) : S128x4096.Idx → EReal :=
  fun j => ∑ n : Fin 14336, dxTerm X W s (j 0) (j 1) n

theorem accA_eq (c : Dev nD) (y : S4096x128.Idx) : ∀ (n : ℕ) (hn : n ≤ 28), accA m c n y
    = ∑ t : Fin n, ∑ k : Fin 512, dxTerm (A0 m c) (A3 m c) (A4 m c) (y 1) (y 0) ⟨512 * t.val + k.val, by omega⟩
  | 0, _ => rfl
  | n + 1, hn => by
    rw [Fin.sum_univ_castSucc]
    have hN : n < cfg0.N := hn
    refine (congrFun (accA_succ m c ⟨n, hN⟩) y).trans ?_
    unfold stepD
    refine congrArg₂ (fun a b : EReal => a + b) (accA_eq c y n (Nat.le_of_succ_le hn)) (Finset.sum_congr rfl fun k _ => ?_)
    unfold dxTerm
    refine congrArg₂ (fun a b : EReal => a * b) (congrArg₂ (fun a b : EReal => a * b) (iblk3 m c ⟨n, hN⟩ (ix2 (y 0) k)) (congrArg (fun z => dsc (A4 m c (ix2 (y 0) z))) (Fin.ext ?_))) (growF_iblk m c ⟨n, hN⟩ (y 1) k)
    show (16 * n + k.val / 32) % 448 = (512 * n + k.val) / 32
    omega

/-- A sum over the columns, taken by the grid's blocks of 512. -/
theorem sum_blocks (f : Fin 14336 → EReal) : ∑ t : Fin 28, ∑ k : Fin 512, f ⟨512 * t.val + k.val, by omega⟩ = ∑ n : Fin 14336, f n := by
  refine (Fintype.sum_prod_type' (fun (t : Fin 28) (k : Fin 512) => f ⟨512 * t.val + k.val, by omega⟩)).symm.trans ?_
  have hm : 28 * 512 = 14336 := by norm_num
  refine Fintype.sum_equiv ((finProdFinEquiv (m := 28) (n := 512)).trans (finCongr hm)) _ f fun p => congrArg f (Fin.ext ?_)
  rw [Equiv.trans_apply, finCongr_apply, Fin.val_cast, finProdFinEquiv_apply_val]
  exact Nat.add_comm _ _

theorem accA_last (c : Dev nD) : dxT (accA m c 28) = dxA (A0 m c) (A3 m c) (A4 m c) := by
  funext j
  refine (accA_eq m c (ix2 (j 1) (j 0)) 28 le_rfl).trans ?_
  unfold dxA
  exact sum_blocks (dxTerm (A0 m c) (A3 m c) (A4 m c) (j 0) (j 1))

theorem flush5 : ∀ t : Fin cfg0.N, (cfg0.win 5).flush t = true → t.val = 27 := (by decide +kernel : ∀ t : Fin grid0.N, _)

theorem after5 (c : Dev nD) (after : (w : Fin cfg0.W) → Fin cfg0.N → (cfg0.win w).block.Idx → Elt Ideal (cfg0.win w).elt)
    (hL : ∀ t, (cfg0.win 5).flush t = true → (rdatV m c).Leaves 5 t (after 5 t)) :
    ((rdatV m c).withAfter after).arrAt 5 cfg0.N = dxA (A0 m c) (A3 m c) (A4 m c) := by
  refine ((rdatV m c).withAfter after).arrAt_eq_of_covers 5 _ (by decide +kernel) fun t hf y => ?_
  obtain ⟨Y, -, hX⟩ := hL t hf
  have hX : after 5 t = dxT (accA m c 28) := hX (flush5 t hf)
  have e : ((rdatV m c).withAfter after).after 5 t = dxA (A0 m c) (A3 m c) (A4 m c) := hX.trans (accA_last m c)
  generalize dxA (A0 m c) (A3 m c) (A4 m c) = D at e ⊢
  rw [e]
  have e0 : ((cfg0.win 5).blk t).view.emb y = (ix2 (y 0) (y 1) : S128x4096.Idx) := by
    refine (eq_ix2 (n0 := 128) (n1 := 4096) _).trans ?_
    congr 1
    · refine Fin.ext ?_
      blk_simp [index5]
    · refine Fin.ext ?_
      blk_simp [index5]
  rw [e0]
  exact congrArg D (eq_ix2 (n0 := 128) (n1 := 4096) y)

end Cert.KernelIdeal.Val

end
-- ==== Proof.KIOut.lean ====
module

public import proofs.«01_k».proof.Proof.KITail

/-! The packed codes and scale bytes of `KernelIdeal` over the extended reals, each element a function of the gradient. -/

@[expose] public section

set_option backward.isDefEq.respectTransparency.types false
set_option maxRecDepth 8000

noncomputable section

namespace Cert.KernelIdeal.Val

open Cert.KernelIdeal Cert.KernelIdeal.Gen Cert.KernelIdeal.Body Cert.Quant
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

theorem index7 : ∀ t : Fin cfg0.N, win0_7.index t = ![0, t.val] := (by decide +kernel : ∀ t : Fin grid0.N, _)
theorem index9 : ∀ t : Fin cfg0.N, win0_9.index t = ![0, t.val] := (by decide +kernel : ∀ t : Fin grid0.N, _)
theorem index10 : ∀ t : Fin cfg0.N, win0_10.index t = ![0, t.val] := (by decide +kernel : ∀ t : Fin grid0.N, _)

/-- A grid step's block at a row and a column, whichever way the two are written. -/
theorem iblk_at (c : Dev nD) (t : Fin cfg0.N) (a b : Fin 128) (n : Fin 512) (k : Fin 14336) (h0 : a.val = b.val) (h1 : 512 * t.val + n.val = k.val) :
    iblk m c 0 t (ix2 a n) = A0 m c (ix2 b k) := by
  obtain rfl := Fin.ext h0
  exact (iblk0 m c t (ix2 a n)).trans (congrArg (fun z => A0 m c (ix2 a z)) (Fin.ext h1))

theorem cmax_iblk (c : Dev nD) (t : Fin cfg0.N) (b b' : Fin 4) (n : Fin 512) (k : Fin 14336) (h0 : b.val = b'.val) (h1 : 512 * t.val + n.val = k.val) :
    cmax (blk (iblk m c 0 t) b) n = cmaxA (A0 m c) b' k := by
  obtain rfl := Fin.ext h0
  exact Finset.fold_congr fun i _ => congrArg (fun z : EReal => max z (-z)) (iblk_at m c t _ _ n k rfl h1)

/-! ### The column scales -/

/-- The scale bytes of all columns' blocks. -/
def csA (X : S128x14336.Idx → EReal) : S4x14336.Idx → BitVec 8 := fun j => (kexp (cmaxA X (j 0) (j 1))).setWidth 8

theorem csF_iblk (c : Dev nD) (t : Fin cfg0.N) (b : Fin 4) (n : Fin 512) :
    csF (iblk m c 0 t) (ix2 b n) = csA (A0 m c) (ix2 b ⟨512 * t.val + n.val, by have := N28 t; omega⟩) :=
  congrArg (fun z => (kexp z).setWidth 8) (cmax_iblk m c t b b n _ rfl rfl)

theorem after10 (c : Dev nD) (after : (w : Fin cfg0.W) → Fin cfg0.N → (cfg0.win w).block.Idx → Elt Ideal (cfg0.win w).elt)
    (hL : ∀ t, (cfg0.win 10).flush t = true → (rdatV m c).Leaves 10 t (after 10 t)) :
    ((rdatV m c).withAfter after).arrAt 10 cfg0.N = csA (A0 m c) := by
  refine ((rdatV m c).withAfter after).arrAt_eq_of_covers 10 _ (by decide +kernel) fun t hf y => ?_
  obtain ⟨Y, -, hX⟩ := hL t hf
  have e : ((rdatV m c).withAfter after).after 10 t = csF (iblk m c 0 t) := hX
  have l1 : (y 1).val < 512 := (y 1).isLt
  have ht := N28 t
  rw [e]
  have e0 : ((cfg0.win 10).blk t).view.emb y = (ix2 (y 0) ⟨512 * t.val + (y 1).val, by omega⟩ : S4x14336.Idx) := by
    refine (eq_ix2 (n0 := 4) (n1 := 14336) _).trans ?_
    congr 1
    · refine Fin.ext ?_
      blk_simp [index10]
    · refine Fin.ext (Eq.trans ?_ (Nat.add_comm (t.val * 512) _ |>.trans (by rw [Nat.mul_comm, Nat.add_comm])))
      blk_simp [index10]
  rw [e0]
  exact (congrArg _ (eq_ix2 (n0 := 4) (n1 := 512) y)).trans (csF_iblk m c t (y 0) (y 1))

/-! ### The row codes -/

/-- The sixteen bits of an element's rounded quotient, quantised along its row. -/
def rkA (X : S128x14336.Idx → EReal) (r : Fin 128) (n : Fin 14336) : BitVec 16 := k16 (X (ix2 r n)) (rmaxA X r ⟨n.val / 32, by omega⟩)

/-- The packed row codes. -/
def rcA (X : S128x14336.Idx → EReal) : S64x14336.Idx → BitVec 8 := fun j =>
  rcb (wd (rkA X ⟨2 * (j 0).val, by have := idx2_lt0 j; omega⟩ (j 1)) (rkA X ⟨2 * (j 0).val + 1, by have := idx2_lt0 j; omega⟩ (j 1))
    (s16 (X (ix2 ⟨2 * (j 0).val, by have := idx2_lt0 j; omega⟩ (j 1)))) (s16 (X (ix2 ⟨2 * (j 0).val + 1, by have := idx2_lt0 j; omega⟩ (j 1)))))

theorem gk16_iblk (c : Dev nD) (t : Fin cfg0.N) (r : Fin 128) (n : Fin 512) :
    gk16 (iblk m c 0 t) r n = rkA (A0 m c) r ⟨512 * t.val + n.val, by have := N28 t; omega⟩ := by
  refine congrArg₂ k16 (iblk_at m c t r r n _ rfl rfl) (Finset.fold_congr fun k _ => ?_)
  refine congrArg (fun z : EReal => max z (-z)) (iblk_at m c t r r _ _ rfl ?_)
  show 512 * t.val + (32 * (n.val / 32) + k.val) = 32 * ((512 * t.val + n.val) / 32) + k.val
  omega

theorem rcF_iblk (c : Dev nD) (t : Fin cfg0.N) (p : Fin 64) (n : Fin 512) :
    rcF (iblk m c 0 t) (ix2 p n) = rcA (A0 m c) (ix2 p ⟨512 * t.val + n.val, by have := N28 t; omega⟩) := by
  unfold rcF rcA
  refine congrArg rcb ?_
  exact congr (congr (congrArg₂ wd (gk16_iblk m c t _ n) (gk16_iblk m c t _ n)) (congrArg s16 (iblk_at m c t _ _ n _ rfl rfl))) (congrArg s16 (iblk_at m c t _ _ n _ rfl rfl))

theorem after7 (c : Dev nD) (after : (w : Fin cfg0.W) → Fin cfg0.N → (cfg0.win w).block.Idx → Elt Ideal (cfg0.win w).elt)
    (hL : ∀ t, (cfg0.win 7).flush t = true → (rdatV m c).Leaves 7 t (after 7 t)) :
    ((rdatV m c).withAfter after).arrAt 7 cfg0.N = rcA (A0 m c) := by
  refine ((rdatV m c).withAfter after).arrAt_eq_of_covers 7 _ (by decide +kernel) fun t hf y => ?_
  obtain ⟨Y, -, hX⟩ := hL t hf
  have e : ((rdatV m c).withAfter after).after 7 t = rcF (iblk m c 0 t) := hX
  have l1 : (y 1).val < 512 := (y 1).isLt
  have ht := N28 t
  rw [e]
  have e0 : ((cfg0.win 7).blk t).view.emb y = (ix2 (y 0) ⟨512 * t.val + (y 1).val, by omega⟩ : S64x14336.Idx) := by
    refine (eq_ix2 (n0 := 64) (n1 := 14336) _).trans ?_
    congr 1
    · refine Fin.ext ?_
      blk_simp [index7]
    · refine Fin.ext (Eq.trans ?_ (Nat.add_comm (t.val * 512) _ |>.trans (by rw [Nat.mul_comm, Nat.add_comm])))
      blk_simp [index7]
  rw [e0]
  exact (congrArg _ (eq_ix2 (n0 := 64) (n1 := 512) y)).trans (rcF_iblk m c t (y 0) (y 1))

/-! ### The column codes -/

/-- The sixteen bits of an element's rounded quotient, quantised along its column. -/
def ckA (X : S128x14336.Idx → EReal) (r : Fin 128) (n : Fin 14336) : BitVec 16 := k16 (X (ix2 r n)) (cmaxA X ⟨r.val / 32, by omega⟩ n)

/-- The column codes as floats. -/
def cfA (X : S128x14336.Idx → EReal) (r : Fin 128) (n : Fin 14336) : EReal :=
  cfl (r.val % 2) (wd (ckA X ⟨2 * (r.val / 2), by omega⟩ n) (ckA X ⟨2 * (r.val / 2) + 1, by omega⟩ n)
    (s16 (X (ix2 ⟨2 * (r.val / 2), by omega⟩ n))) (s16 (X (ix2 ⟨2 * (r.val / 2) + 1, by omega⟩ n))))

/-- The packed column codes. -/
def ccA (X : S128x14336.Idx → EReal) : S128x7168.Idx → BitVec 8 := fun j =>
  ccb (cfA X (j 0) ⟨2 * (j 1).val, by have := idx2_lt1 j; omega⟩) (cfA X (j 0) ⟨2 * (j 1).val + 1, by have := idx2_lt1 j; omega⟩)

theorem ck16_iblk (c : Dev nD) (t : Fin cfg0.N) (b : Fin 4) (i : Fin 32) (r : Fin 128) (n : Fin 512) (k : Fin 14336)
    (h0 : 32 * b.val + i.val = r.val) (h1 : 512 * t.val + n.val = k.val) : ck16 (blk (iblk m c 0 t) b) i n = ckA (A0 m c) r k :=
  congrArg₂ k16 (iblk_at m c t _ _ n k h0 h1) (cmax_iblk m c t b _ n k (by show b.val = r.val / 32; omega) h1)

theorem cF_iblk (c : Dev nD) (t : Fin cfg0.N) (r : Fin 128) (n : Fin 512) (k : Fin 14336) (h1 : 512 * t.val + n.val = k.val) :
    cF (iblk m c 0 t) r n = cfA (A0 m c) r k := by
  unfold cF cfA
  rw [ccPart_apply]
  have hr : 32 * (r.val / 32) + 2 * (r.val % 32 / 2) = 2 * (r.val / 2) := by omega
  have hq : r.val % 32 % 2 = r.val % 2 := by omega
  refine congrArg₂ cfl hq ?_
  refine congr (congr (congrArg₂ wd (ck16_iblk m c t _ _ _ n k hr h1) (ck16_iblk m c t _ _ _ n k ?_ h1)) (congrArg s16 (iblk_at m c t _ _ n k hr h1))) (congrArg s16 (iblk_at m c t _ _ n k ?_ h1))
  · show 32 * (r.val / 32) + (2 * (r.val % 32 / 2) + 1) = 2 * (r.val / 2) + 1
    omega
  · show 32 * (r.val / 32) + (2 * (r.val % 32 / 2) + 1) = 2 * (r.val / 2) + 1
    omega

theorem ccF_iblk (c : Dev nD) (t : Fin cfg0.N) (r : Fin 128) (d : Fin 256) :
    ccF (iblk m c 0 t) (ix2 r d) = ccA (A0 m c) (ix2 r ⟨256 * t.val + d.val, by have := N28 t; omega⟩) :=
  congrArg₂ ccb (cF_iblk m c t r _ _ (by show 512 * t.val + 2 * d.val = 2 * (256 * t.val + d.val); omega))
    (cF_iblk m c t r _ _ (by show 512 * t.val + (2 * d.val + 1) = 2 * (256 * t.val + d.val) + 1; omega))

theorem after9 (c : Dev nD) (after : (w : Fin cfg0.W) → Fin cfg0.N → (cfg0.win w).block.Idx → Elt Ideal (cfg0.win w).elt)
    (hL : ∀ t, (cfg0.win 9).flush t = true → (rdatV m c).Leaves 9 t (after 9 t)) :
    ((rdatV m c).withAfter after).arrAt 9 cfg0.N = ccA (A0 m c) := by
  refine ((rdatV m c).withAfter after).arrAt_eq_of_covers 9 _ (by decide +kernel) fun t hf y => ?_
  obtain ⟨Y, -, hX⟩ := hL t hf
  have e : ((rdatV m c).withAfter after).after 9 t = ccF (iblk m c 0 t) := hX
  have l1 : (y 1).val < 256 := (y 1).isLt
  have ht := N28 t
  rw [e]
  have e0 : ((cfg0.win 9).blk t).view.emb y = (ix2 (y 0) ⟨256 * t.val + (y 1).val, by omega⟩ : S128x7168.Idx) := by
    refine (eq_ix2 (n0 := 128) (n1 := 7168) _).trans ?_
    congr 1
    · refine Fin.ext ?_
      blk_simp [index9]
    · refine Fin.ext (Eq.trans ?_ (Nat.add_comm (t.val * 256) _ |>.trans (by rw [Nat.mul_comm, Nat.add_comm])))
      blk_simp [index9]
  rw [e0]
  exact (congrArg _ (eq_ix2 (n0 := 128) (n1 := 256) y)).trans (ccF_iblk m c t (y 0) (y 1))

/-! ### The row scales -/

/-- The scale bytes of all rows' blocks. -/
def rsO (X : S128x14336.Idx → EReal) : S128x448.Idx → BitVec 8 := fun j => (kexp (rmaxA X (j 0) (j 1))).setWidth 8

theorem rsB_iblk (c : Dev nD) (t : Fin cfg0.N) (r : Fin 128) (q : ℕ) (hq : q < 16) (b : Fin 448) (hb : b.val = 16 * t.val + q) :
    rsB (iblk m c 0 t) r q = kscale (rmaxA (A0 m c) r b) := by
  refine congrArg kscale (Finset.fold_congr fun k _ => ?_)
  refine congrArg (fun z : EReal => max z (-z)) (iblk_at m c t r r _ _ rfl ?_)
  have hk := k.isLt
  show 512 * t.val + (32 * q + k.val) % 512 = 32 * b.val + k.val
  omega

/-- The row scales of the steps before `n`, and zeros. -/
theorem rsA_eq (c : Dev nD) (y : S128x512.Idx) (b : Fin 448) (hb : b.val = (y 1).val) : ∀ (n : ℕ) (hn : n ≤ 28),
    rsA m c n y = if (y 1).val < 16 * n then kscale (rmaxA (A0 m c) (y 0) b) else 0
  | 0, _ => (if_neg (by omega)).symm
  | n + 1, hn => by
    have hN : n < cfg0.N := hn
    refine (congrFun (rsA_succ m c ⟨n, hN⟩) y).trans ?_
    unfold stepS
    show rsA m c n y + (if 16 * n ≤ (y 1).val ∧ (y 1).val < 16 * n + 16 then rsB (iblk m c 0 ⟨n, hN⟩) (y 0) ((y 1).val - 16 * n) else 0) = _
    rw [rsA_eq c y b hb n (Nat.le_of_succ_le hn)]
    by_cases h0 : (y 1).val < 16 * n
    · rw [if_pos h0, if_neg (by omega), if_pos (by omega), add_zero]
    by_cases h1 : (y 1).val < 16 * n + 16
    · rw [if_neg h0, if_pos (by omega), if_pos (by omega), zero_add]
      exact rsB_iblk m c ⟨n, hN⟩ (y 0) _ (by omega) b (by show b.val = 16 * n + ((y 1).val - 16 * n); omega)
    · rw [if_neg h0, if_neg (by omega), if_neg (by omega), add_zero]

theorem rsA_last (c : Dev nD) : rsE (rsA m c 28) = rsO (A0 m c) := by
  funext j
  have l1 := idx2_lt1 j
  unfold rsE rsO kexp
  rw [rsA_eq m c (ix2 (j 0) ⟨(j 1).val, by omega⟩) (j 1) rfl 28 le_rfl]
  rw [if_pos (show (j 1).val < 16 * 28 by omega)]

theorem index8 : ∀ t : Fin cfg0.N, win0_8.index t = ![0, 0] := (by decide +kernel : ∀ t : Fin grid0.N, _)
theorem flush8 : ∀ t : Fin cfg0.N, (cfg0.win 8).flush t = true → t.val = 27 := (by decide +kernel : ∀ t : Fin grid0.N, _)

theorem after8 (c : Dev nD) (after : (w : Fin cfg0.W) → Fin cfg0.N → (cfg0.win w).block.Idx → Elt Ideal (cfg0.win w).elt)
    (hL : ∀ t, (cfg0.win 8).flush t = true → (rdatV m c).Leaves 8 t (after 8 t)) :
    ((rdatV m c).withAfter after).arrAt 8 cfg0.N = rsO (A0 m c) := by
  refine ((rdatV m c).withAfter after).arrAt_eq_of_covers 8 _ (by decide +kernel) fun t hf y => ?_
  obtain ⟨Y, -, hX⟩ := hL t hf
  have hX : after 8 t = rsE (rsA m c 28) := hX (flush8 t hf)
  have e : ((rdatV m c).withAfter after).after 8 t = rsO (A0 m c) := hX.trans (rsA_last m c)
  generalize rsO (A0 m c) = D at e ⊢
  rw [e]
  have e0 : ((cfg0.win 8).blk t).view.emb y = (ix2 (y 0) (y 1) : S128x448.Idx) := by
    refine (eq_ix2 (n0 := 128) (n1 := 448) _).trans ?_
    congr 1
    · refine Fin.ext ?_
      blk_simp [index8]
    · refine Fin.ext ?_
      blk_simp [index8]
  rw [e0]
  exact congrArg D (eq_ix2 (n0 := 128) (n1 := 448) y)

end Cert.KernelIdeal.Val

end
-- ==== Proof.RCol.lean ====
module

public import proofs.«01_k».proof.Proof.Gen.ReferenceIdeal.Value
public import proofs.«01_k».proof.Proof.Quant
public import Idealize.ShloMosaic.Lib.ValueIdx
public import Idealize.ShloMosaic.Lib.Pipeline.Value

/-! The reference's quantisation along columns and its weight gradient, read at an index over the extended reals. -/

@[expose] public section

set_option backward.isDefEq.respectTransparency.types false
set_option maxRecDepth 8000

noncomputable section

namespace Cert.ReferenceIdeal.Val

open Idealize.ShloMosaic Idealize.ShloMosaic.ValueIdx Cert.ReferenceIdeal Cert.ReferenceIdeal.Gen Cert.Quant

theorem named_log2e : Named.named (F := Ideal) κ "log2e" (φ := .f32) 0x3FB8AA3B#32 = L2 := by
  show (κ "log2e").getD _ = _
  rw [show κ "log2e" = some L2 from rfl]
  rfl

/-- The gradient without its leading unit axis. -/
def dy2 (a : S1x128x14336.Idx → EReal) : S128x14336.Idx → EReal := fun j => a (ix3 0 (j 0) (j 1))

theorem pay5_eq (a : FVec Ideal S1x128x14336 .bf16) : k0_pay5 (F := Ideal) a = dy2 a := by
  funext j
  refine shapeCast_apply a shapeCasts_S1x128x14336_S128x14336 j (ix3 0 (j 0) (j 1)) ?_
  rw [Shape.rowMajor_val_three, Shape.rowMajor_val_two]
  simp

/-- The greatest magnitude of column `n`'s block of 32 rows. -/
def rmax (X : S128x14336.Idx → EReal) (b : Fin 4) (n : Fin 14336) : EReal :=
  (Finset.univ : Finset (Fin 32)).fold max ⊥ (fun k => max (X (ix2 ⟨32 * b.val + k.val, by omega⟩ n)) (-(X (ix2 ⟨32 * b.val + k.val, by omega⟩ n))))

/-- The block of a row. -/
def rb (j : S128x14336.Idx) : Fin 4 := ⟨(j 0).val / 32, by have := idx2_lt0 j; omega⟩

theorem pay16_apply (X : FVec Ideal S128x14336 .f32) (b : Fin 4) (k : Fin 32) (n : Fin 14336) :
    k0_pay16 (F := Ideal) X (ix3 b k n) = X (ix2 ⟨32 * b.val + k.val, by omega⟩ n) := by
  refine shapeCast_apply X shapeCasts_S128x14336_S4x32x14336 _ (ix2 ⟨32 * b.val + k.val, by omega⟩ n) ?_
  rw [Shape.rowMajor_val_three, Shape.rowMajor_val_two]
  show (32 * b.val + k.val) * 14336 + n.val = (b.val * 32 + k.val) * 14336 + n.val
  omega

/-- Each block's greatest magnitude, as the reference computes it. -/
def rM (X : FVec Ideal S128x14336 .f32) : FVec Ideal S4x1x14336 .f32 :=
  shapeCast S4x1x14336 (multiReduction .maximumf [1] S4x14336 (absf (k0_pay16 (F := Ideal) X)) 0xFF800000#32 reduces_S4x32x14336_S4x14336 (.inl rfl) rfl)
    shapeCasts_S4x14336_S4x1x14336

theorem rM_apply (X : FVec Ideal S128x14336 .f32) (b : Fin 4) (n : Fin 14336) : rM X (ix3 b 0 n) = rmax X b n := by
  unfold rM
  refine (shapeCast_apply _ _ _ (ix2 b n) (by rw [Shape.rowMajor_val_three, Shape.rowMajor_val_two]; show b.val * 14336 + n.val = (b.val * 1 + 0) * 14336 + n.val; omega)).trans ?_
  refine (Ideal.multiReduction_maximumf_single _ _ _ _ _ _).trans ?_
  show Finset.fold max (Ideal.ofBits .f32 0xFF800000#32) _ _ = _
  rw [c_bot]
  unfold rmax
  congr 1
  funext k
  have : reduces_S4x32x14336_S4x14336.lift (ix2 b n) k = ix3 b k n := by
    funext a; match a with | 0 => rfl | 1 => rfl | 2 => rfl
  exact congrArg (fun z : EReal => max z (-z)) ((congrArg (k0_pay16 (F := Ideal) X) this).trans (pay16_apply X b k n))

/-- The block exponents at an array of greatest magnitudes, as the reference computes them. -/
def rE (M : FVec Ideal S4x1x14336 .f32) : IVec S4x1x14336 32 :=
  select (cmpf .oeq M (broadcast S4x1x14336 (Scalar.ofBits .f32 0x00000000#32))) (broadcast S4x1x14336 0#32)
    (addi (fptosi 32 (floor (mulf (log (divf (mulf M (broadcast S4x1x14336 (Scalar.ofBits .f32 0x3F800800#32))) (broadcast S4x1x14336 (Scalar.ofBits .f32 0x40C00000#32))))
      (broadcast S4x1x14336 L2)))) (broadcast S4x1x14336 1#32))

theorem rE_apply (M : FVec Ideal S4x1x14336 .f32) (i : S4x1x14336.Idx) : rE M i = rexp (M i) := rfl

theorem pay17_eq (X : FVec Ideal S128x14336 .f32) : k0_pay17 (F := Ideal) X = rE (rM X) := by
  unfold k0_pay17
  rw [named_log2e]
  rfl

theorem pay17_apply (X : FVec Ideal S128x14336 .f32) (b : Fin 4) (n : Fin 14336) : k0_pay17 (F := Ideal) X (ix3 b 0 n) = rexp (rmax X b n) := by
  rw [pay17_eq, rE_apply, rM_apply]

theorem pay18_apply (X : FVec Ideal S128x14336 .f32) (j : S128x14336.Idx) : k0_pay18 (F := Ideal) X j = ry (X j) (rmax X (rb j) (j 1)) := by
  have l0 := idx2_lt0 j
  unfold k0_pay18
  refine (shapeCast_apply _ shapeCasts_S4x32x14336_S128x14336 j (ix3 (rb j) ⟨(j 0).val % 32, by omega⟩ (j 1)) ?_).trans ?_
  · rw [Shape.rowMajor_val_three, Shape.rowMajor_val_two]
    show ((j 0).val / 32 * 32 + (j 0).val % 32) * 14336 + (j 1).val = (j 0).val * 14336 + (j 1).val
    omega
  · have e : k0_pay16 (F := Ideal) X (ix3 (rb j) ⟨(j 0).val % 32, by omega⟩ (j 1)) = X j := by
      rw [pay16_apply]
      refine congrArg X (Eq.trans ?_ (eq_ix2 j).symm)
      refine congrArg (fun z => ix2 z (j 1)) (Fin.ext ?_)
      show 32 * ((j 0).val / 32) + (j 0).val % 32 = (j 0).val
      omega
    show min (max (k0_pay16 (F := Ideal) X _) (-(k0_pay16 (F := Ideal) X _)) * broadcastTo S4x32x14336 _ broadcasts_S4x1x14336_S4x32x14336 _) _ = _
    rw [e]
    unfold ry
    refine congrArg (fun z => min (max (X j) (-(X j)) * z) (Ideal.ofBits .f32 0x40C00000#32)) ?_
    refine (broadcastTo_apply (s := S4x1x14336) (t := S4x32x14336) _ _ _ (ix3 (n0 := 4) (n1 := 1) (n2 := 14336) (rb j) 0 (j 1)) (by intro a; match a with | 0 => rfl | 1 => rfl | 2 => rfl)).trans ?_
    show Ideal.exp2 (((0#32 - k0_pay17 (F := Ideal) X (ix3 (rb j) 0 (j 1))).toInt : ℝ) : EReal) = _
    rw [pay17_apply]

theorem pay20_apply (X : FVec Ideal S128x14336 .f32) (j : S128x14336.Idx) :
    k0_pay20 (F := Ideal) X (k0_pay18 (F := Ideal) X) (k0_pay19 (F := Ideal) X) j = rnib (X j) (rmax X (rb j) (j 1)) := by
  unfold rnib
  rw [← pay18_apply]
  rfl

theorem pay21_apply (X : FVec Ideal S128x14336 .f32) (b : Fin 4) (n : Fin 14336) :
    k0_pay21 (k0_pay17 (F := Ideal) X) (ix2 b n) = rexp (rmax X b n) + 127#32 := by
  unfold k0_pay21
  refine congrArg (fun z : BitVec 32 => z + 127#32) ((shapeCast_apply _ shapeCasts_S4x1x14336_S4x14336 _ (ix3 b 0 n) ?_).trans (pay17_apply X b n))
  rw [Shape.rowMajor_val_three, Shape.rowMajor_val_two]
  show (b.val * 1 + 0) * 14336 + n.val = b.val * 14336 + n.val
  omega

theorem pay26_apply (q : IVec S128x14336 32) (b : Fin 4) (k : Fin 32) (n : Fin 14336) :
    k0_pay26 (F := Ideal) q (ix3 b k n) = rdec (q (ix2 ⟨32 * b.val + k.val, by omega⟩ n)) := by
  unfold k0_pay26
  refine (shapeCast_apply _ shapeCasts_S128x14336_S4x32x14336 _ (ix2 ⟨32 * b.val + k.val, by omega⟩ n) ?_).trans rfl
  rw [Shape.rowMajor_val_three, Shape.rowMajor_val_two]
  show (32 * b.val + k.val) * 14336 + n.val = (b.val * 32 + k.val) * 14336 + n.val
  omega

/-- The gradient quantised along its columns and decoded again. -/
def rgcol (X : S128x14336.Idx → EReal) : S128x14336.Idx → EReal := fun j => rg (X j) (rmax X (rb j) (j 1))

/-- The decoded activations: each element times its block's scale. -/
def rx (x : S1x128x4096.Idx → EReal) (s : S1x4x4096.Idx → BitVec 8) : S128x4096.Idx → EReal := fun j =>
  x (ix3 0 (j 0) (j 1)) * rsc ((s (ix3 0 ⟨(j 0).val / 32, by have := idx2_lt0 j; omega⟩ (j 1))).setWidth 32)

/-- The decoded gradient, as the reference computes it. -/
def rG (X : FVec Ideal S128x14336 .f32) : FVec Ideal S128x14336 .bf16 :=
  shapeCast S128x14336 (mulf (k0_pay26 (F := Ideal) (k0_pay20 (F := Ideal) X (k0_pay18 (F := Ideal) X) (k0_pay19 (F := Ideal) X)))
    (broadcastTo S4x32x14336 (shapeCast S4x1x14336 (k0_pay25 (F := Ideal) (k0_pay21 (k0_pay17 (F := Ideal) X))) shapeCasts_S4x14336_S4x1x14336)
      broadcasts_S4x1x14336_S4x32x14336)) shapeCasts_S4x32x14336_S128x14336

theorem rG_apply (X : FVec Ideal S128x14336 .f32) (j : S128x14336.Idx) : rG X j = rgcol X j := by
  have l0 := idx2_lt0 j
  unfold rG
  refine (shapeCast_apply _ shapeCasts_S4x32x14336_S128x14336 j (ix3 (rb j) ⟨(j 0).val % 32, by omega⟩ (j 1)) ?_).trans ?_
  · rw [Shape.rowMajor_val_three, Shape.rowMajor_val_two]
    show ((j 0).val / 32 * 32 + (j 0).val % 32) * 14336 + (j 1).val = (j 0).val * 14336 + (j 1).val
    omega
  rw [mulf_apply]
  unfold rgcol rg
  refine congrArg₂ (fun a b : EReal => a * b) ?_ ?_
  · rw [pay26_apply, pay20_apply]
    have e : (ix2 ⟨32 * (rb j).val + (j 0).val % 32, by have := (rb j).isLt; omega⟩ (j 1) : S128x14336.Idx) = j := by
      refine Eq.trans ?_ (eq_ix2 j).symm
      refine congrArg (fun z => ix2 z (j 1)) (Fin.ext ?_)
      show 32 * ((j 0).val / 32) + (j 0).val % 32 = (j 0).val
      omega
    exact congrArg (fun z => rdec (rnib (X z) (rmax X (rb z) (z 1)))) e
  · refine (broadcastTo_apply (s := S4x1x14336) (t := S4x32x14336) _ _ _ (ix3 (n0 := 4) (n1 := 1) (n2 := 14336) (rb j) 0 (j 1)) (by intro a; match a with | 0 => rfl | 1 => rfl | 2 => rfl)).trans ?_
    refine (shapeCast_apply _ _ _ (ix2 (rb j) (j 1)) (by rw [Shape.rowMajor_val_three, Shape.rowMajor_val_two]; show (rb j).val * 14336 + (j 1).val = ((rb j).val * 1 + 0) * 14336 + (j 1).val; omega)).trans ?_
    exact congrArg rsc (pay21_apply X (rb j) (j 1))

/-- The decoded activations, as the reference computes them. -/
def rX (x : FVec Ideal S1x128x4096 .fp8e4m3) (s : IVec S1x4x4096 8) : FVec Ideal S128x4096 .bf16 :=
  shapeCast S128x4096 (mulf (shapeCast S4x32x4096 (extf .bf16 (shapeCast S128x4096 x shapeCasts_S1x128x4096_S128x4096) bitsLt_fp8e4m3_bf16) shapeCasts_S128x4096_S4x32x4096)
    (broadcastTo S4x32x4096 (shapeCast S4x1x4096 (truncf .bf16 (exp2 (sitofp .f32 (subi (extui 32 (shapeCast S4x4096 s shapeCasts_S1x4x4096_S4x4096) natLt_8_32)
      (broadcast S4x4096 127#32)))) bitsLt_bf16_f32) shapeCasts_S4x4096_S4x1x4096) broadcasts_S4x1x4096_S4x32x4096)) shapeCasts_S4x32x4096_S128x4096

theorem rX_apply (x : FVec Ideal S1x128x4096 .fp8e4m3) (s : IVec S1x4x4096 8) (j : S128x4096.Idx) : rX x s j = rx x s j := by
  have l0 := idx2_lt0 j
  unfold rX
  refine (shapeCast_apply _ shapeCasts_S4x32x4096_S128x4096 j (ix3 ⟨(j 0).val / 32, by omega⟩ ⟨(j 0).val % 32, by omega⟩ (j 1)) ?_).trans ?_
  · rw [Shape.rowMajor_val_three, Shape.rowMajor_val_two]
    show ((j 0).val / 32 * 32 + (j 0).val % 32) * 4096 + (j 1).val = (j 0).val * 4096 + (j 1).val
    omega
  rw [mulf_apply]
  unfold rx
  refine congrArg₂ (fun a b : EReal => a * b) ?_ ?_
  · refine (shapeCast_apply _ _ _ j ?_).trans ?_
    · rw [Shape.rowMajor_val_three, Shape.rowMajor_val_two]
      show (j 0).val * 4096 + (j 1).val = ((j 0).val / 32 * 32 + (j 0).val % 32) * 4096 + (j 1).val
      omega
    refine shapeCast_apply x shapeCasts_S1x128x4096_S128x4096 j (ix3 0 (j 0) (j 1)) ?_
    rw [Shape.rowMajor_val_three, Shape.rowMajor_val_two]
    simp
  · refine (broadcastTo_apply (s := S4x1x4096) (t := S4x32x4096) _ _ _ (ix3 (n0 := 4) (n1 := 1) (n2 := 4096) ⟨(j 0).val / 32, by omega⟩ 0 (j 1)) (by intro a; match a with | 0 => rfl | 1 => rfl | 2 => rfl)).trans ?_
    refine (shapeCast_apply _ _ _ (ix2 ⟨(j 0).val / 32, by omega⟩ (j 1)) (by rw [Shape.rowMajor_val_three, Shape.rowMajor_val_two]; show (j 0).val / 32 * 4096 + (j 1).val = ((j 0).val / 32 * 1 + 0) * 4096 + (j 1).val; omega)).trans ?_
    refine congrArg (fun z : BitVec 8 => rsc (z.setWidth 32)) (shapeCast_apply s shapeCasts_S1x4x4096_S4x4096 _ (ix3 0 ⟨(j 0).val / 32, by omega⟩ (j 1)) ?_)
    rw [Shape.rowMajor_val_three, Shape.rowMajor_val_two]
    simp

/-- The weight gradient: the decoded activations, transposed, times the decoded gradient. -/
def rdw (a : S1x128x14336.Idx → EReal) (x : S1x128x4096.Idx → EReal) (s : S1x4x4096.Idx → BitVec 8) : S4096x14336.Idx → EReal := fun j =>
  ∑ r : Fin 128, rx x s (ix2 r (j 0)) * rgcol (dy2 a) (ix2 r (j 1))

theorem mm_rdw (A : FVec Ideal S128x4096 .bf16) (B : FVec Ideal S128x14336 .bf16) (j : S4096x14336.Idx) :
    matmul (F := Ideal) dot_S128x4096_S128x14336_S4096x14336_0_0_1_1_n_n none A B (constant (F := Ideal) S4096x14336 .f32 0x00000000#32) j
      = ∑ s : Fin 128, A (ix2 s (j 0)) * B (ix2 s (j 1)) := by
  refine (Ideal.matmul_constant_zero_apply dot_S128x4096_S128x14336_S4096x14336_0_0_1_1_n_n none A B j).trans ?_
  refine (Equiv.sum_comp (contrEquiv1 dot_S128x4096_S128x14336_S4096x14336_0_0_1_1_n_n 128 rfl rfl).symm (fun k' => A (dot_S128x4096_S128x14336_S4096x14336_0_0_1_1_n_n.lhsIdx j k') * B (dot_S128x4096_S128x14336_S4096x14336_0_0_1_1_n_n.rhsIdx j k'))).symm.trans ?_
  refine Finset.sum_congr rfl fun s _ => ?_
  congr 2
  · funext a; match a with | 0 => rfl | 1 => rfl
  · funext a; match a with | 0 => rfl | 1 => rfl

/-- The reference's second result. -/
theorem G6_eq (a : FVec Ideal S1x128x14336 .bf16) (x : FVec Ideal S1x128x4096 .fp8e4m3) (s : IVec S1x4x4096 8) (w : FVec Ideal S4096x14336 .fp8e4m3) (ws : IVec S4096x448 8) :
    Value.G6 (F := Ideal) a x s w ws = rdw a x s := by
  funext j
  show k0_pay28 (F := Ideal) (k0_pay25 (F := Ideal) (k0_pay34 (F := Ideal) a x s w ws)) (k0_pay26 (F := Ideal) (k0_pay33 (F := Ideal) a x s w ws)) x s j = _
  have h30 : k0_pay30 (F := Ideal) a x s w ws = dy2 a := by
    have e : View.ld (Val := Elt Ideal) (e' := .bf16) a r0_0 = a := View.ld_unit_zero (Val := Elt Ideal) (e := .bf16) (S := S1x128x14336) Value.hz0 inb_S1x128x14336_S1x128x14336_0_0_0 a
    unfold k0_pay30
    rw [e]
    exact pay5_eq a
  unfold k0_pay34 k0_pay33
  rw [h30]
  refine (mm_rdw (rX x s) (rG (dy2 a)) j).trans ?_
  exact Finset.sum_congr rfl fun r _ => congrArg₂ (fun a b : EReal => a * b) (rX_apply x s _) (rG_apply (dy2 a) _)

end Cert.ReferenceIdeal.Val

end
-- ==== Proof.RRow.lean ====
module

public import proofs.«01_k».proof.Proof.RCol

/-! The reference's quantisation along rows and its input gradient, read at an index over the extended reals. -/

@[expose] public section

set_option backward.isDefEq.respectTransparency.types false
set_option maxRecDepth 8000

noncomputable section

namespace Cert.ReferenceIdeal.Val

open Idealize.ShloMosaic Idealize.ShloMosaic.ValueIdx Cert.ReferenceIdeal Cert.ReferenceIdeal.Gen Cert.Quant

/-- The greatest magnitude of row `s`'s block of 32 columns. -/
def rmaxr (X : S128x14336.Idx → EReal) (s : Fin 128) (b : Fin 448) : EReal :=
  (Finset.univ : Finset (Fin 32)).fold max ⊥ (fun k => max (X (ix2 s ⟨32 * b.val + k.val, by omega⟩)) (-(X (ix2 s ⟨32 * b.val + k.val, by omega⟩))))

/-- The block of a column. -/
def cb (j : S128x14336.Idx) : Fin 448 := ⟨(j 1).val / 32, by have := idx2_lt1 j; omega⟩

theorem blkcast_apply {e : Type} (X : S128x14336.Idx → e) (s : Fin 128) (b : Fin 448) (k : Fin 32) :
    shapeCast S128x448x32 X shapeCasts_S128x14336_S128x448x32 (ix3 s b k) = X (ix2 s ⟨32 * b.val + k.val, by omega⟩) := by
  refine shapeCast_apply X shapeCasts_S128x14336_S128x448x32 _ (ix2 s ⟨32 * b.val + k.val, by omega⟩) ?_
  rw [Shape.rowMajor_val_three, Shape.rowMajor_val_two]
  show s.val * 14336 + (32 * b.val + k.val) = (s.val * 448 + b.val) * 32 + k.val
  omega

theorem pay6_apply (a : FVec Ideal S1x128x14336 .bf16) (s : Fin 128) (b : Fin 448) (k : Fin 32) :
    k0_pay6 (F := Ideal) a (ix3 s b k) = dy2 a (ix2 s ⟨32 * b.val + k.val, by omega⟩) := by
  unfold k0_pay6
  rw [pay5_eq]
  exact blkcast_apply (dy2 a) s b k

/-- Each block's greatest magnitude, as the reference computes it. -/
def rMr (a : FVec Ideal S1x128x14336 .bf16) : FVec Ideal S128x448x1 .f32 :=
  shapeCast S128x448x1 (multiReduction .maximumf [2] S128x448 (absf (k0_pay6 (F := Ideal) a)) 0xFF800000#32 reduces_S128x448x32_S128x448 (.inl rfl) rfl)
    shapeCasts_S128x448_S128x448x1

theorem rMr_apply (a : FVec Ideal S1x128x14336 .bf16) (s : Fin 128) (b : Fin 448) : rMr a (ix3 s b 0) = rmaxr (dy2 a) s b := by
  unfold rMr
  refine (shapeCast_apply _ _ _ (ix2 s b) (by rw [Shape.rowMajor_val_three, Shape.rowMajor_val_two]; show s.val * 448 + b.val = (s.val * 448 + b.val) * 1 + 0; omega)).trans ?_
  refine (Ideal.multiReduction_maximumf_single _ _ _ _ _ _).trans ?_
  show Finset.fold max (Ideal.ofBits .f32 0xFF800000#32) _ _ = _
  rw [c_bot]
  unfold rmaxr
  congr 1
  funext k
  have : reduces_S128x448x32_S128x448.lift (ix2 s b) k = ix3 s b k := by
    funext a; match a with | 0 => rfl | 1 => rfl | 2 => rfl
  exact congrArg (fun z : EReal => max z (-z)) ((congrArg (k0_pay6 (F := Ideal) a) this).trans (pay6_apply a s b k))

/-- The block exponents at an array of greatest magnitudes, as the reference computes them. -/
def rEr (M : FVec Ideal S128x448x1 .f32) : IVec S128x448x1 32 :=
  select (cmpf .oeq M (broadcast S128x448x1 (Scalar.ofBits .f32 0x00000000#32))) (broadcast S128x448x1 0#32)
    (addi (fptosi 32 (floor (mulf (log (divf (mulf M (broadcast S128x448x1 (Scalar.ofBits .f32 0x3F800800#32))) (broadcast S128x448x1 (Scalar.ofBits .f32 0x40C00000#32))))
      (broadcast S128x448x1 L2)))) (broadcast S128x448x1 1#32))

theorem rEr_apply (M : FVec Ideal S128x448x1 .f32) (i : S128x448x1.Idx) : rEr M i = rexp (M i) := rfl

theorem pay7_eq (a : FVec Ideal S1x128x14336 .bf16) : k0_pay7 (F := Ideal) a = rEr (rMr a) := by
  unfold k0_pay7
  rw [named_log2e]
  rfl

theorem pay7_apply (a : FVec Ideal S1x128x14336 .bf16) (s : Fin 128) (b : Fin 448) : k0_pay7 (F := Ideal) a (ix3 s b 0) = rexp (rmaxr (dy2 a) s b) := by
  rw [pay7_eq, rEr_apply, rMr_apply]

theorem join_eq (j : S128x14336.Idx) : (ix2 (j 0) ⟨32 * (cb j).val + (j 1).val % 32, by have := (cb j).isLt; omega⟩ : S128x14336.Idx) = j := by
  refine Eq.trans ?_ (eq_ix2 j).symm
  refine congrArg (fun z => ix2 (j 0) z) (Fin.ext ?_)
  show 32 * ((j 1).val / 32) + (j 1).val % 32 = (j 1).val
  omega

theorem unblk_apply {e : Type} (X : S128x448x32.Idx → e) (j : S128x14336.Idx) :
    shapeCast S128x14336 X shapeCasts_S128x448x32_S128x14336 j = X (ix3 (j 0) (cb j) ⟨(j 1).val % 32, by omega⟩) := by
  have l1 := idx2_lt1 j
  refine shapeCast_apply X shapeCasts_S128x448x32_S128x14336 j (ix3 (j 0) (cb j) ⟨(j 1).val % 32, by omega⟩) ?_
  rw [Shape.rowMajor_val_three, Shape.rowMajor_val_two]
  show ((j 0).val * 448 + (j 1).val / 32) * 32 + (j 1).val % 32 = (j 0).val * 14336 + (j 1).val
  omega

theorem pay8_apply (a : FVec Ideal S1x128x14336 .bf16) (j : S128x14336.Idx) : k0_pay8 (F := Ideal) a j = ry (dy2 a j) (rmaxr (dy2 a) (j 0) (cb j)) := by
  unfold k0_pay8
  refine (unblk_apply _ j).trans ?_
  have e : k0_pay6 (F := Ideal) a (ix3 (j 0) (cb j) ⟨(j 1).val % 32, by omega⟩) = dy2 a j := by
    rw [pay6_apply]
    exact congrArg (dy2 a) (join_eq j)
  show min (max (k0_pay6 (F := Ideal) a _) (-(k0_pay6 (F := Ideal) a _)) * broadcastTo S128x448x32 _ broadcasts_S128x448x1_S128x448x32 _) _ = _
  rw [e]
  unfold ry
  refine congrArg (fun z => min (max (dy2 a j) (-(dy2 a j)) * z) (Ideal.ofBits .f32 0x40C00000#32)) ?_
  refine (broadcastTo_apply (s := S128x448x1) (t := S128x448x32) _ _ _ (ix3 (n0 := 128) (n1 := 448) (n2 := 1) (j 0) (cb j) 0) (by intro a; match a with | 0 => rfl | 1 => rfl | 2 => rfl)).trans ?_
  show Ideal.exp2 (((0#32 - k0_pay7 (F := Ideal) a (ix3 (j 0) (cb j) 0)).toInt : ℝ) : EReal) = _
  rw [pay7_apply]

/-- The row codes, as the reference computes them. -/
def rcode (a : FVec Ideal S1x128x14336 .bf16) : IVec S128x14336 32 :=
  k0_pay14 (F := Ideal) (dy2 a) (k0_pay8 (F := Ideal) a) (k0_pay9 (F := Ideal) a) (k0_pay10 (F := Ideal) a) (k0_pay11 (F := Ideal) a) (k0_pay12 (F := Ideal) a) (k0_pay13 (F := Ideal))

theorem rcode_apply (a : FVec Ideal S1x128x14336 .bf16) (j : S128x14336.Idx) : rcode a j = rnib (dy2 a j) (rmaxr (dy2 a) (j 0) (cb j)) := by
  unfold rnib
  rw [← pay8_apply]
  rfl

theorem pay15_apply (a : FVec Ideal S1x128x14336 .bf16) (s : Fin 128) (b : Fin 448) :
    k0_pay15 (k0_pay7 (F := Ideal) a) (ix2 s b) = rexp (rmaxr (dy2 a) s b) + 127#32 := by
  unfold k0_pay15
  refine congrArg (fun z : BitVec 32 => z + 127#32) ((shapeCast_apply _ shapeCasts_S128x448x1_S128x448 _ (ix3 s b 0) ?_).trans (pay7_apply a s b))
  rw [Shape.rowMajor_val_three, Shape.rowMajor_val_two]
  show (s.val * 448 + b.val) * 1 + 0 = s.val * 448 + b.val
  omega

/-- The gradient quantised along its rows and decoded again. -/
def rgrow (X : S128x14336.Idx → EReal) : S128x14336.Idx → EReal := fun j => rg (X j) (rmaxr X (j 0) (cb j))

/-- The decoded codes, as the reference computes them. -/
def rD (q : IVec S128x14336 32) : FVec Ideal S128x14336 .bf16 :=
  select (cmpi .ne (k0_pay23 q) (broadcast S128x14336 0#32)) (subf (broadcast S128x14336 (Scalar.ofBits (F := Ideal) .bf16 0x0000#16)) (k0_pay22 (F := Ideal) q)) (k0_pay22 (F := Ideal) q)

theorem rD_apply (q : IVec S128x14336 32) (j : S128x14336.Idx) : rD q j = rdec (q j) := rfl

/-- The decoded gradient, as the reference computes it. -/
def rGr (a : FVec Ideal S1x128x14336 .bf16) : FVec Ideal S128x14336 .bf16 :=
  shapeCast S128x14336 (mulf (shapeCast S128x448x32 (rD (rcode a)) shapeCasts_S128x14336_S128x448x32)
    (broadcastTo S128x448x32 (shapeCast S128x448x1 (truncf .bf16 (exp2 (sitofp (F := Ideal) .f32 (subi (k0_pay15 (k0_pay7 (F := Ideal) a)) (broadcast S128x448 127#32)))) bitsLt_bf16_f32) shapeCasts_S128x448_S128x448x1)
      broadcasts_S128x448x1_S128x448x32)) shapeCasts_S128x448x32_S128x14336

theorem rGr_apply (a : FVec Ideal S1x128x14336 .bf16) (j : S128x14336.Idx) : rGr a j = rgrow (dy2 a) j := by
  unfold rGr
  refine (unblk_apply _ j).trans ?_
  rw [mulf_apply]
  unfold rgrow rg
  refine congrArg₂ (fun a b : EReal => a * b) ?_ ?_
  · rw [blkcast_apply, rD_apply, rcode_apply]
    exact congrArg (fun z => rdec (rnib (dy2 a z) (rmaxr (dy2 a) (z 0) (cb z)))) (join_eq j)
  · refine (broadcastTo_apply (s := S128x448x1) (t := S128x448x32) _ _ _ (ix3 (n0 := 128) (n1 := 448) (n2 := 1) (j 0) (cb j) 0) (by intro a; match a with | 0 => rfl | 1 => rfl | 2 => rfl)).trans ?_
    refine (shapeCast_apply _ _ _ (ix2 (j 0) (cb j)) (by rw [Shape.rowMajor_val_three, Shape.rowMajor_val_two]; show (j 0).val * 448 + (cb j).val = ((j 0).val * 448 + (cb j).val) * 1 + 0; omega)).trans ?_
    exact congrArg rsc (pay15_apply a (j 0) (cb j))

/-- The decoded weights: each element times its block's scale. -/
def rw' (w : S4096x14336.Idx → EReal) (s : S4096x448.Idx → BitVec 8) : S4096x14336.Idx → EReal := fun j =>
  w j * rsc ((s (ix2 (j 0) ⟨(j 1).val / 32, by have := idx2_lt1 j; omega⟩)).setWidth 32)

/-- The decoded weights, as the reference computes them. -/
def rW (w : FVec Ideal S4096x14336 .fp8e4m3) (s : IVec S4096x448 8) : FVec Ideal S4096x14336 .bf16 :=
  shapeCast S4096x14336 (mulf (shapeCast S4096x448x32 (extf .bf16 w bitsLt_fp8e4m3_bf16) shapeCasts_S4096x14336_S4096x448x32)
    (broadcastTo S4096x448x32 (shapeCast S4096x448x1 (truncf .bf16 (exp2 (sitofp (F := Ideal) .f32 (subi (extui 32 s natLt_8_32) (broadcast S4096x448 127#32)))) bitsLt_bf16_f32) shapeCasts_S4096x448_S4096x448x1)
      broadcasts_S4096x448x1_S4096x448x32)) shapeCasts_S4096x448x32_S4096x14336

theorem rW_apply (w : FVec Ideal S4096x14336 .fp8e4m3) (s : IVec S4096x448 8) (j : S4096x14336.Idx) : rW w s j = rw' w s j := by
  have l1 := idx2_lt1 j
  unfold rW
  refine (shapeCast_apply _ shapeCasts_S4096x448x32_S4096x14336 j (ix3 (j 0) ⟨(j 1).val / 32, by omega⟩ ⟨(j 1).val % 32, by omega⟩) ?_).trans ?_
  · rw [Shape.rowMajor_val_three, Shape.rowMajor_val_two]
    show ((j 0).val * 448 + (j 1).val / 32) * 32 + (j 1).val % 32 = (j 0).val * 14336 + (j 1).val
    omega
  rw [mulf_apply]
  unfold rw'
  refine congrArg₂ (fun a b : EReal => a * b) ?_ ?_
  · refine (shapeCast_apply _ _ _ j ?_).trans rfl
    rw [Shape.rowMajor_val_three, Shape.rowMajor_val_two]
    show (j 0).val * 14336 + (j 1).val = ((j 0).val * 448 + (j 1).val / 32) * 32 + (j 1).val % 32
    omega
  · refine (broadcastTo_apply (s := S4096x448x1) (t := S4096x448x32) _ _ _ (ix3 (n0 := 4096) (n1 := 448) (n2 := 1) (j 0) ⟨(j 1).val / 32, by omega⟩ 0) (by intro a; match a with | 0 => rfl | 1 => rfl | 2 => rfl)).trans ?_
    refine (shapeCast_apply _ _ _ (ix2 (j 0) ⟨(j 1).val / 32, by omega⟩) (by rw [Shape.rowMajor_val_three, Shape.rowMajor_val_two]; show (j 0).val * 448 + (j 1).val / 32 = ((j 0).val * 448 + (j 1).val / 32) * 1 + 0; omega)).trans ?_
    rfl

/-- The input gradient: the decoded gradient times the decoded weights, transposed. -/
def rdx (a : S1x128x14336.Idx → EReal) (w : S4096x14336.Idx → EReal) (s : S4096x448.Idx → BitVec 8) : S128x4096.Idx → EReal := fun j =>
  ∑ n : Fin 14336, rgrow (dy2 a) (ix2 (j 0) n) * rw' w s (ix2 (j 1) n)

theorem mm_rdx (A : FVec Ideal S128x14336 .bf16) (B : FVec Ideal S4096x14336 .bf16) (j : S128x4096.Idx) :
    matmul (F := Ideal) dot_S128x14336_S4096x14336_S128x4096_1_1_0_0_n_n none A B (constant (F := Ideal) S128x4096 .f32 0x00000000#32) j
      = ∑ n : Fin 14336, A (ix2 (j 0) n) * B (ix2 (j 1) n) := by
  refine (Ideal.matmul_constant_zero_apply dot_S128x14336_S4096x14336_S128x4096_1_1_0_0_n_n none A B j).trans ?_
  refine (Equiv.sum_comp (contrEquiv1 dot_S128x14336_S4096x14336_S128x4096_1_1_0_0_n_n 14336 rfl rfl).symm (fun k' => A (dot_S128x14336_S4096x14336_S128x4096_1_1_0_0_n_n.lhsIdx j k') * B (dot_S128x14336_S4096x14336_S128x4096_1_1_0_0_n_n.rhsIdx j k'))).symm.trans ?_
  refine Finset.sum_congr rfl fun s _ => ?_
  congr 2
  · funext a; match a with | 0 => rfl | 1 => rfl
  · funext a; match a with | 0 => rfl | 1 => rfl

/-- The reference's first result. -/
theorem G5_eq (a : FVec Ideal S1x128x14336 .bf16) (x : FVec Ideal S1x128x4096 .fp8e4m3) (s : IVec S1x4x4096 8) (w : FVec Ideal S4096x14336 .fp8e4m3) (ws : IVec S4096x448 8) :
    Value.G5 (F := Ideal) a x s w ws = rdx a w ws := by
  funext j
  have e : View.ld (Val := Elt Ideal) (e' := .bf16) a r0_0 = a := View.ld_unit_zero (Val := Elt Ideal) (e := .bf16) (S := S1x128x14336) Value.hz0 inb_S1x128x14336_S1x128x14336_0_0_0 a
  have h30 : k0_pay30 (F := Ideal) a x s w ws = dy2 a := by
    unfold k0_pay30
    rw [e]
    exact pay5_eq a
  show k0_pay27 (F := Ideal) (k0_pay24 (F := Ideal) (k0_pay32 (F := Ideal) a x s w ws) (k0_pay22 (F := Ideal) (k0_pay31 (F := Ideal) a x s w ws)) (k0_pay23 (k0_pay31 (F := Ideal) a x s w ws))) w ws j = _
  unfold k0_pay32 k0_pay31
  rw [h30, e]
  have h1 : matmul (F := Ideal) dot_S128x14336_S4096x14336_S128x4096_1_1_0_0_n_n none (rGr a) (rW w ws) (constant (F := Ideal) S128x4096 .f32 0x00000000#32) j = rdx a w ws j := by
    rw [mm_rdx]
    unfold rdx
    refine Finset.sum_congr rfl fun n _ => ?_
    rw [rGr_apply, rW_apply]
  generalize rdx a w ws j = R at h1 ⊢
  exact h1

end Cert.ReferenceIdeal.Val

end
-- ==== Proof.RCode.lean ====
module

public import proofs.«01_k».proof.Proof.RRow

/-! The reference's packed codes and scale bytes, read at an index over the extended reals. -/

@[expose] public section

set_option backward.isDefEq.respectTransparency.types false
set_option maxRecDepth 8000

noncomputable section

namespace Cert.ReferenceIdeal.Val

open Idealize.ShloMosaic Idealize.ShloMosaic.ValueIdx Cert.ReferenceIdeal Cert.ReferenceIdeal.Gen Cert.Quant

/-- Two codes in one byte, the first in the low half. -/
def pack (x y : BitVec 32) : BitVec 8 := (IntOp.addi x (IntOp.muli 16#32 y)).setWidth 8

/-- The code of an element, quantised along its row. -/
def rnr (X : S128x14336.Idx → EReal) (r : Fin 128) (n : Fin 14336) : BitVec 32 := rnib (X (ix2 r n)) (rmaxr X r (cb (ix2 r n)))

/-- The code of an element, quantised along its column. -/
def rnc (X : S128x14336.Idx → EReal) (r : Fin 128) (n : Fin 14336) : BitVec 32 := rnib (X (ix2 r n)) (rmax X (rb (ix2 r n)) n)

/-- The row codes of neighbouring rows, packed. -/
def rrc (X : S128x14336.Idx → EReal) : S64x14336.Idx → BitVec 8 := fun j =>
  pack (rnr X ⟨2 * (j 0).val, by have := idx2_lt0 j; omega⟩ (j 1)) (rnr X ⟨2 * (j 0).val + 1, by have := idx2_lt0 j; omega⟩ (j 1))

/-- The column codes of neighbouring columns, packed. -/
def rcc (X : S128x14336.Idx → EReal) : S128x7168.Idx → BitVec 8 := fun j =>
  pack (rnc X (j 0) ⟨2 * (j 1).val, by have := idx2_lt1 j; omega⟩) (rnc X (j 0) ⟨2 * (j 1).val + 1, by have := idx2_lt1 j; omega⟩)

/-- The scale bytes of the rows' blocks. -/
def rrs (X : S128x14336.Idx → EReal) : S128x448.Idx → BitVec 8 := fun j => (IntOp.addi (rexp (rmaxr X (j 0) (j 1))) 127#32).setWidth 8

/-- The scale bytes of the columns' blocks. -/
def rcs (X : S128x14336.Idx → EReal) : S4x14336.Idx → BitVec 8 := fun j => (IntOp.addi (rexp (rmax X (j 0) (j 1))) 127#32).setWidth 8

theorem pay1_apply (q : IVec S128x14336 32) (p : Fin 64) (n : Fin 14336) :
    k0_pay1 (k0_pay29 q) (ix2 p n) = pack (q (ix2 ⟨2 * p.val, by omega⟩ n)) (q (ix2 ⟨2 * p.val + 1, by omega⟩ n)) := by
  have h : ∀ (z : Fin 2) (i : S64x2x14336.Idx) (_ : i = ix3 p z n), k0_pay29 q i = q (ix2 ⟨2 * p.val + z.val, by omega⟩ n) := by
    rintro z i rfl
    refine shapeCast_apply q shapeCasts_S128x14336_S64x2x14336 _ (ix2 ⟨2 * p.val + z.val, by omega⟩ n) ?_
    rw [Shape.rowMajor_val_three, Shape.rowMajor_val_two]
    show (2 * p.val + z.val) * 14336 + n.val = (p.val * 2 + z.val) * 14336 + n.val
    omega
  unfold k0_pay1
  refine congrArg₂ pack ?_ ?_
  · refine (shapeCast_apply _ shapeCasts_S64x1x14336_S64x14336 _ (ix3 p 0 n) ?_).trans (h 0 _ ?_)
    · rw [Shape.rowMajor_val_three, Shape.rowMajor_val_two]
      show (p.val * 1 + 0) * 14336 + n.val = p.val * 14336 + n.val
      omega
    · funext a
      match a with
      | 0 => exact Fin.ext (Nat.zero_add _)
      | 1 => rfl
      | 2 => exact Fin.ext (Nat.zero_add _)
  · refine (shapeCast_apply _ shapeCasts_S64x1x14336_S64x14336 _ (ix3 p 0 n) ?_).trans (h 1 _ ?_)
    · rw [Shape.rowMajor_val_three, Shape.rowMajor_val_two]
      show (p.val * 1 + 0) * 14336 + n.val = p.val * 14336 + n.val
      omega
    · funext a
      match a with
      | 0 => exact Fin.ext (Nat.zero_add _)
      | 1 => rfl
      | 2 => exact Fin.ext (Nat.zero_add _)

theorem pay3_apply (q : IVec S128x14336 32) (r : Fin 128) (d : Fin 7168) :
    k0_pay3 q (ix2 r d) = pack (q (ix2 r ⟨2 * d.val, by omega⟩)) (q (ix2 r ⟨2 * d.val + 1, by omega⟩)) := by
  have h : ∀ (z : Fin 2) (i : S128x7168x2.Idx) (_ : i = ix3 r d z), shapeCast S128x7168x2 q shapeCasts_S128x14336_S128x7168x2 i = q (ix2 r ⟨2 * d.val + z.val, by omega⟩) := by
    rintro z i rfl
    refine shapeCast_apply q shapeCasts_S128x14336_S128x7168x2 _ (ix2 r ⟨2 * d.val + z.val, by omega⟩) ?_
    rw [Shape.rowMajor_val_three, Shape.rowMajor_val_two]
    show r.val * 14336 + (2 * d.val + z.val) = (r.val * 7168 + d.val) * 2 + z.val
    omega
  unfold k0_pay3
  refine congrArg₂ pack ?_ ?_
  · refine (shapeCast_apply _ shapeCasts_S128x7168x1_S128x7168 _ (ix3 r d 0) ?_).trans (h 0 _ ?_)
    · rw [Shape.rowMajor_val_three, Shape.rowMajor_val_two]
      show (r.val * 7168 + d.val) * 1 + 0 = r.val * 7168 + d.val
      omega
    · funext a
      match a with
      | 0 => exact Fin.ext (Nat.zero_add _)
      | 1 => exact Fin.ext (Nat.zero_add _)
      | 2 => rfl
  · refine (shapeCast_apply _ shapeCasts_S128x7168x1_S128x7168 _ (ix3 r d 0) ?_).trans (h 1 _ ?_)
    · rw [Shape.rowMajor_val_three, Shape.rowMajor_val_two]
      show (r.val * 7168 + d.val) * 1 + 0 = r.val * 7168 + d.val
      omega
    · funext a
      match a with
      | 0 => exact Fin.ext (Nat.zero_add _)
      | 1 => exact Fin.ext (Nat.zero_add _)
      | 2 => rfl

section
variable (a : FVec Ideal S1x128x14336 .bf16) (x : FVec Ideal S1x128x4096 .fp8e4m3) (s : IVec S1x4x4096 8) (w : FVec Ideal S4096x14336 .fp8e4m3) (ws : IVec S4096x448 8)

theorem ld_eq : View.ld (Val := Elt Ideal) (e' := .bf16) a r0_0 = a :=
  View.ld_unit_zero (Val := Elt Ideal) (e := .bf16) (S := S1x128x14336) Value.hz0 inb_S1x128x14336_S1x128x14336_0_0_0 a

theorem pay30_eq : k0_pay30 (F := Ideal) a x s w ws = dy2 a := by
  unfold k0_pay30
  rw [ld_eq]
  exact pay5_eq a

/-- The reference's third result. -/
theorem G7_eq : Value.G7 (F := Ideal) a x s w ws = rrc (dy2 a) := by
  funext j
  show k0_pay1 (k0_pay29 (k0_pay31 (F := Ideal) a x s w ws)) j = _
  unfold k0_pay31
  rw [pay30_eq, ld_eq]
  refine (congrArg _ (eq_ix2 (n0 := 64) (n1 := 14336) j)).trans ((pay1_apply (rcode a) (j 0) (j 1)).trans ?_)
  exact congrArg₂ pack (rcode_apply a _) (rcode_apply a _)

/-- The reference's fourth result. -/
theorem G8_eq : Value.G8 (F := Ideal) a x s w ws = rrs (dy2 a) := by
  funext j
  show k0_pay2 (k0_pay32 (F := Ideal) a x s w ws) j = _
  unfold k0_pay32
  rw [ld_eq]
  refine (congrArg _ (eq_ix2 (n0 := 128) (n1 := 448) j)).trans ?_
  exact congrArg (fun z : BitVec 32 => z.setWidth 8) (pay15_apply a (j 0) (j 1))

/-- The reference's fifth result. -/
theorem G9_eq : Value.G9 (F := Ideal) a x s w ws = rcc (dy2 a) := by
  funext j
  show k0_pay3 (k0_pay33 (F := Ideal) a x s w ws) j = _
  unfold k0_pay33
  rw [pay30_eq]
  refine (congrArg _ (eq_ix2 (n0 := 128) (n1 := 7168) j)).trans ((pay3_apply _ (j 0) (j 1)).trans ?_)
  exact congrArg₂ pack (pay20_apply (dy2 a) _) (pay20_apply (dy2 a) _)

/-- The reference's sixth result. -/
theorem G10_eq : Value.G10 (F := Ideal) a x s w ws = rcs (dy2 a) := by
  funext j
  show k0_pay4 (k0_pay34 (F := Ideal) a x s w ws) j = _
  unfold k0_pay34
  rw [pay30_eq]
  refine (congrArg _ (eq_ix2 (n0 := 4) (n1 := 14336) j)).trans ?_
  exact congrArg (fun z : BitVec 32 => z.setWidth 8) (pay21_apply (dy2 a) (j 0) (j 1))

end

end Cert.ReferenceIdeal.Val

end
-- ==== Proof.PreFacts.lean ====
module

public import proofs.«01_k».proof.Proof.Gen.Pre_in_range
public import proofs.«01_k».proof.Proof.RRow
public import Idealize.ShloMosaic.Lib.ReduceAll
public import Idealize.ShloMosaic.Lib.KernelVsHost

/-! What the precondition says of the arguments, and that under it both ways of quantising give the same decoded gradient. -/

@[expose] public section

set_option backward.isDefEq.respectTransparency.types false
set_option maxRecDepth 8000

noncomputable section

namespace Cert.Quant

open Idealize.ShloMosaic Idealize.ShloMosaic.ValueIdx Cert.ReferenceIdeal.Val

/-- A nonnegative extended real below a real bound is a real. -/
theorem real_of_le {x : EReal} {B : ℝ} (h0 : 0 ≤ x) (h1 : x ≤ (B : EReal)) : ∃ a : ℝ, x = (a : EReal) ∧ 0 ≤ a ∧ a ≤ B := by
  induction x with
  | bot => exact absurd h0 (by simp)
  | top => exact absurd h1 (by simp)
  | coe a => exact ⟨a, rfl, by exact_mod_cast h0, by exact_mod_cast h1⟩

theorem abs_nonneg' (x : EReal) : 0 ≤ max x (-x) := by
  rcases le_total 0 x with h | h
  · exact le_max_of_le_left h
  · exact le_max_of_le_right (by simpa using EReal.neg_le_neg_iff.2 h)

/-- An extended real of bounded magnitude is a real. -/
theorem real_of_abs {x : EReal} {B : ℝ} (h : max x (-x) ≤ (B : EReal)) : ∃ a : ℝ, x = (a : EReal) := by
  induction x with
  | bot => exact absurd h (by simp)
  | top => exact absurd h (by simp)
  | coe a => exact ⟨a, rfl⟩

/-- The greatest of finitely many bounded magnitudes is a real within the bound. -/
theorem fold_real {n : ℕ} [NeZero n] {B : ℝ} (f : Fin n → EReal) (h : ∀ k, max (f k) (-(f k)) ≤ (B : EReal)) :
    ∃ a : ℝ, (Finset.univ : Finset (Fin n)).fold max ⊥ (fun k => max (f k) (-(f k))) = (a : EReal) ∧ a ≤ B := by
  have h0 : 0 ≤ (Finset.univ : Finset (Fin n)).fold max ⊥ (fun k => max (f k) (-(f k))) :=
    (Finset.le_fold_max _).2 (Or.inr ⟨0, Finset.mem_univ _, abs_nonneg' _⟩)
  have h1 : (Finset.univ : Finset (Fin n)).fold max ⊥ (fun k => max (f k) (-(f k))) ≤ (B : EReal) :=
    (Finset.fold_max_le _).2 ⟨bot_le, fun k _ => h k⟩
  obtain ⟨a, e, -, ha⟩ := real_of_le h0 h1
  exact ⟨a, e, ha⟩

/-- A scale's exponent field put in place is the power of two it stands for. -/
theorem dsc_eq (s : BitVec 8) (h1 : 1 ≤ s.toNat) (h2 : s.toNat ≤ 254) :
    Ideal.ofBits .f32 (IntOp.shli .vector (s.setWidth 32) 23#32) = rsc (s.setWidth 32) := by
  have e : s.setWidth 32 = BitVec.ofNat 32 s.toNat := by
    apply BitVec.eq_of_toNat_eq; simp
  rw [shl23, e, ofBits_pow _ h1 h2]
  unfold rsc
  have e2 : (BitVec.ofNat 32 s.toNat - 127#32).toInt = (s.toNat : ℤ) - 127 := by
    have : BitVec.ofNat 32 s.toNat - 127#32 = BitVec.ofInt 32 ((s.toNat : ℤ) - 127) := by
      rw [← BitVec.ofInt_natCast, show (127#32 : BitVec 32) = BitVec.ofInt 32 127 from rfl, BitVec.sub_eq_add_neg, ← BitVec.ofInt_neg, ← BitVec.ofInt_add,
        Int.sub_eq_add_neg]
    rw [this, toInt_ofInt32 _ (by omega) (by omega)]
  rw [e2, Ideal.exp2_coe]
  congr 1
  show _ = (2 : ℝ) ^ (((s.toNat : ℤ) - 127 : ℤ) : ℝ)
  rw [Real.rpow_intCast]

/-- What the claim assumes of a block's greatest magnitude. -/
def OkE (a : EReal) : Prop := a = Ideal.ofBits .f32 0x00000000#32 ∨ Ideal.ofBits .f32 0x01C00000#32 ≤ a

/-- The gradient's elements are finite. -/
def Fin' (v : EReal) : Prop := max v (-v) ≤ Ideal.ofBits .f32 0x7F7F0000#32

/-- An element, its block's greatest magnitude, and the two quantisers' equal results. -/
theorem quant_block {n : ℕ} [NeZero n] (f : Fin n → EReal) (v : EReal) (hv : Fin' v) (hf : ∀ k, Fin' (f k))
    (ho : OkE ((Finset.univ : Finset (Fin n)).fold max ⊥ (fun k => max (f k) (-(f k))))) :
    ∃ x a : ℝ, v = (x : EReal) ∧ (Finset.univ : Finset (Fin n)).fold max ⊥ (fun k => max (f k) (-(f k))) = (a : EReal) ∧ Ok a := by
  simp only [Fin', c_max] at hv hf
  obtain ⟨x, rfl⟩ := real_of_abs hv
  obtain ⟨a, e, ha⟩ := fold_real f hf
  refine ⟨x, a, rfl, e, ?_⟩
  rw [e] at ho
  simp only [OkE, c_zero, c_min'] at ho
  rcases ho with h | h
  · exact Or.inl (by exact_mod_cast h)
  · exact Or.inr ⟨by exact_mod_cast h, ha⟩

end Cert.Quant

namespace Cert.Pre_in_range.Val

open Idealize.ShloMosaic Idealize.ShloMosaic.ValueIdx Cert.Quant Cert.Pre_in_range Cert.Pre_in_range.Gen Cert.ReferenceIdeal.Val

instance : Subsingleton S_.Idx := ⟨fun a b => funext fun i => i.elim0⟩

theorem cmp_ole {x y : EReal} (h : Ideal.cmp .ole x y = 1#1) : x ≤ y := by
  unfold Ideal.cmp at h; by_contra hc; simp [hc] at h

theorem cmp_oge {x y : EReal} (h : Ideal.cmp .oge x y = 1#1) : y ≤ x := by
  unfold Ideal.cmp at h; by_contra hc; simp [hc] at h

theorem cmp_oeq {x y : EReal} (h : Ideal.cmp .oeq x y = 1#1) : x = y := by
  unfold Ideal.cmp at h; by_contra hc; simp [hc] at h

/-- A scale the comparison admits. -/
theorem scale_ok (s : BitVec 8) (h : IntOp.andi (IntOp.cmpi .sge (s.setWidth 32) 1#32) (IntOp.cmpi .sle (s.setWidth 32) 254#32) = 1#1) :
    1 ≤ s.toNat ∧ s.toNat ≤ 254 := by
  obtain ⟨h1, h2⟩ := IntOp.andi_eq_one.1 h
  rw [IntOp.cmpi_sge] at h1
  rw [IntOp.cmpi_sle] at h2
  have e : (s.setWidth 32).toInt = s.toNat := by
    rw [BitVec.toInt_eq_toNat_of_lt (by simp; omega)]; simp; omega
  rw [e] at h1 h2
  have : (1#32 : BitVec 32).toInt = 1 := by decide
  have : (254#32 : BitVec 32).toInt = 254 := by decide
  omega

/-- The greatest magnitudes of the columns' blocks, as the precondition computes them. -/
def colmax (X : FVec Ideal S128x14336 .f32) : FVec Ideal S4x14336 .f32 :=
  Host.reduce FloatOps.maximumf (shapeCast S4x32x14336 (Host.absf X) shapeCasts_S128x14336_S4x32x14336) (constant (F := Ideal) S_ .f32 0xFF800000#32)
    reducesTo_S4x32x14336_S4x14336_d1 h_S_

theorem colmax_eq (X : FVec Ideal S128x14336 .f32) : colmax X = multiReduction .maximumf [1] S4x14336
    (shapeCast S4x32x14336 (Host.absf X) shapeCasts_S128x14336_S4x32x14336) 0xFF800000#32 Cert.ReferenceIdeal.Gen.reduces_S4x32x14336_S4x14336 (.inl rfl) rfl :=
  hostReduce_maximumf_eq_multiReduction (shapeCast S4x32x14336 (Host.absf X) shapeCasts_S128x14336_S4x32x14336) 0xFF800000#32 reducesTo_S4x32x14336_S4x14336_d1 h_S_ _ _ _

theorem colmax_apply (X : FVec Ideal S128x14336 .f32) (b : Fin 4) (n : Fin 14336) : colmax X (ix2 b n) = rmax X b n := by
  rw [colmax_eq]
  refine (Ideal.multiReduction_maximumf_single _ _ _ _ _ _).trans ?_
  show Finset.fold max (Ideal.ofBits .f32 0xFF800000#32) _ _ = _
  rw [c_bot]
  unfold rmax
  congr 1
  funext k
  have : Cert.ReferenceIdeal.Gen.reduces_S4x32x14336_S4x14336.lift (ix2 b n) k = ix3 b k n := by
    funext a; match a with | 0 => rfl | 1 => rfl | 2 => rfl
  refine (congrArg (shapeCast S4x32x14336 (Host.absf X) shapeCasts_S128x14336_S4x32x14336) this).trans ?_
  have h := pay16_apply (Host.absf X) b k n
  exact h

theorem col_all (M : FVec Ideal S4x14336 .f32) (i : S_.Idx)
    (h : Host.reduce IntOp.andi (ori (cmpf .oeq M (broadcastInDim S4x14336 ![] bcast_S_S4x14336 (constant (F := Ideal) S_ .f32 0x00000000#32)))
      (cmpf .oge M (broadcastInDim S4x14336 ![] bcast_S_S4x14336 (constant (F := Ideal) S_ .f32 0x01C00000#32)))) (constantI S_ 1 1#1) reducesTo_S4x14336_S_d0_1 h_S_ i = 1#1)
    (j : S4x14336.Idx) : OkE (M j) := by
  have h5 := Host.reduce_andi_all _ _ _ _ _ h j
  rcases IntOp.ori_eq_one.1 h5 with h6 | h6
  · exact Or.inl (cmp_oeq h6)
  · exact Or.inr (cmp_oge h6)

/-- The greatest magnitudes of the rows' blocks, as the precondition computes them. -/
def rowmax (X : FVec Ideal S128x14336 .f32) : FVec Ideal S128x448 .f32 :=
  Host.reduce FloatOps.maximumf (shapeCast S128x448x32 (Host.absf X) shapeCasts_S128x14336_S128x448x32) (constant (F := Ideal) S_ .f32 0xFF800000#32)
    reducesTo_S128x448x32_S128x448_d2 h_S_

theorem rowmax_eq (X : FVec Ideal S128x14336 .f32) : rowmax X = multiReduction .maximumf [2] S128x448
    (shapeCast S128x448x32 (Host.absf X) shapeCasts_S128x14336_S128x448x32) 0xFF800000#32 Cert.ReferenceIdeal.Gen.reduces_S128x448x32_S128x448 (.inl rfl) rfl :=
  hostReduce_maximumf_eq_multiReduction (shapeCast S128x448x32 (Host.absf X) shapeCasts_S128x14336_S128x448x32) 0xFF800000#32 reducesTo_S128x448x32_S128x448_d2 h_S_ _ _ _

theorem rowmax_apply (X : FVec Ideal S128x14336 .f32) (s : Fin 128) (b : Fin 448) : rowmax X (ix2 s b) = rmaxr X s b := by
  rw [rowmax_eq]
  refine (Ideal.multiReduction_maximumf_single _ _ _ _ _ _).trans ?_
  show Finset.fold max (Ideal.ofBits .f32 0xFF800000#32) _ _ = _
  rw [c_bot]
  unfold rmaxr
  congr 1
  funext k
  have : Cert.ReferenceIdeal.Gen.reduces_S128x448x32_S128x448.lift (ix2 s b) k = ix3 s b k := by
    funext a; match a with | 0 => rfl | 1 => rfl | 2 => rfl
  refine (congrArg (shapeCast S128x448x32 (Host.absf X) shapeCasts_S128x14336_S128x448x32) this).trans ?_
  exact blkcast_apply (Host.absf X) s b k

theorem row_all (M : FVec Ideal S128x448 .f32) (i : S_.Idx)
    (h : Host.reduce IntOp.andi (ori (cmpf .oeq M (broadcastInDim S128x448 ![] bcast_S_S128x448 (constant (F := Ideal) S_ .f32 0x00000000#32)))
      (cmpf .oge M (broadcastInDim S128x448 ![] bcast_S_S128x448 (constant (F := Ideal) S_ .f32 0x01C00000#32)))) (constantI S_ 1 1#1) reducesTo_S128x448_S_d0_1 h_S_ i = 1#1)
    (j : S128x448.Idx) : OkE (M j) := by
  have h5 := Host.reduce_andi_all _ _ _ _ _ h j
  rcases IntOp.ori_eq_one.1 h5 with h6 | h6
  · exact Or.inl (cmp_oeq h6)
  · exact Or.inr (cmp_oge h6)

/-- What the precondition says: the scales are in range, the gradient is finite, and every block is zero or not too small. -/
theorem facts_of (a0 : FVec Ideal S1x128x14336 .bf16) (a1 : FVec Ideal S1x128x4096 .fp8e4m3) (a2 : IVec S1x4x4096 8) (a3 : FVec Ideal S4096x14336 .fp8e4m3)
    (a4 : IVec S4096x448 8) (h : Cert.Pre_in_range.fn (F := Ideal) a0 a1 a2 a3 a4 = fun _ => 1#1) :
    (∀ i, 1 ≤ (a2 i).toNat ∧ (a2 i).toNat ≤ 254) ∧ (∀ i, 1 ≤ (a4 i).toNat ∧ (a4 i).toNat ≤ 254) ∧ (∀ j, Fin' (dy2 a0 j))
      ∧ (∀ s b, OkE (rmaxr (dy2 a0) s b)) ∧ ∀ b n, OkE (rmax (dy2 a0) b n) := by
  have h0 := congrFun h (fun i => i.elim0)
  unfold fn fn_part1 fn_part2 at h0
  obtain ⟨h1, hcol⟩ := IntOp.andi_eq_one.1 h0
  obtain ⟨h2, hrow⟩ := IntOp.andi_eq_one.1 h1
  obtain ⟨h3, hfin⟩ := IntOp.andi_eq_one.1 h2
  obtain ⟨hxs, hws⟩ := IntOp.andi_eq_one.1 h3
  have e : shapeCast S128x14336 a0 shapeCasts_S1x128x14336_S128x14336 = dy2 a0 := pay5_eq a0
  refine ⟨fun i => scale_ok _ (Host.reduce_andi_all _ _ _ _ _ hxs i), fun i => scale_ok _ (Host.reduce_andi_all _ _ _ _ _ hws i), fun j => ?_, fun s b => ?_, fun b n => ?_⟩
  · have := cmp_ole (Host.reduce_andi_all _ _ _ _ _ hfin j)
    rw [e] at this
    exact this
  · rw [e] at hrow
    rw [← rowmax_apply]
    exact row_all (rowmax (dy2 a0)) _ hrow (ix2 s b)
  · rw [e] at hcol
    rw [← colmax_apply]
    exact col_all (colmax (dy2 a0)) _ hcol (ix2 b n)

end Cert.Pre_in_range.Val

end
-- ==== Proof.Dw.lean ====
module

public import proofs.«01_k».proof.Proof.KIOut
public import proofs.«01_k».proof.Proof.RCode
public import proofs.«01_k».proof.Proof.PreFacts

/-! The kernel's results after its run, and their equality with the reference's under the precondition. -/

@[expose] public section

set_option backward.isDefEq.respectTransparency.types false
set_option maxRecDepth 8000

noncomputable section

namespace Cert.KernelIdeal.Val

open Cert.KernelIdeal Cert.KernelIdeal.Gen Cert.KernelIdeal.Body Cert.Quant
open Idealize.ShloMosaic Idealize.ShloMosaic.ValueIdx Idealize.ShloMosaic.TcCoe Idealize.ShloMosaic.Tactic
open Idealize.SL.Sem
open Cert.ReferenceIdeal.Val (dy2 rmax rb rgcol rx rdw rmaxr cb rgrow rw' rdx pack rnr rnc rrc rcc rrs rcs)

variable (m : (ℓ : Loc nD τ sig) → Buf (Elt Ideal) ℓ) (ρ : Dev nD → PrngReg)

/-- The arguments on device `c`. -/
abbrev a0 (c : Dev nD) : S1x128x14336.Idx → EReal := m ((c.tc : Thread nD τ).loc main_arg0)
abbrev a1 (c : Dev nD) : S1x128x4096.Idx → EReal := m ((c.tc : Thread nD τ).loc main_arg1)
abbrev a2 (c : Dev nD) : S1x4x4096.Idx → BitVec 8 := m ((c.tc : Thread nD τ).loc main_arg2)

theorem A0_eq (c : Dev nD) : A0 m c = dy2 (a0 m c) := by
  have e : V m c main_v0 = shapeCast S128x14336 (a0 m c) shapeCasts_S1x128x14336_S128x14336 := by
    show StableHlo.after hostOps0 _ (Proc.devRef .tc main_v0) = _
    after_results
    rfl
  funext j
  refine (congrFun e j).trans (shapeCast_apply (a0 m c) shapeCasts_S1x128x14336_S128x14336 j (ix3 0 (j 0) (j 1)) ?_)
  rw [Shape.rowMajor_val_three, Shape.rowMajor_val_two]
  simp

theorem A1_eq (c : Dev nD) (r : Fin 128) (k : Fin 4096) : A1 m c (ix2 r k) = a1 m c (ix3 0 r k) := by
  have e : V m c main_v1 = shapeCast S128x4096 (a1 m c) shapeCasts_S1x128x4096_S128x4096 := by
    show StableHlo.after hostOps0 _ (Proc.devRef .tc main_v1) = _
    after_results
    rfl
  refine (congrFun e _).trans (shapeCast_apply (a1 m c) shapeCasts_S1x128x4096_S128x4096 _ (ix3 0 r k) ?_)
  rw [Shape.rowMajor_val_three, Shape.rowMajor_val_two]
  simp

theorem A2_eq (c : Dev nD) (b : Fin 4) (k : Fin 4096) : A2 m c (ix2 b k) = a2 m c (ix3 0 b k) := by
  have e : V m c main_v2 = shapeCast S4x4096 (a2 m c) shapeCasts_S1x4x4096_S4x4096 := by
    show StableHlo.after hostOps0 _ (Proc.devRef .tc main_v2) = _
    after_results
    rfl
  refine (congrFun e _).trans (shapeCast_apply (a2 m c) shapeCasts_S1x4x4096_S4x4096 _ (ix3 0 b k) ?_)
  rw [Shape.rowMajor_val_three, Shape.rowMajor_val_two]
  simp

/-- The gradient quantised along its columns: the kernel's is the reference's. -/
theorem gcol_eq (X : S128x14336.Idx → EReal) (hX : ∀ j, Fin' (X j)) (ho : ∀ b n, OkE (rmax X b n)) (j : S128x14336.Idx) : gcolA X j = rgcol X j := by
  obtain ⟨x, a, e1, e2, hOk⟩ := quant_block (fun k : Fin 32 => X (ix2 ⟨32 * (rb j).val + k.val, by have := (rb j).isLt; omega⟩ (j 1))) (X j) (hX j) (fun k => hX _) (ho (rb j) (j 1))
  have e3 : rmax X (rb j) (j 1) = (a : EReal) := e2
  show kg (X j) (rmax X (rb j) (j 1)) = rg (X j) (rmax X (rb j) (j 1))
  rw [e3, e1]
  obtain ⟨_, _, _, _, _, _, _, _, _, _, _, _, _, h⟩ := quant x a hOk
  exact h

/-- The kernel's weight gradient is the reference's. -/
theorem dw_eq (c : Dev nD) (h2 : ∀ i, 1 ≤ (a2 m c i).toNat ∧ (a2 m c i).toNat ≤ 254) (hX : ∀ j, Fin' (dy2 (a0 m c) j)) (ho : ∀ b n, OkE (rmax (dy2 (a0 m c)) b n)) :
    dwA (A0 m c) (A1 m c) (A2 m c) = rdw (a0 m c) (a1 m c) (a2 m c) := by
  funext j
  unfold dwA rdw
  refine Finset.sum_congr rfl fun s _ => congrArg₂ (fun a b : EReal => a * b) ?_ ?_
  · unfold xtF rx
    refine congrArg₂ (fun a b : EReal => a * b) (A1_eq m c _ _) ?_
    rw [A2_eq]
    exact dsc_eq _ (h2 _).1 (h2 _).2
  · rw [A0_eq]
    exact gcol_eq _ hX ho _

/-- The gradient quantised along its rows: the kernel's is the reference's. -/
theorem grow_eq (X : S128x14336.Idx → EReal) (hX : ∀ j, Fin' (X j)) (ho : ∀ s b, OkE (rmaxr X s b)) (j : S128x14336.Idx) : growA X j = rgrow X j := by
  obtain ⟨x, a, e1, e2, hOk⟩ := quant_block (fun k : Fin 32 => X (ix2 (j 0) ⟨32 * (cb j).val + k.val, by have := (cb j).isLt; omega⟩)) (X j) (hX j) (fun k => hX _) (ho (j 0) (cb j))
  have e3 : rmaxr X (j 0) (cb j) = (a : EReal) := e2
  show kg (X j) (rmaxr X (j 0) (cb j)) = rg (X j) (rmaxr X (j 0) (cb j))
  rw [e3, e1]
  obtain ⟨_, _, _, _, _, _, _, _, _, _, _, _, _, h⟩ := quant x a hOk
  exact h

/-- The arguments the kernel takes as they are. -/
abbrev a3 (c : Dev nD) : S4096x14336.Idx → EReal := m ((c.tc : Thread nD τ).loc main_arg3)
abbrev a4 (c : Dev nD) : S4096x448.Idx → BitVec 8 := m ((c.tc : Thread nD τ).loc main_arg4)

/-- The kernel's input gradient is the reference's. -/
theorem dx_eq (c : Dev nD) (h4 : ∀ i, 1 ≤ (a4 m c i).toNat ∧ (a4 m c i).toNat ≤ 254) (hX : ∀ j, Fin' (dy2 (a0 m c) j)) (ho : ∀ s b, OkE (rmaxr (dy2 (a0 m c)) s b)) :
    dxA (A0 m c) (A3 m c) (A4 m c) = rdx (a0 m c) (a3 m c) (a4 m c) := by
  have e3 : A3 m c = a3 m c := V_main_arg3 m c
  have e4 : A4 m c = a4 m c := V_main_arg4 m c
  rw [A0_eq, e3, e4]
  funext j
  unfold dxA rdx
  refine Finset.sum_congr rfl fun n _ => ?_
  unfold dxTerm
  rw [mul_comm]
  refine congrArg₂ (fun a b : EReal => a * b) (grow_eq _ hX ho _) ?_
  unfold rw'
  exact congrArg (fun z : EReal => a3 m c (ix2 (j 1) n) * z) (dsc_eq _ (h4 _).1 (h4 _).2)

/-- Finite elements and admissible greatest magnitudes along the rows, as real numbers. -/
theorem row_real (X : S128x14336.Idx → EReal) (hX : ∀ j, Fin' (X j)) (ho : ∀ s b, OkE (rmaxr X s b)) (r : Fin 128) (n : Fin 14336) :
    ∃ x a : ℝ, X (ix2 r n) = (x : EReal) ∧ rmaxr X r (cb (ix2 r n)) = (a : EReal) ∧ Ok a := by
  obtain ⟨x, a, e1, e2, hOk⟩ := quant_block (fun k : Fin 32 => X (ix2 r ⟨32 * (cb (ix2 r n)).val + k.val, by have := (cb (ix2 r n)).isLt; omega⟩)) (X (ix2 r n)) (hX _) (fun k => hX _) (ho r (cb (ix2 r n)))
  exact ⟨x, a, e1, e2, hOk⟩

/-- Finite elements and admissible greatest magnitudes along the columns, as real numbers. -/
theorem col_real (X : S128x14336.Idx → EReal) (hX : ∀ j, Fin' (X j)) (ho : ∀ b n, OkE (rmax X b n)) (r : Fin 128) (b : Fin 4) (n : Fin 14336) :
    ∃ x a : ℝ, X (ix2 r n) = (x : EReal) ∧ rmax X b n = (a : EReal) ∧ Ok a := by
  obtain ⟨x, a, e1, e2, hOk⟩ := quant_block (fun k : Fin 32 => X (ix2 ⟨32 * b.val + k.val, by omega⟩ n)) (X (ix2 r n)) (hX _) (fun k => hX _) (ho b n)
  exact ⟨x, a, e1, e2, hOk⟩

/-- The kernel's packed row codes are the reference's. -/
theorem rc_eq (X : S128x14336.Idx → EReal) (hX : ∀ j, Fin' (X j)) (ho : ∀ s b, OkE (rmaxr X s b)) : rcA X = rrc X := by
  funext j
  have l0 := idx2_lt0 j
  obtain ⟨x0, a0, e0, f0, h0⟩ := row_real X hX ho ⟨2 * (j 0).val, by omega⟩ (j 1)
  obtain ⟨x1, a1, e1, f1, h1⟩ := row_real X hX ho ⟨2 * (j 0).val + 1, by omega⟩ (j 1)
  obtain ⟨n0, n1, g0, g1, g⟩ := word x0 a0 x1 a1 h0 h1
  rw [← e0, ← e1, ← f0, ← f1] at g
  rw [← e0, ← f0] at g0
  rw [← e1, ← f1] at g1
  refine (congrArg rcb g).trans ((rcb_table n0 n1).trans ?_)
  exact (congrArg₂ pack g0 g1).symm

/-- A column code of the kernel, as a float, is the reference's code. -/
theorem cf_eq (X : S128x14336.Idx → EReal) (hX : ∀ j, Fin' (X j)) (ho : ∀ b n, OkE (rmax X b n)) (r : Fin 128) (n : Fin 14336) :
    ∃ k : Fin 16, cfA X r n = ((k.val : ℝ) : EReal) ∧ rnc X r n = BitVec.ofNat 32 k.val := by
  obtain ⟨x0, a0, e0, f0, h0⟩ := col_real X hX ho ⟨2 * (r.val / 2), by omega⟩ ⟨2 * (r.val / 2) / 32, by omega⟩ n
  obtain ⟨x1, a1, e1, f1, h1⟩ := col_real X hX ho ⟨2 * (r.val / 2) + 1, by omega⟩ ⟨(2 * (r.val / 2) + 1) / 32, by omega⟩ n
  obtain ⟨n0, n1, g0, g1, g⟩ := word x0 a0 x1 a1 h0 h1
  rw [← e0, ← e1, ← f0, ← f1] at g
  rw [← e0, ← f0] at g0
  rw [← e1, ← f1] at g1
  have hc : ∀ q : ℕ, r.val % 2 = q → cfA X r n = cfl q (BitVec.ofNat 32 (n0.val + 65536 * n1.val)) := fun q hq => by
    refine Eq.trans ?_ (congrArg (cfl q) g)
    exact congrArg (fun z => cfl z _) hq
  rcases Nat.mod_two_eq_zero_or_one r.val with hq | hq
  · have hr : r = ⟨2 * (r.val / 2), by omega⟩ := Fin.ext (by show r.val = 2 * (r.val / 2); omega)
    exact ⟨n0, (hc 0 hq).trans (cfl_eq n0 n1).1, (congrArg (fun z => rnc X z n) hr).trans g0⟩
  · have hr : r = ⟨2 * (r.val / 2) + 1, by omega⟩ := Fin.ext (by show r.val = 2 * (r.val / 2) + 1; omega)
    exact ⟨n1, (hc 1 hq).trans (cfl_eq n0 n1).2, (congrArg (fun z => rnc X z n) hr).trans g1⟩

/-- The kernel's packed column codes are the reference's. -/
theorem cc_eq (X : S128x14336.Idx → EReal) (hX : ∀ j, Fin' (X j)) (ho : ∀ b n, OkE (rmax X b n)) : ccA X = rcc X := by
  funext j
  have l1 := idx2_lt1 j
  obtain ⟨n0, e0, g0⟩ := cf_eq X hX ho (j 0) ⟨2 * (j 1).val, by omega⟩
  obtain ⟨n1, e1, g1⟩ := cf_eq X hX ho (j 0) ⟨2 * (j 1).val + 1, by omega⟩
  refine (congrArg₂ ccb e0 e1).trans ((ccb_eq n0 n1).trans ?_)
  exact (congrArg₂ pack g0 g1).symm

/-- The kernel's column scales are the reference's. -/
theorem cs_eq (X : S128x14336.Idx → EReal) (hX : ∀ j, Fin' (X j)) (ho : ∀ b n, OkE (rmax X b n)) : csA X = rcs X := by
  funext j
  obtain ⟨_, a, _, f, h⟩ := col_real X hX ho 0 (j 0) (j 1)
  refine congrArg (fun z : BitVec 32 => z.setWidth 8) ?_
  show kexp (rmax X (j 0) (j 1)) = IntOp.addi (rexp (rmax X (j 0) (j 1))) 127#32
  rw [f]
  exact kexp_eq a h

/-- The kernel's row scales are the reference's. -/
theorem rs_eq (X : S128x14336.Idx → EReal) (hX : ∀ j, Fin' (X j)) (ho : ∀ s b, OkE (rmaxr X s b)) : rsO X = rrs X := by
  funext j
  have l1 := idx2_lt1 j
  obtain ⟨_, a, _, e2, h⟩ := quant_block (fun k : Fin 32 => X (ix2 (j 0) ⟨32 * (j 1).val + k.val, by omega⟩)) (X (ix2 (j 0) 0)) (hX _) (fun k => hX _) (ho (j 0) (j 1))
  have f : rmaxr X (j 0) (j 1) = (a : EReal) := e2
  refine congrArg (fun z : BitVec 32 => z.setWidth 8) ?_
  show kexp (rmaxr X (j 0) (j 1)) = IntOp.addi (rexp (rmaxr X (j 0) (j 1))) 127#32
  rw [f]
  exact kexp_eq a h

/-- The run: the arrays of the results, the arguments as they were, and every semaphore counter at zero. -/
theorem run_post : θ_run (defs (F := Ideal)) (onTc (τ := τ) (main (F := Ideal))) ⟨m, fun _ => 0, ρ⟩ (fun r => ∀ c : Dev nD,
      r.2.mem ((c.tc : Thread nD τ).loc main_v3_0) = dxA (A0 m c) (A3 m c) (A4 m c)
      ∧ r.2.mem ((c.tc : Thread nD τ).loc main_v3_1) = dwA (A0 m c) (A1 m c) (A2 m c)
      ∧ r.2.mem ((c.tc : Thread nD τ).loc main_v3_2) = rcA (A0 m c)
      ∧ r.2.mem ((c.tc : Thread nD τ).loc main_v3_3) = rsO (A0 m c)
      ∧ r.2.mem ((c.tc : Thread nD τ).loc main_v3_4) = ccA (A0 m c)
      ∧ r.2.mem ((c.tc : Thread nD τ).loc main_v3_5) = csA (A0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨by
      obtain ⟨after, hL, hA⟩ := Pipeline.RDat.ArrAt.exists_exact_all (fun w => (h.1 c).1 w)
      exact (hA 5).trans (after5 m c after fun t hf => hL 5 t t.isLt hf), by
      obtain ⟨after, hL, hA⟩ := Pipeline.RDat.ArrAt.exists_exact_all (fun w => (h.1 c).1 w)
      exact (hA 6).trans (after6 m c after fun t hf => hL 6 t t.isLt hf), by
      obtain ⟨after, hL, hA⟩ := Pipeline.RDat.ArrAt.exists_exact_all (fun w => (h.1 c).1 w)
      exact (hA 7).trans (after7 m c after fun t hf => hL 7 t t.isLt hf), by
      obtain ⟨after, hL, hA⟩ := Pipeline.RDat.ArrAt.exists_exact_all (fun w => (h.1 c).1 w)
      exact (hA 8).trans (after8 m c after fun t hf => hL 8 t t.isLt hf), by
      obtain ⟨after, hL, hA⟩ := Pipeline.RDat.ArrAt.exists_exact_all (fun w => (h.1 c).1 w)
      exact (hA 9).trans (after9 m c after fun t hf => hL 9 t t.isLt hf), by
      obtain ⟨after, hL, hA⟩ := Pipeline.RDat.ArrAt.exists_exact_all (fun w => (h.1 c).1 w)
      exact (hA 10).trans (after10 m c after fun t hf => hL 10 t t.isLt hf),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (by have := (h.1 c).1 3; rw [(rdatV m c).ArrAt_in 3 rfl] at this; exact this.trans (V_main_arg3 m c)),
      (by have := (h.1 c).1 4; rw [(rdatV m c).ArrAt_in 4 rfl] at this; exact this.trans (V_main_arg4 m c))⟩) (run_value m ρ)

end Cert.KernelIdeal.Val

end
-- ==== Proof.lean ====
/- The proof of the claim: the facts the programs state, the frames of the kernel, of its idealization and of the reference,
   the idealization's rewrites, and the equality of the kernel's results with the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_in_range
public import proofs.«01_k».proof.Proof.KFrame
public import proofs.«01_k».proof.Proof.KIFrame
public import proofs.«01_k».proof.Proof.Dw
public import Idealize.ShloMosaic.Adequacy
public import Idealize.ShloMosaic.Init

@[expose] public section

set_option backward.isDefEq.respectTransparency.types false
set_option maxRecDepth 8000

noncomputable section

namespace Cert.Proof

open Idealize.ShloMosaic Idealize.SL.Sem

/-- The kernel's and the reference's results are equal over the extended reals. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c => Cert.KernelIdeal.Val.dxA (Cert.KernelIdeal.Val.A0 m c) (Cert.KernelIdeal.Val.A3 m c) (Cert.KernelIdeal.Val.A4 m c),
    fun c => Cert.KernelIdeal.Val.dwA (Cert.KernelIdeal.Val.A0 m c) (Cert.KernelIdeal.Val.A1 m c) (Cert.KernelIdeal.Val.A2 m c),
    fun c => Cert.KernelIdeal.Val.rcA (Cert.KernelIdeal.Val.A0 m c), fun c => Cert.KernelIdeal.Val.rsO (Cert.KernelIdeal.Val.A0 m c),
    fun c => Cert.KernelIdeal.Val.ccA (Cert.KernelIdeal.Val.A0 m c),
    fun c => Cert.KernelIdeal.Val.csA (Cert.KernelIdeal.Val.A0 m c),
    Cert.KernelIdeal.Val.run_post m g, (θ_run _ _ _).mono (fun r h c => ?_) (Cert.ReferenceIdeal.Value.run m' g')⟩
  obtain ⟨h5, h6, h7, h8, h9, h10, hrest⟩ := h c
  obtain ⟨e0, e1, e2, e3, e4⟩ := hargs c
  obtain ⟨p2, p4, pX, pr, po⟩ := Cert.Pre_in_range.Val.facts_of _ _ _ _ _ (hpre c)
  refine ⟨h5.trans ?_, h6.trans ?_, h7.trans ?_, h8.trans ?_, h9.trans ?_, h10.trans ?_, hrest⟩
  · rw [Cert.ReferenceIdeal.Val.G5_eq, e0, e3, e4]
    exact (Cert.KernelIdeal.Val.dx_eq m c p4 pX pr).symm
  · rw [Cert.ReferenceIdeal.Val.G6_eq, e0, e1, e2]
    exact (Cert.KernelIdeal.Val.dw_eq m c p2 pX po).symm
  · rw [Cert.ReferenceIdeal.Val.G7_eq, e0]
    exact (Cert.KernelIdeal.Val.rc_eq _ pX pr).symm.trans (congrArg Cert.KernelIdeal.Val.rcA (Cert.KernelIdeal.Val.A0_eq m c)).symm
  · rw [Cert.ReferenceIdeal.Val.G8_eq, e0]
    exact (Cert.KernelIdeal.Val.rs_eq _ pX pr).symm.trans (congrArg Cert.KernelIdeal.Val.rsO (Cert.KernelIdeal.Val.A0_eq m c)).symm
  · rw [Cert.ReferenceIdeal.Val.G9_eq, e0]
    exact (Cert.KernelIdeal.Val.cc_eq _ pX po).symm.trans (congrArg Cert.KernelIdeal.Val.ccA (Cert.KernelIdeal.Val.A0_eq m c)).symm
  · rw [Cert.ReferenceIdeal.Val.G10_eq, e0]
    exact (Cert.KernelIdeal.Val.cs_eq _ pX po).symm.trans (congrArg Cert.KernelIdeal.Val.csA (Cert.KernelIdeal.Val.A0_eq m c)).symm

theorem claim : Cert.Claim := ⟨Cert.Kernel.Gen.facts, Cert.KernelIdeal.Gen.facts, Cert.ReferenceIdeal.Gen.facts, Cert.Pre_in_range.Gen.facts,
  fun m g _ => Cert.Kernel.Body.frame_post m g,
  fun m g _ => Cert.KernelIdeal.Body.frame_post m g,
  fun m g _ => Cert.KernelIdeal.Body.frame_post m g,
  fun m g _ => Cert.ReferenceIdeal.Gen.frame m g,
  fun m g _ => Cert.ReferenceIdeal.Gen.frame m g,
  IdealRules.named_const.statement _ _ _ _ _ rfl,
  algebraic⟩

end Cert.Proof

end
